-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S1 : Shape := ⟨1, ![1]⟩
abbrev S1x1 : Shape := ⟨2, ![1, 1]⟩
abbrev S4096x2048 : Shape := ⟨2, ![4096, 2048]⟩
abbrev S256x2048 : Shape := ⟨2, ![256, 2048]⟩
abbrev S1024x1024 : Shape := ⟨2, ![1024, 1024]⟩
abbrev S3x1024x2048 : Shape := ⟨3, ![3, 1024, 2048]⟩
abbrev S2x1024x1024 : Shape := ⟨3, ![2, 1024, 1024]⟩
abbrev S_ : Shape := ⟨0, ![]⟩
abbrev S2 : Shape := ⟨1, ![2]⟩
abbrev S3 : Shape := ⟨1, ![3]⟩
abbrev S1x1024x1024 : Shape := ⟨3, ![1, 1024, 1024]⟩
abbrev S1x1024x2048 : Shape := ⟨3, ![1, 1024, 2048]⟩

abbrev nBuf : Space → Nat
  | .hbm => 7
  | .vmem => 7
  | .smem => 2
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S1, .f32⟩
  | .hbm, ⟨3, _⟩ => ⟨S1, .f32⟩
  | .hbm, ⟨4, _⟩ => ⟨S1x1, .f32⟩
  | .hbm, ⟨5, _⟩ => ⟨S1x1, .f32⟩
  | .hbm, ⟨6, _⟩ => ⟨S4096x2048, .f32⟩
  | .local _ .vmem, ⟨0, _⟩ => ⟨S256x2048, .f32⟩
  | .local _ .vmem, ⟨1, _⟩ => ⟨S1024x2048, .bf16⟩
  | .local _ .vmem, ⟨2, _⟩ => ⟨S1024x1024, .f32⟩
  | .local _ .vmem, ⟨3, _⟩ => ⟨S1024x2048, .f32⟩
  | .local _ .vmem, ⟨4, _⟩ => ⟨S3x1024x2048, .bf16⟩
  | .local _ .vmem, ⟨5, _⟩ => ⟨S2x1024x1024, .f32⟩
  | .local _ .vmem, ⟨6, _⟩ => ⟨S2x1024x1024, .f32⟩
  | .local _ .smem, ⟨0, _⟩ => ⟨S1x1, .f32⟩
  | .local _ .smem, ⟨1, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 3 → Bool
  | ⟨0, _⟩ => true
  | ⟨1, _⟩ => true
  | ⟨2, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 3 29 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 2

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v58 : BitVec 32 := Scalar.muli v2 c1024_i32
  let c0_i32_44 : BitVec 32 := 0#32
  ![v58.toNat, 0]
def k0_dev3 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_55 : BitVec 32 := 1#32
  let v68 : BitVec 32 := Scalar.muli v24 c1_i32_55
  let v69 : BitVec 32 := Scalar.addi c0_i32_56 v68
  v69.toNat
def k0_dev4 (d0 : Dev nD) : Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_64 : BitVec 32 := 1#32
  let v77 : BitVec 32 := Scalar.muli v13 c1_i32_64
  let v78 : BitVec 32 := Scalar.addi c0_i32_65 v77
  v78.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_70 : BitVec 32 := 1#32
  let v86 : BitVec 32 := Scalar.subi v2 c1_i32_70
  let c4_i32_71 : BitVec 32 := 4#32
  let c0_i32_72 : BitVec 32 := 0#32
  let v87 : BitVec 1 := Scalar.cmpi .eq c4_i32_71 c0_i32_72
  let c1_i32_73 : BitVec 32 := 1#32
  let v88 : BitVec 32 := Scalar.select v87 c1_i32_73 c4_i32_71
  let v89 : BitVec 32 := Scalar.remsi v86 v88
  let c0_i32_75 : BitVec 32 := 0#32
  let v91 : BitVec 1 := Scalar.cmpi .slt v89 c0_i32_75
  let c0_i32_76 : BitVec 32 := 0#32
  let v92 : BitVec 1 := Scalar.cmpi .slt v88 c0_i32_76
  let v93 : BitVec 1 := Scalar.xori v91 v92
  let c0_i32_74 : BitVec 32 := 0#32
  let v90 : BitVec 1 := Scalar.cmpi .ne v89 c0_i32_74
  let v94 : BitVec 1 := Scalar.andi v93 v90
  let v95 : BitVec 32 := Scalar.addi v89 v88
  let v96 : BitVec 32 := Scalar.select v94 v95 v89
  let c1024_i32_91 : BitVec 32 := 1024#32
  let v119 : BitVec 32 := Scalar.muli v96 c1024_i32_91
  let c0_i32_92 : BitVec 32 := 0#32
  ![v119.toNat, 0]
def k0_off3 (d0 : Dev nD) (c1_i32_77 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v97 : BitVec 32 := Scalar.addi v2 c1_i32_77
  let c4_i32_78 : BitVec 32 := 4#32
  let c0_i32_79 : BitVec 32 := 0#32
  let v98 : BitVec 1 := Scalar.cmpi .eq c4_i32_78 c0_i32_79
  let c1_i32_80 : BitVec 32 := 1#32
  let v99 : BitVec 32 := Scalar.select v98 c1_i32_80 c4_i32_78
  let v100 : BitVec 32 := Scalar.remsi v97 v99
  let c0_i32_82 : BitVec 32 := 0#32
  let v102 : BitVec 1 := Scalar.cmpi .slt v100 c0_i32_82
  let c0_i32_83 : BitVec 32 := 0#32
  let v103 : BitVec 1 := Scalar.cmpi .slt v99 c0_i32_83
  let v104 : BitVec 1 := Scalar.xori v102 v103
  let c0_i32_81 : BitVec 32 := 0#32
  let v101 : BitVec 1 := Scalar.cmpi .ne v100 c0_i32_81
  let v105 : BitVec 1 := Scalar.andi v104 v101
  let v106 : BitVec 32 := Scalar.addi v100 v99
  let v107 : BitVec 32 := Scalar.select v105 v106 v100
  let c1024_i32_102 : BitVec 32 := 1024#32
  let v130 : BitVec 32 := Scalar.muli v107 c1024_i32_102
  let c0_i32_103 : BitVec 32 := 0#32
  ![v130.toNat, 0]
def k0_dev5 (d0 : Dev nD) : Nat :=
  let c0_i32_178 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_177 : BitVec 32 := 1#32
  let v194 : BitVec 32 := Scalar.muli v24 c1_i32_177
  let v195 : BitVec 32 := Scalar.addi c0_i32_178 v194
  v195.toNat
def k0_dev6 (d0 : Dev nD) : Nat :=
  let c0_i32_188 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_187 : BitVec 32 := 1#32
  let v204 : BitVec 32 := Scalar.muli v13 c1_i32_187
  let v205 : BitVec 32 := Scalar.addi c0_i32_188 v204
  v205.toNat
def k0_dev7 (d0 : Dev nD) : Nat :=
  let c0_i32_233 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_232 : BitVec 32 := 1#32
  let v242 : BitVec 32 := Scalar.muli v13 c1_i32_232
  let v243 : BitVec 32 := Scalar.addi c0_i32_233 v242
  v243.toNat
def k0_dev8 (d0 : Dev nD) : Nat :=
  let c0_i32_236 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_235 : BitVec 32 := 1#32
  let v244 : BitVec 32 := Scalar.muli v24 c1_i32_235
  let v245 : BitVec 32 := Scalar.addi c0_i32_236 v244
  v245.toNat
def k0_dev9 (d0 : Dev nD) : Nat :=
  let c0_i32_264 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_263 : BitVec 32 := 1#32
  let v264 : BitVec 32 := Scalar.muli v24 c1_i32_263
  let v265 : BitVec 32 := Scalar.addi c0_i32_264 v264
  v265.toNat
def k0_dev10 (d0 : Dev nD) : Nat :=
  let c0_i32_274 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_273 : BitVec 32 := 1#32
  let v274 : BitVec 32 := Scalar.muli v13 c1_i32_273
  let v275 : BitVec 32 := Scalar.addi c0_i32_274 v274
  v275.toNat
def k0_dev11 (d0 : Dev nD) : Nat :=
  let c0_i32_319 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_318 : BitVec 32 := 1#32
  let v312 : BitVec 32 := Scalar.muli v13 c1_i32_318
  let v313 : BitVec 32 := Scalar.addi c0_i32_319 v312
  v313.toNat
def k0_dev12 (d0 : Dev nD) : Nat :=
  let c0_i32_322 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_321 : BitVec 32 := 1#32
  let v314 : BitVec 32 := Scalar.muli v24 c1_i32_321
  let v315 : BitVec 32 := Scalar.addi c0_i32_322 v314
  v315.toNat
def k0_dev13 (d0 : Dev nD) : Nat :=
  let c0_i32_347 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_346 : BitVec 32 := 1#32
  let v345 : BitVec 32 := Scalar.muli v13 c1_i32_346
  let v346 : BitVec 32 := Scalar.addi c0_i32_347 v345
  v346.toNat
def k0_dev14 (d0 : Dev nD) : Nat :=
  let c0_i32_350 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_349 : BitVec 32 := 1#32
  let v347 : BitVec 32 := Scalar.muli v24 c1_i32_349
  let v348 : BitVec 32 := Scalar.addi c0_i32_350 v347
  v348.toNat
def k0_off4 (d0 : Dev nD) (c1_i32_351 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v349 : BitVec 32 := Scalar.addi v2 c1_i32_351
  let c4_i32_352 : BitVec 32 := 4#32
  let c0_i32_353 : BitVec 32 := 0#32
  let v350 : BitVec 1 := Scalar.cmpi .eq c4_i32_352 c0_i32_353
  let c1_i32_354 : BitVec 32 := 1#32
  let v351 : BitVec 32 := Scalar.select v350 c1_i32_354 c4_i32_352
  let v352 : BitVec 32 := Scalar.remsi v349 v351
  let c0_i32_356 : BitVec 32 := 0#32
  let v354 : BitVec 1 := Scalar.cmpi .slt v352 c0_i32_356
  let c0_i32_357 : BitVec 32 := 0#32
  let v355 : BitVec 1 := Scalar.cmpi .slt v351 c0_i32_357
  let v356 : BitVec 1 := Scalar.xori v354 v355
  let c0_i32_355 : BitVec 32 := 0#32
  let v353 : BitVec 1 := Scalar.cmpi .ne v352 c0_i32_355
  let v357 : BitVec 1 := Scalar.andi v356 v353
  let v358 : BitVec 32 := Scalar.addi v352 v351
  let v359 : BitVec 32 := Scalar.select v357 v358 v352
  let c1024_i32_358 : BitVec 32 := 1024#32
  let v360 : BitVec 32 := Scalar.muli v359 c1024_i32_358
  let c0_i32_368 : BitVec 32 := 0#32
  ![v360.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_359 : BitVec 32 := 1#32
  let v361 : BitVec 32 := Scalar.subi v2 c1_i32_359
  let c4_i32_360 : BitVec 32 := 4#32
  let c0_i32_361 : BitVec 32 := 0#32
  let v362 : BitVec 1 := Scalar.cmpi .eq c4_i32_360 c0_i32_361
  let c1_i32_362 : BitVec 32 := 1#32
  let v363 : BitVec 32 := Scalar.select v362 c1_i32_362 c4_i32_360
  let v364 : BitVec 32 := Scalar.remsi v361 v363
  let c0_i32_364 : BitVec 32 := 0#32
  let v366 : BitVec 1 := Scalar.cmpi .slt v364 c0_i32_364
  let c0_i32_365 : BitVec 32 := 0#32
  let v367 : BitVec 1 := Scalar.cmpi .slt v363 c0_i32_365
  let v368 : BitVec 1 := Scalar.xori v366 v367
  let c0_i32_363 : BitVec 32 := 0#32
  let v365 : BitVec 1 := Scalar.cmpi .ne v364 c0_i32_363
  let v369 : BitVec 1 := Scalar.andi v368 v365
  let v370 : BitVec 32 := Scalar.addi v364 v363
  let v371 : BitVec 32 := Scalar.select v369 v370 v364
  let c1024_i32_366 : BitVec 32 := 1024#32
  let v372 : BitVec 32 := Scalar.muli v371 c1024_i32_366
  let c1024_i32_372 : BitVec 32 := 1024#32
  ![v372.toNat, 1024]
def k0_dev15 (d0 : Dev nD) : Nat :=
  let c0_i32_383 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_382 : BitVec 32 := 1#32
  let v381 : BitVec 32 := Scalar.muli v24 c1_i32_382
  let v382 : BitVec 32 := Scalar.addi c0_i32_383 v381
  v382.toNat
def k0_dev16 (d0 : Dev nD) : Nat :=
  let c0_i32_392 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_391 : BitVec 32 := 1#32
  let v390 : BitVec 32 := Scalar.muli v13 c1_i32_391
  let v391 : BitVec 32 := Scalar.addi c0_i32_392 v390
  v391.toNat
def k0_dev17 (d0 : Dev nD) : Nat :=
  let c0_i32_448 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_447 : BitVec 32 := 1#32
  let v431 : BitVec 32 := Scalar.muli v24 c1_i32_447
  let v432 : BitVec 32 := Scalar.addi c0_i32_448 v431
  v432.toNat
def k0_dev18 (d0 : Dev nD) : Nat :=
  let c0_i32_458 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_457 : BitVec 32 := 1#32
  let v441 : BitVec 32 := Scalar.muli v13 c1_i32_457
  let v442 : BitVec 32 := Scalar.addi c0_i32_458 v441
  v442.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_463 : BitVec 32 := 1024#32
  let v451 : BitVec 32 := Scalar.muli v2 c1024_i32_463
  let c0_i32_467 : BitVec 32 := 0#32
  ![v451.toNat, 0]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_464 : BitVec 32 := 1024#32
  let v452 : BitVec 32 := Scalar.muli v2 c1024_i32_464
  let c1024_i32_472 : BitVec 32 := 1024#32
  ![v452.toNat, 1024]
def k0_dev19 (d0 : Dev nD) : Nat :=
  let c0_i32_525 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_524 : BitVec 32 := 1#32
  let v501 : BitVec 32 := Scalar.muli v13 c1_i32_524
  let v502 : BitVec 32 := Scalar.addi c0_i32_525 v501
  v502.toNat
def k0_dev20 (d0 : Dev nD) : Nat :=
  let c0_i32_528 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_527 : BitVec 32 := 1#32
  let v503 : BitVec 32 := Scalar.muli v24 c1_i32_527
  let v504 : BitVec 32 := Scalar.addi c0_i32_528 v503
  v504.toNat
def k0_dev21 (d0 : Dev nD) : Nat :=
  let c0_i32_538 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_537 : BitVec 32 := 1#32
  let v505 : BitVec 32 := Scalar.muli v24 c1_i32_537
  let v506 : BitVec 32 := Scalar.addi c0_i32_538 v505
  v506.toNat
def k0_dev22 (d0 : Dev nD) : Nat :=
  let c0_i32_548 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_547 : BitVec 32 := 1#32
  let v515 : BitVec 32 := Scalar.muli v13 c1_i32_547
  let v516 : BitVec 32 := Scalar.addi c0_i32_548 v515
  v516.toNat
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_553 : BitVec 32 := 1#32
  let v525 : BitVec 32 := Scalar.subi v2 c1_i32_553
  let c4_i32_554 : BitVec 32 := 4#32
  let c0_i32_555 : BitVec 32 := 0#32
  let v526 : BitVec 1 := Scalar.cmpi .eq c4_i32_554 c0_i32_555
  let c1_i32_556 : BitVec 32 := 1#32
  let v527 : BitVec 32 := Scalar.select v526 c1_i32_556 c4_i32_554
  let v528 : BitVec 32 := Scalar.remsi v525 v527
  let c0_i32_558 : BitVec 32 := 0#32
  let v530 : BitVec 1 := Scalar.cmpi .slt v528 c0_i32_558
  let c0_i32_559 : BitVec 32 := 0#32
  let v531 : BitVec 1 := Scalar.cmpi .slt v527 c0_i32_559
  let v532 : BitVec 1 := Scalar.xori v530 v531
  let c0_i32_557 : BitVec 32 := 0#32
  let v529 : BitVec 1 := Scalar.cmpi .ne v528 c0_i32_557
  let v533 : BitVec 1 := Scalar.andi v532 v529
  let v534 : BitVec 32 := Scalar.addi v528 v527
  let v535 : BitVec 32 := Scalar.select v533 v534 v528
  let c1024_i32_560 : BitVec 32 := 1024#32
  let v536 : BitVec 32 := Scalar.muli v535 c1024_i32_560
  let c0_i32_571 : BitVec 32 := 0#32
  ![v536.toNat, 0]
def k0_off9 (d0 : Dev nD) (c1_i32_561 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v537 : BitVec 32 := Scalar.addi v2 c1_i32_561
  let c4_i32_562 : BitVec 32 := 4#32
  let c0_i32_563 : BitVec 32 := 0#32
  let v538 : BitVec 1 := Scalar.cmpi .eq c4_i32_562 c0_i32_563
  let c1_i32_564 : BitVec 32 := 1#32
  let v539 : BitVec 32 := Scalar.select v538 c1_i32_564 c4_i32_562
  let v540 : BitVec 32 := Scalar.remsi v537 v539
  let c0_i32_566 : BitVec 32 := 0#32
  let v542 : BitVec 1 := Scalar.cmpi .slt v540 c0_i32_566
  let c0_i32_567 : BitVec 32 := 0#32
  let v543 : BitVec 1 := Scalar.cmpi .slt v539 c0_i32_567
  let v544 : BitVec 1 := Scalar.xori v542 v543
  let c0_i32_565 : BitVec 32 := 0#32
  let v541 : BitVec 1 := Scalar.cmpi .ne v540 c0_i32_565
  let v545 : BitVec 1 := Scalar.andi v544 v541
  let v546 : BitVec 32 := Scalar.addi v540 v539
  let v547 : BitVec 32 := Scalar.select v545 v546 v540
  let c1024_i32_568 : BitVec 32 := 1024#32
  let v548 : BitVec 32 := Scalar.muli v547 c1024_i32_568
  let c1024_i32_576 : BitVec 32 := 1024#32
  ![v548.toNat, 1024]
abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Base.lean ====
/- The ring, its semaphores and its buffers: which device each printed device index names, which rows each printed
   offset selects, which semaphore each send, receive and credit of the two directions uses, and the memory views the
   remote copies read and write. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Release
public import Idealize.ShloMosaic.Lib.Transfers
public import Idealize.ShloMosaic.Lib.StableHlo
public import Idealize.ShloMosaic.Lib.Tactic
public import Idealize.ShloMosaic.PureOps

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

/-! ## The ring -/

/-- The device a copy of direction `d` goes to: the right neighbour for `false`, the left one for `true`. -/
def nxt (d : Bool) (c : Dev nD) : Dev nD := bif d then c + 3 else c + 1
/-- The device a copy of direction `d` comes from. -/
def prv (d : Bool) (c : Dev nD) : Dev nD := nxt (!d) c
theorem nxt_prv (d : Bool) (c : Dev nD) : nxt d (prv d c) = c := by revert d c; decide
theorem prv_nxt (d : Bool) (c : Dev nD) : prv d (nxt d c) = c := by revert d c; decide
/-- The step round the ring in direction `d`, as a permutation of the devices. -/
def ring (d : Bool) : Dev nD ≃ Dev nD := ⟨nxt d, prv d, prv_nxt d, nxt_prv d⟩

theorem dev1 (c : Dev nD) : (⟨k0_dev1 c, k0_dev1_lt c⟩ : Dev nD) = prv false c := by revert c; decide +kernel
theorem dev2 (c : Dev nD) : (⟨k0_dev2 c, k0_dev2_lt c⟩ : Dev nD) = prv true c := by revert c; decide +kernel
theorem dev3 (c : Dev nD) : (⟨k0_dev3 c, k0_dev3_lt c⟩ : Dev nD) = nxt false c := by revert c; decide +kernel
theorem dev4 (c : Dev nD) : (⟨k0_dev4 c, k0_dev4_lt c⟩ : Dev nD) = nxt true c := by revert c; decide +kernel
theorem dev5 (c : Dev nD) : (⟨k0_dev5 c, k0_dev5_lt c⟩ : Dev nD) = nxt false c := by revert c; decide +kernel
theorem dev6 (c : Dev nD) : (⟨k0_dev6 c, k0_dev6_lt c⟩ : Dev nD) = nxt true c := by revert c; decide +kernel
theorem dev7 (c : Dev nD) : (⟨k0_dev7 c, k0_dev7_lt c⟩ : Dev nD) = prv false c := by revert c; decide +kernel
theorem dev8 (c : Dev nD) : (⟨k0_dev8 c, k0_dev8_lt c⟩ : Dev nD) = prv true c := by revert c; decide +kernel
theorem dev9 (c : Dev nD) : (⟨k0_dev9 c, k0_dev9_lt c⟩ : Dev nD) = nxt false c := by revert c; decide +kernel
theorem dev10 (c : Dev nD) : (⟨k0_dev10 c, k0_dev10_lt c⟩ : Dev nD) = nxt true c := by revert c; decide +kernel
theorem dev11 (c : Dev nD) : (⟨k0_dev11 c, k0_dev11_lt c⟩ : Dev nD) = prv false c := by revert c; decide +kernel
theorem dev12 (c : Dev nD) : (⟨k0_dev12 c, k0_dev12_lt c⟩ : Dev nD) = prv true c := by revert c; decide +kernel
theorem dev13 (c : Dev nD) : (⟨k0_dev13 c, k0_dev13_lt c⟩ : Dev nD) = prv false c := by revert c; decide +kernel
theorem dev14 (c : Dev nD) : (⟨k0_dev14 c, k0_dev14_lt c⟩ : Dev nD) = prv true c := by revert c; decide +kernel
theorem dev15 (c : Dev nD) : (⟨k0_dev15 c, k0_dev15_lt c⟩ : Dev nD) = nxt false c := by revert c; decide +kernel
theorem dev16 (c : Dev nD) : (⟨k0_dev16 c, k0_dev16_lt c⟩ : Dev nD) = nxt true c := by revert c; decide +kernel
theorem dev17 (c : Dev nD) : (⟨k0_dev17 c, k0_dev17_lt c⟩ : Dev nD) = nxt false c := by revert c; decide +kernel
theorem dev18 (c : Dev nD) : (⟨k0_dev18 c, k0_dev18_lt c⟩ : Dev nD) = nxt true c := by revert c; decide +kernel
theorem dev19 (c : Dev nD) : (⟨k0_dev19 c, k0_dev19_lt c⟩ : Dev nD) = prv false c := by revert c; decide +kernel
theorem dev20 (c : Dev nD) : (⟨k0_dev20 c, k0_dev20_lt c⟩ : Dev nD) = prv true c := by revert c; decide +kernel
theorem dev21 (c : Dev nD) : (⟨k0_dev21 c, k0_dev21_lt c⟩ : Dev nD) = nxt false c := by revert c; decide +kernel
theorem dev22 (c : Dev nD) : (⟨k0_dev22 c, k0_dev22_lt c⟩ : Dev nD) = nxt true c := by revert c; decide +kernel

/-! ## Rows -/

/-- Where row block `b` and column half `h` start in a matrix of four row blocks of 1024. -/
def blkOff (b : Dev nD) (h : Bool) : Fin 2 → Nat := ![1024 * b.val, bif h then 1024 else 0]
theorem off1 (c : Dev nD) : k0_off1 c = blkOff c false := by revert c; decide +kernel
theorem off2 (c : Dev nD) : k0_off2 c = blkOff (c + 3) false := by revert c; decide +kernel
theorem off3a (c : Dev nD) : k0_off3 c 1#32 = blkOff (c + 1) false := by revert c; decide +kernel
theorem off3b (c : Dev nD) : k0_off3 c 2#32 = blkOff (c + 2) false := by revert c; decide +kernel
theorem off4a (c : Dev nD) : k0_off4 c 1#32 = blkOff (c + 1) false := by revert c; decide +kernel
theorem off4b (c : Dev nD) : k0_off4 c 2#32 = blkOff (c + 2) false := by revert c; decide +kernel
theorem off5 (c : Dev nD) : k0_off5 c = blkOff (c + 3) true := by revert c; decide +kernel
theorem off6 (c : Dev nD) : k0_off6 c = blkOff c false := by revert c; decide +kernel
theorem off7 (c : Dev nD) : k0_off7 c = blkOff c true := by revert c; decide +kernel
theorem off8 (c : Dev nD) : k0_off8 c = blkOff (c + 3) false := by revert c; decide +kernel
theorem off9a (c : Dev nD) : k0_off9 c 1#32 = blkOff (c + 1) true := by revert c; decide +kernel
theorem off9b (c : Dev nD) : k0_off9 c 2#32 = blkOff (c + 2) true := by revert c; decide +kernel

theorem blk_inb (b : Dev nD) (h : Bool) : ∀ a, blkOff b h a + S1024x1024.size a ≤ S4096x2048.size a := by
  revert b h; decide
theorem blkx_inb (b : Dev nD) : ∀ a, blkOff b false a + S1024x1024.size a ≤ S4096x1024.size a := by
  revert b; decide

/-! ## Semaphores -/

/-- The send semaphore of transfer `k` (0–2 the reduction's, 3–5 the gathering's) in direction `d`. -/
def sSem (d : Bool) (k : Fin 6) : DmaSem sig := ⟨5 + (bif d then 6 else 0) + 12 * (k.val / 3) + k.val % 3, by revert d k; decide⟩
/-- The receive semaphore of transfer `k` in direction `d`. -/
def rSem (d : Bool) (k : Fin 6) : DmaSem sig := ⟨8 + (bif d then 6 else 0) + 12 * (k.val / 3) + k.val % 3, by revert d k; decide⟩
/-- The credit semaphore of direction `d`. -/
def cSem (d : Bool) : Sem sig := bif d then 1 else 0
abbrev bSem : Sem sig := 2

theorem s14_0 : ((cc0_scratch9.slice (Rect.unit (s := S3) ![0] S1.size inb_S3_S1_0)).squeeze S_ squeezes_S1_S_).sem = sSem false 0 := by decide +kernel
theorem s21_2 : ((cc0_scratch16.slice (Rect.unit (s := S3) ![2] S1.size inb_S3_S1_2)).squeeze S_ squeezes_S1_S_).sem = rSem true 5 := rfl

/-- What a semaphore is for. -/
inductive Role where
  | send (d : Bool) (k : Fin 6)
  | recv (d : Bool) (k : Fin 6)
  | credit (d : Bool)
  | barrier
  | other
  deriving DecidableEq

/-- The role of the DMA semaphore numbered `n`. -/
def dmaRole (n : ℕ) : Role :=
  if n < 5 then .other
  else
    let m := n - 5
    let k : Fin 6 := ⟨(3 * (m / 12) + m % 3) % 6, Nat.mod_lt _ (by decide)⟩
    let d : Bool := (m / 6) % 2 = 1
    if (m / 3) % 2 = 0 then .send d k else .recv d k

/-- The role of a semaphore. -/
def role : SemLoc sig → Role
  | .dma s => dmaRole s.val
  | .reg s => if s.val = 2 then .barrier else .credit (s.val = 1)

theorem role_send (d : Bool) (k : Fin 6) : role (.dma (sSem d k)) = .send d k := by revert d k; decide
theorem role_recv (d : Bool) (k : Fin 6) : role (.dma (rSem d k)) = .recv d k := by revert d k; decide
theorem role_credit (d : Bool) : role (.reg (cSem d)) = .credit d := by revert d; decide
theorem role_bar : role (.reg bSem) = .barrier := by decide

/-! ## Memory -/

/-- The receive buffer of direction `d`. -/
def commM (d : Bool) : Memref sig .tc .vmem S2x1024x1024 .f32 := bif d then Memref.whole cc0_scratch6 else Memref.whole cc0_scratch5
theorem slot_inb (j : Bool) : ∀ a, (![bif j then 1 else 0, 0, 0] : Fin 3 → Nat) a + S1x1024x1024.size a ≤ S2x1024x1024.size a := by
  revert j; decide
/-- The rectangle of slot `j`. -/
def slotR (j : Bool) : Rect S2x1024x1024 := Rect.unit (s := S2x1024x1024) ![bif j then 1 else 0, 0, 0] S1x1024x1024.size (slot_inb j)
/-- Slot `j` of the receive buffer of direction `d`, as a matrix. -/
def slotM (d j : Bool) : Memref sig .tc .vmem S1024x1024 .f32 :=
  ((commM d).slice (Rect.unit (s := S2x1024x1024) ![bif j then 1 else 0, 0, 0] S1x1024x1024.size (slot_inb j)) (fun _ => rfl)).squeeze S1024x1024
    squeezes_S1x1024x1024_S1024x1024
theorem half_inb (d : Bool) : ∀ a, (![0, bif d then 1024 else 0] : Fin 2 → Nat) a + S1024x1024.size a ≤ S1024x2048.size a := by
  revert d; decide
/-- The half of the staging matrix that travels in direction `d`: the left columns for `false`. -/
def stageM (d : Bool) : Memref sig .tc .vmem S1024x1024 .f32 :=
  (Memref.whole cc0_scratch3).slice (Rect.unit (s := S1024x2048) ![0, bif d then 1024 else 0] S1024x1024.size (half_inb d)) (fun _ => rfl)
/-- The output tile of row block `b` and column half `h`. -/
def outM (b : Dev nD) (h : Bool) : Memref sig .tc .hbm S1024x1024 .f32 :=
  (Memref.whole main_v3).slice (Rect.unit (s := S4096x2048) (blkOff b h) S1024x1024.size (blk_inb b h)) (fun _ => rfl)

/-- The slot of the receive buffer transfer `k` lands in. -/
def dstSlot (k : Fin 6) : Bool := k.val % 2 = 1
/-- What transfer `k` lands in, on the device it goes to. -/
def dstM (d : Bool) (k : Fin 6) : Memref sig .tc .vmem S1024x1024 .f32 := slotM d (dstSlot k)
/-- What transfer `k` reads: the staging half for the first of each pass, otherwise the slot the transfer before landed in. -/
def srcM (d : Bool) (k : Fin 6) : Memref sig .tc .vmem S1024x1024 .f32 := if k.val % 3 = 0 then stageM d else slotM d (!dstSlot k)

/-- Units a transfer of one 1024 × 1024 block of 32-bit floats is counted as. -/
@[irreducible] def NN : ℕ := (slotM false false).view.dmaCredit
theorem NN_pos : 0 < NN := by unfold NN; exact View.dmaCredit_pos _ (by decide)
theorem dst_credit (d : Bool) (k : Fin 6) : (dstM d k).view.dmaCredit = NN := by
  unfold NN; cases d <;> fin_cases k <;> rfl
theorem out_credit (b : Dev nD) (h : Bool) : (outM b h).view.dmaCredit = (outM 0 false).view.dmaCredit := rfl

end Cert.Ring

end
-- ==== Proof.Hv.lean ====
/- A memory view held with named contents, and how each kind of memory access changes what is held. -/
module

public import proofs.«01_k».proof.Proof.Base

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

/-! ## The resource algebra -/

/-- A receive slot: the device it lies on, its direction, and which of the two it is. -/
abbrev Key : Type := Dev nD × Bool × Bool

/-- The pipeline library's copy, the protocol's rounds, the slots' hand-overs and the local copies' counters. -/
abbrev UU : Type := UR sig nD τ × (Rounds.URounds (GSem nD τ sig) (Fin 4) × (Release.USlots Key × Counters))

local notation "𝕄" => MT nD τ sig ℕ (Elt F) ℕ UU ℕ

abbrev EP : Emb (UR sig nD τ) (MT nD τ sig ℕ (Elt F) ℕ UU ℕ) := embL
/-- Where the protocol's rounds live. -/
abbrev ER : Emb (Rounds.URounds (GSem nD τ sig) (Fin 4)) (MT nD τ sig ℕ (Elt F) ℕ UU ℕ) :=
  (Emb.inl : Emb (Rounds.URounds (GSem nD τ sig) (Fin 4)) (Rounds.URounds (GSem nD τ sig) (Fin 4) × (Release.USlots Key × Counters))).trans embR
/-- Where the slots' hand-overs live. -/
abbrev ES : Emb (Release.USlots Key) (MT nD τ sig ℕ (Elt F) ℕ UU ℕ) :=
  ((Emb.inl : Emb (Release.USlots Key) (Release.USlots Key × Counters)).trans
    (Emb.inr : Emb (Release.USlots Key × Counters) (Rounds.URounds (GSem nD τ sig) (Fin 4) × (Release.USlots Key × Counters)))).trans embR
/-- Where the local copies' counters live. -/
abbrev EC : UEmb Counters (MT nD τ sig ℕ (Elt F) ℕ UU ℕ) := countersEmb

instance erLands : (ER (F := F)).LandsIn (upEmb : UEmb _ 𝕄) := by unfold ER; infer_instance
instance esLands : (ES (F := F)).LandsIn (upEmb : UEmb _ 𝕄) := by unfold ES; infer_instance
instance ecLands : (EC (F := F)).LandsIn (upEmb : UEmb _ 𝕄) := by unfold EC; infer_instance

/-! ## Held views -/

section

variable [FloatOps F]
variable {sp : Space} {s : Shape} {e : EltTy}

/-- The elements the view `M` of device `c`'s memory names, at share `q`, reading `X`. -/
def hv (c : Dev nD) (M : Memref sig .tc sp s e) (q : PosShare TreeShare) (X : s.Idx → Elt F e) : sProp 𝕄 :=
  iprop(∃ f : Buf (Elt F) (M.view.loc (c : Thread nD τ)), ⌜M.view.read (Elt F) f = X⌝
    ∗ (M.view.loc (c : Thread nD τ) ↦[M.view.set]{q} f))

/-- The elements the view names, reading anything. -/
def ha (c : Dev nD) (M : Memref sig .tc sp s e) : sProp 𝕄 := iprop(∃ X, hv (F := F) c M fullShare X)

instance hv_storable (c : Dev nD) (M : Memref sig .tc sp s e) (q : PosShare TreeShare) (X : s.Idx → Elt F e) :
    BI.Storable (upEmb : UEmb _ 𝕄) (hv c M q X) := by unfold hv; infer_instance
instance ha_storable (c : Dev nD) (M : Memref sig .tc sp s e) :
    BI.Storable (upEmb : UEmb _ 𝕄) (ha (F := F) c M) := by unfold ha; infer_instance

theorem hv_ha (c : Dev nD) (M : Memref sig .tc sp s e) (X : s.Idx → Elt F e) : hv c M fullShare X ⊢ (ha c M : sProp 𝕄) := by
  unfold ha; iintro H; iexists X; iexact H

/-- A view's elements held at any contents read what the view reads of them. -/
theorem hv_intro (c : Dev nD) (M : Memref sig .tc sp s e) (q : PosShare TreeShare) (f : Buf (Elt F) (M.view.loc (c : Thread nD τ))) :
    (M.view.loc (c : Thread nD τ) ↦[M.view.set]{q} f) ⊢ (hv c M q (M.view.read (Elt F) f) : sProp 𝕄) := by
  unfold hv; iintro H; iexists f; isplitr; · ipureintro; rfl
  iexact H

/-- Half of a view's share. -/
abbrev hL : PosShare TreeShare := fullShare.left
abbrev hR : PosShare TreeShare := fullShare.right

theorem hv_halve (c : Dev nD) (M : Memref sig .tc sp s e) (X : s.Idx → Elt F e) :
    hv c M fullShare X ⊢ (iprop(hv c M hL X ∗ hv c M hR X) : sProp 𝕄) := by
  unfold hv
  iintro ⟨%f, %hf, H⟩
  ihave H := (pointsTo_share (PosShare.mem_left_op_right fullShare)).1 $$ H
  icases H with ⟨H1, H2⟩
  isplitl [H1]
  · iexists f; isplitr; · ipureintro; exact hf
    iexact H1
  · iexists f; isplitr; · ipureintro; exact hf
    iexact H2

/-- Contents that read alike agree on the view's elements. -/
theorem read_inj {κ : Kind} {v : View sig κ sp s e} {f g : v.ty.Contents (Elt F)} (h : v.read (Elt F) f = v.read (Elt F) g) :
    ∀ i ∈ v.set, f i = g i := by
  intro i hi
  obtain ⟨x, -, rfl⟩ := Finset.mem_map.mp hi
  have := congrFun h x
  rw [View.read_apply, View.read_apply] at this
  exact (cast_inj _).1 this

theorem hv_join (c : Dev nD) (M : Memref sig .tc sp s e) (X : s.Idx → Elt F e) :
    iprop(hv c M hL X ∗ hv c M hR X) ⊢ (hv c M fullShare X : sProp 𝕄) := by
  unfold hv
  iintro ⟨⟨%f, %hf, H1⟩, ⟨%g, %hg, H2⟩⟩
  iexists f; isplitr; · ipureintro; exact hf
  ihave H2 := (Entails.of_eq (pointsTo_congr (read_inj (hg.trans hf.symm)))) $$ H2
  iapply (pointsTo_share (PosShare.mem_left_op_right fullShare)).2
  isplitl [H1] <;> iassumption

/-! ## Re-indexing, splitting and joining -/

/-- A squeezed view holds the same elements, re-indexed. -/
theorem hv_squeeze {s' : Shape} (c : Dev nD) (M : Memref sig .tc sp s e) (h : s.Squeezes s') (q : PosShare TreeShare)
    (X : s.Idx → Elt F e) : hv c M q X ⊢ (hv c (M.squeeze s' h) q (fun i => X (Shape.reshapeEquiv h.numel_eq i)) : sProp 𝕄) := by
  unfold hv
  iintro ⟨%f, %hf, H⟩
  iexists f
  isplitr
  · ipureintro; subst hf; rfl
  · have hs : (M.squeeze s' h).view.set = M.view.set := View.set_reshape _ _
    iapply (Entails.of_eq (congrArg (fun S => (M.view.loc (c : Thread nD τ) ↦[S]{q} f : sProp 𝕄)) hs.symm))
    iexact H

theorem hv_unsqueeze {s' : Shape} (c : Dev nD) (M : Memref sig .tc sp s e) (h : s.Squeezes s') (q : PosShare TreeShare)
    (X : s'.Idx → Elt F e) : hv c (M.squeeze s' h) q X ⊢ (hv c M q (fun i => X ((Shape.reshapeEquiv h.numel_eq).symm i)) : sProp 𝕄) := by
  unfold hv
  iintro ⟨%f, %hf, H⟩
  iexists f
  isplitr
  · ipureintro; subst hf
    funext i
    show M.view.read (Elt F) f i = M.view.read (Elt F) f (Shape.reshapeEquiv h.numel_eq ((Shape.reshapeEquiv h.numel_eq).symm i))
    rw [Equiv.apply_symm_apply]
  · have hs : (M.squeeze s' h).view.set = M.view.set := View.set_reshape _ _
    iapply (Entails.of_eq (congrArg (fun S => (M.view.loc (c : Thread nD τ) ↦[S]{q} f : sProp 𝕄)) hs))
    iexact H

/-- A sliced view held, in terms of the buffer of the view it slices. -/
theorem hv_slice (c : Dev nD) (M : Memref sig .tc sp s e) (r : Rect s) (h : ∀ a, r.stride a = 1) (q : PosShare TreeShare)
    (Y : r.shape.Idx → Elt F e) :
    (hv c (M.slice r h) q Y : sProp 𝕄) = iprop(∃ f : Buf (Elt F) (M.view.loc (c : Thread nD τ)),
      ⌜∀ x, M.view.read (Elt F) f (r.emb x) = Y x⌝ ∗ (M.view.loc (c : Thread nD τ) ↦[r.set.map M.view.emb]{q} f)) := by
  have hs : (M.slice r h).view.set = r.set.map M.view.emb := View.set_slice _ _
  unfold hv
  refine congrArg _ (funext fun f => ?_)
  refine congrArg₂ _ (congrArg _ (propext ?_)) (congrArg (fun S => (M.view.loc (c : Thread nD τ) ↦[S]{q} f : sProp 𝕄)) hs)
  exact ⟨fun h x => congrFun h x, fun h => funext h⟩

/-- A view held whole is its two parts, when two rectangles part its elements. -/
theorem hv_split (c : Dev nD) (M : Memref sig .tc sp s e) (r r' : Rect s) (h : ∀ a, r.stride a = 1) (h' : ∀ a, r'.stride a = 1)
    (hd : Disjoint r.set r'.set) (hu : r.set ∪ r'.set = Finset.univ) (q : PosShare TreeShare) (X : s.Idx → Elt F e) :
    hv c M q X ⊢ (iprop(hv c (M.slice r h) q (fun i => X (r.emb i)) ∗ hv c (M.slice r' h') q (fun i => X (r'.emb i))) : sProp 𝕄) := by
  have hS : M.view.set = r.set.map M.view.emb ∪ r'.set.map M.view.emb := by
    rw [← Finset.map_union, hu]; rfl
  have hD : Disjoint (r.set.map M.view.emb) (r'.set.map M.view.emb) := (Finset.disjoint_map _).2 hd
  rw [hv_slice, hv_slice]
  unfold hv
  iintro ⟨%f, %hf, H⟩
  ihave H := (Entails.of_eq (congrArg (fun S => (M.view.loc (c : Thread nD τ) ↦[S]{q} f : sProp 𝕄)) hS)) $$ H
  ihave H := (pointsTo_union hD).1 $$ H
  icases H with ⟨H1, H2⟩
  isplitl [H1]
  · iexists f; isplitr; · ipureintro; subst hf; exact fun _ => rfl
    iexact H1
  · iexists f; isplitr; · ipureintro; subst hf; exact fun _ => rfl
    iexact H2

/-- Two parts held are the view held, at contents that restrict to the parts'. -/
theorem hv_glue (c : Dev nD) (M : Memref sig .tc sp s e) (r r' : Rect s) (h : ∀ a, r.stride a = 1) (h' : ∀ a, r'.stride a = 1)
    (hd : Disjoint r.set r'.set) (hu : r.set ∪ r'.set = Finset.univ) (X : s.Idx → Elt F e) :
    iprop(hv c (M.slice r h) fullShare (fun i => X (r.emb i)) ∗ hv c (M.slice r' h') fullShare (fun i => X (r'.emb i)))
      ⊢ (hv c M fullShare X : sProp 𝕄) := by
  have hS : M.view.set = r.set.map M.view.emb ∪ r'.set.map M.view.emb := by
    rw [← Finset.map_union, hu]; rfl
  have hD : Disjoint (r.set.map M.view.emb) (r'.set.map M.view.emb) := (Finset.disjoint_map _).2 hd
  rw [hv_slice, hv_slice]
  unfold hv
  iintro ⟨⟨%f, %hf, H1⟩, ⟨%g, %hg, H2⟩⟩
  ihave H := (pointsTo_join (ℓ := M.view.loc (c : Thread nD τ)) hD) $$ [H1 H2]
  · isplitl [H1] <;> iassumption
  iexists ((r'.set.map M.view.emb).piecewise g f)
  isplitr
  · ipureintro
    funext i
    rw [View.read_apply]
    by_cases hi : i ∈ r'.set
    · rw [Finset.piecewise_eq_of_mem _ _ _ (Finset.mem_map_of_mem M.view.emb hi)]
      rw [← Rect.map_emb_univ] at hi
      obtain ⟨x, -, rfl⟩ := Finset.mem_map.mp hi
      exact hg x
    · have hi' : i ∈ r.set := by
        have := Finset.mem_univ i; rw [← hu, Finset.mem_union] at this; exact this.resolve_right hi
      rw [Finset.piecewise_eq_of_notMem _ _ _ (fun hm => hi ((Finset.mem_map' _).1 hm))]
      rw [← Rect.map_emb_univ] at hi'
      obtain ⟨x, -, rfl⟩ := Finset.mem_map.mp hi'
      exact hf x
  · iapply (Entails.of_eq (congrArg (fun S => (M.view.loc (c : Thread nD τ) ↦[S]{fullShare} ((r'.set.map M.view.emb).piecewise g f) : sProp 𝕄)) hS.symm))
    iexact H

/-! ## Steps -/

abbrev 𝒱₀ : Variants := Variants.none

/-- Running `prog` on device `c` from here reaches `K`. -/
abbrev Run (c : Dev nD) {α : Type} (prog : Prog (TpuEff nD τ sig (Elt F) Λ₀ .tc) α) (K : α → sProp 𝕄) : sProp 𝕄 :=
  wp frame (wpE (defs₀ (F := F)) 𝒱₀ (c : Thread nD τ) none) Set.univ prog K

/-- A load through a rectangle of a held view. -/
theorem load_hv {α : Type} {cs : CoreSpace} (c : Dev nD) (M : Memref sig .tc cs s e) (r : Rect s) (q : PosShare TreeShare) (X : s.Idx → Elt F e)
    {hl : M.view.LoadsAt r.toLoadRect} {k : (r.toLoadRect.shape.Idx → Elt F e) → Prog (TpuEff nD τ sig (Elt F) Λ₀ .tc) α} {K : α → sProp 𝕄} :
    hv c M q X ⊢ iprop((hv c M q X -∗ Run c (k fun i => X (r.emb i)) K) -∗ Run c (.op (.load M r.toLoadRect hl) k) K) := by
  unfold hv
  iintro ⟨%f, %hf, H⟩ Hk
  iapply (wp_load_rect 𝒱₀ (c : Thread nD τ) none Set.univ (m := M) (r := r) (View.set_slice_subset _ _)) $$ H
  iintro H
  subst hf
  iapply Hk
  iexists f
  isplitr; · ipureintro; rfl
  iexact H

/-- A store through a rectangle of a held view. -/
theorem store_hv {α : Type} {cs : CoreSpace} (c : Dev nD) (M : Memref sig .tc cs s e) (r : Rect s) (X X' : s.Idx → Elt F e) (w : r.shape.Idx → Elt F e)
    {hx : (M.access r).Stores Finset.univ} {hm : (Finset.univ : Finset r.shape.Idx) = Finset.univ ∨ ∀ a, r.stride a = 1}
    {k : PUnit → Prog (TpuEff nD τ sig (Elt F) Λ₀ .tc) α} {K : α → sProp 𝕄}
    (h1 : ∀ x, X' (r.emb x) = w x) (h2 : ∀ i, i ∉ r.set → X' i = X i) :
    hv c M fullShare X ⊢ iprop((hv c M fullShare X' -∗ Run c (k ⟨⟩) K) -∗ Run c (.op (.store M r w Finset.univ hx hm) k) K) := by
  unfold hv
  iintro ⟨%f, %hf, H⟩ Hk
  iapply (wp_store 𝒱₀ (c : Thread nD τ) none Set.univ (m := M) (r := r) (hx := hx) (hm := hm)
    ((View.setOn_subset_set _ _).trans (View.set_slice_subset _ _))) $$ H
  iintro H
  iapply Hk
  iexists ((M.view.slice r).write (Elt F) f w Finset.univ)
  isplitr
  · ipureintro
    funext i
    by_cases hi : i ∈ r.set
    · rw [← Rect.map_emb_univ] at hi
      obtain ⟨x, -, rfl⟩ := Finset.mem_map.mp hi
      rw [View.read_slice_write_emb _ _ _ (Finset.mem_univ x), h1]
    · rw [View.read_slice_write_of_not_mem _ _ _ _ (by rwa [Rect.map_emb_univ]), h2 i hi, hf]
  · iexact H

/-- A local copy under way: what it delivers, and that its semaphore is at zero again, when waited for. -/
def flying (c : Dev nD) (sm : DmaSem sig) (N : ℕ) (D : sProp 𝕄) : sProp 𝕄 :=
  Transfers.Flight (EC (F := F)) (c : Thread nD τ) (.dma sm) 0 N D

/-- The start of a local copy. -/
theorem copy_hv {α : Type} {sp' : Space} (c : Dev nD) (src : Memref sig .tc sp s e) (dst : Memref sig .tc sp' s e) (sm : DmaSem sig)
    (q : PosShare TreeShare) (X Y : s.Idx → Elt F e) (N : ℕ) (hN : dst.view.dmaCredit = N) (hN0 : 0 < N)
    {hsrc : src.view.WordExact} {hdst : dst.view.WordExact} {hsem : DmaTarget.Typed (nD := nD) (p := (Proc.tc : Proc τ)) sp (.dma sm) (.here dst)}
    {k : PUnit → Prog (TpuEff nD τ sig (Elt F) Λ₀ .tc) α} {K : α → sProp 𝕄} :
    iprop(hv c src q X ∗ hv c dst fullShare Y ∗ semVal ((c : Thread nD τ), .dma sm) 0)
      ⊢ iprop((flying c sm N iprop(hv c dst fullShare X ∗ hv c src q X) -∗ Run c (k ⟨⟩) K)
          -∗ Run c (.op (.enqueueDma src (.here dst) (.dma sm) hsrc hdst hsem) k) K) := by
  unfold hv flying
  iintro ⟨⟨%f, %hf, Hs⟩, ⟨%g, -, Hd⟩, Hv⟩ Hk
  iapply (Transfers.wp_dmaLocal (EC (F := F)) 𝒱₀ (c : Thread nD τ) none (src := src) (via := .same) (dst := dst) (sm := .dma sm) 0 N hN hN0
    (Finset.Subset.refl _)) $$ [Hs Hd Hv]
  · isplitl [Hs]; · iexact Hs
    isplitl [Hd] <;> iassumption
  iintro HF
  iapply Hk
  iapply (Transfers.Flight_mono (EC (F := F)) (c : Thread nD τ) ?_) $$ HF
  iintro ⟨Hd, Hs⟩
  isplitl [Hd]
  · iexists _
    isplitr; swap; · iexact Hd
    ipureintro
    rw [View.read_write_univ]; exact hf
  · iexists f
    isplitr; · ipureintro; exact hf
    iexact Hs

/-- The wait for a local copy. -/
theorem copied_hv {α : Type} {s' : Shape} {e' : EltTy} {sp' : Space} (c : Dev nD) (srcw : Memref sig .tc sp' s' e') (dstw : Memref sig .tc sp s e) (sm : DmaSem sig) (N : ℕ)
    (hN : dstw.view.dmaCredit = N) (D : sProp 𝕄) (O : CellTallies nD τ sig ℕ) (W : Waits sig ℕ)
    {hsrc : srcw.view.WordExact} {hdst : dstw.view.WordExact}
    {k : PUnit → Prog (TpuEff nD τ sig (Elt F) Λ₀ .tc) α} {K : α → sProp 𝕄} :
    iprop(flying c sm N D ∗ owes (c : Thread nD τ) O W ∗ MayWait (c : Thread nD τ) (.dma sm) 0 O)
      ⊢ iprop((iprop(D ∗ semVal ((c : Thread nD τ), .dma sm) 0 ∗ owes (c : Thread nD τ) O (insert (SemLoc.dma sm, 0) W)) -∗ Run c (k ⟨⟩) K)
          -∗ Run c (.op (.waitDma2 sm srcw dstw hsrc hdst) k) K) := by
  unfold flying
  exact Transfers.wp_waitLocalO (EC (F := F)) 𝒱₀ (c : Thread nD τ) none 0 hN

end

end Cert.Ring

end
-- ==== Proof.Vals.lean ====
/- What each buffer holds at each step of the ring, as functions of the four devices' arguments. -/
module

public import proofs.«01_k».proof.Proof.Hv
public import Idealize.ShloMosaic.Lib.Pipeline.Value
public import Idealize.ShloMosaic.Lib.Pointwise

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

variable [FloatOps F]

/-! ## Values -/

/-- The four arguments as every device holds them: the left matrix's columns, the right one's rows, and the two scales. -/
structure Ins (F : FTy → Type) where
  x : Dev nD → S4096x1024.Idx → Elt F .f32
  w : Dev nD → S1024x2048.Idx → Elt F .f32
  s1 : Dev nD → S1x1.Idx → Elt F .f32
  s2 : Dev nD → S1x1.Idx → Elt F .f32

/-- The columns a direction carries. -/
def halfR (d : Bool) : Rect S1024x2048 := Rect.unit (s := S1024x2048) ![0, bif d then 1024 else 0] S1024x1024.size (half_inb d)
/-- The columns of a row block that direction `d` carries. -/
def half {α : Type} (d : Bool) (P : S1024x2048.Idx → α) : S1024x1024.Idx → α := fun i => P ((halfR d).emb i)
/-- The rectangle of row block `b` of the left matrix. -/
def xR (b : Dev nD) : Rect S4096x1024 := Rect.unit (s := S4096x1024) (blkOff b false) S1024x1024.size (blkx_inb b)
/-- A matrix with a unit axis in front, and without it again. -/
def up {α : Type} (X : S1024x1024.Idx → α) : S1x1024x1024.Idx → α := shapeCast S1x1024x1024 X shapeCasts_S1024x1024_S1x1024x1024
def dn {α : Type} (X : S1x1024x1024.Idx → α) : S1024x1024.Idx → α := shapeCast S1024x1024 X shapeCasts_S1x1024x1024_S1024x1024
omit [FloatOps F] in
theorem dn_up {α : Type} (X : S1024x1024.Idx → α) : dn (up X) = X := shapeCast_shapeCast _ _ _
omit [FloatOps F] in
theorem up_dn {α : Type} (X : S1x1024x1024.Idx → α) : up (dn X) = X := shapeCast_shapeCast _ _ _

variable (I : Ins F)

namespace Ins

/-- Row block `b` of device `c`'s left argument. -/
def xb (c b : Dev nD) : Vec F S1024x1024 .f32 := fun i => I.x c ((xR b).emb i)
/-- Device `c`'s right argument, rounded. -/
def wb (c : Dev nD) : FVec F S1024x2048 .bf16 := truncf .bf16 (I.w c) bitsLt_bf16_f32
/-- Device `c`'s product at row block `b`. -/
def prod (c b : Dev nD) : FVec F S1024x2048 .f32 :=
  matmul dot_S1024x1024_S1024x2048_S1024x2048_1_0_0_1_n_n none (truncf .bf16 (I.xb c b) bitsLt_bf16_f32) (I.wb c)
    (constant S1024x2048 .f32 0x00000000#32)
/-- The product, rounded. -/
def part (c b : Dev nD) : FVec F S1024x2048 .bf16 := truncf .bf16 (I.prod c b) bitsLt_bf16_f32

end Ins

/-- A partial sum with one more device's rounded product added. -/
def addP (X : FVec F S1024x1024 .f32) (P : FVec F S1024x1024 .bf16) : FVec F S1024x1024 .f32 := addf X (extf .f32 P bitsLt_bf16_f32)
/-- A sum scaled, its negative entries replaced by zero. -/
def fin (s : F .f32) (X : FVec F S1024x1024 .f32) : FVec F S1024x1024 .f32 :=
  maximumf (mulf X (broadcast S1024x1024 s)) (broadcast S1024x1024 (Scalar.ofBits .f32 0x00000000#32))

namespace Ins

/-- The two scales' product on device `c`. -/
def sc (c : Dev nD) : F .f32 := Scalar.mulf (I.s1 c (ix2 0 0)) (I.s2 c (ix2 0 0))
/-- What device `c` starts round the ring in direction `d`: its own product at its own row block. -/
def A0 (d : Bool) (c : Dev nD) : FVec F S1024x1024 .f32 := half d (I.prod c c)
/-- What device `c` passes on second. -/
def A1 (d : Bool) (c : Dev nD) : FVec F S1024x1024 .f32 := addP (I.A0 d (prv d c)) (half d (I.part c (prv d c)))
/-- What device `c` passes on third. -/
def A2 (d : Bool) (c : Dev nD) : FVec F S1024x1024 .f32 := addP (I.A1 d (prv d c)) (half d (I.part c (c + 2)))
/-- What device `c` finishes: the block of the row block the next device starts with. -/
def Z (d : Bool) (c : Dev nD) : FVec F S1024x1024 .f32 := fin (I.sc c) (addP (I.A2 d (prv d c)) (half d (I.part c (nxt d c))))

/-- What device `c` sends in transfer `k` of direction `d`. -/
def sent (d : Bool) (c : Dev nD) (k : Fin 6) : S1024x1024.Idx → Elt F .f32 :=
  match k with
  | 0 => I.A0 d c
  | 1 => I.A1 d c
  | 2 => I.A2 d c
  | 3 => I.Z d c
  | 4 => I.Z d (prv d c)
  | 5 => I.Z d (prv d (prv d c))

/-- The output tile of row block `b` and column half `h`, on any device. -/
def tile (h : Bool) (b : Dev nD) : S1024x1024.Idx → Elt F .f32 := I.Z h (prv h b)

/-- The row block whose product is kept at index `k`. -/
def nb (c : Dev nD) (k : Fin 3) : Dev nD := match k with | 0 => c + 3 | 1 => c + 1 | 2 => c + 2
/-- The three kept products, rounded. -/
def p9 (c : Dev nD) : S3x1024x2048.Idx → Elt F .bf16 := fun i => I.part c (nb c (i 0)) (fun a => i a.succ)

end Ins

/-! ## The payloads -/

theorem pay1_eq (v : Vec F S256x2048 .f32) : k0_pay1 v = truncf .bf16 v bitsLt_bf16_f32 := shapeCast_self _ _
theorem pay2_eq (v : Vec F S256x2048 .f32) : k0_pay2 v = truncf .bf16 v bitsLt_bf16_f32 := shapeCast_self _ _
theorem pay3_eq (v : Vec F S256x2048 .f32) : k0_pay3 v = truncf .bf16 v bitsLt_bf16_f32 := shapeCast_self _ _
theorem pay4_eq (v : Vec F S256x2048 .f32) : k0_pay4 v = truncf .bf16 v bitsLt_bf16_f32 := shapeCast_self _ _
theorem pay5_eq (c b : Dev nD) : k0_pay5 (I.xb c b) (I.wb c) = I.prod c b := shapeCast_self _ _
theorem pay6_eq (c b : Dev nD) : k0_pay6 (I.xb c b) (I.wb c) = shapeCast S1x1024x2048 (I.part c b) shapeCasts_S1024x2048_S1x1024x2048 := rfl
theorem pay7_eq (c b : Dev nD) : k0_pay7 (I.xb c b) (I.wb c) = shapeCast S1x1024x2048 (I.part c b) shapeCasts_S1024x2048_S1x1024x2048 := rfl
theorem pay8_eq (c b : Dev nD) : k0_pay8 (I.xb c b) (I.wb c) = shapeCast S1x1024x2048 (I.part c b) shapeCasts_S1024x2048_S1x1024x2048 := rfl
theorem pay9_eq (X : FVec F S1024x1024 .f32) (P : FVec F S1x1024x1024 .bf16) : k0_pay9 (up X) P = up (addP X (dn P)) := by
  conv_rhs => rw [← dn_up X]
  rfl
theorem pay10_eq (X : FVec F S1024x1024 .f32) (P : FVec F S1x1024x1024 .bf16) : k0_pay10 (up X) P = up (addP X (dn P)) := by
  conv_rhs => rw [← dn_up X]
  rfl
theorem pay11_eq (X : FVec F S1024x1024 .f32) (P : FVec F S1x1024x1024 .bf16) : k0_pay11 (up X) P = up (addP X (dn P)) := by
  conv_rhs => rw [← dn_up X]
  rfl
theorem pay12_eq (X : FVec F S1024x1024 .f32) (P : FVec F S1x1024x1024 .bf16) : k0_pay12 (up X) P = up (addP X (dn P)) := by
  conv_rhs => rw [← dn_up X]
  rfl
theorem pay14_eq (s : F .f32) (X : FVec F S1024x1024 .f32) (P : FVec F S1x1024x1024 .bf16) : k0_pay14 s (up X) P = fin s (addP X (dn P)) := by
  conv_rhs => rw [← dn_up X]
  exact shapeCast_self _ _
theorem pay15_eq (s : F .f32) (X : FVec F S1024x1024 .f32) (P : FVec F S1x1024x1024 .bf16) : k0_pay15 s (up X) P = fin s (addP X (dn P)) := by
  conv_rhs => rw [← dn_up X]
  exact shapeCast_self _ _

/-! ## The kept products, written and read -/

theorem part_inb (k : Fin 3) : ∀ a, (![k.val, 0, 0] : Fin 3 → Nat) a + S1x1024x2048.size a ≤ S3x1024x2048.size a := by revert k; decide
/-- The rectangle the product kept at index `k` fills. -/
def partR (k : Fin 3) : Rect S3x1024x2048 := Rect.unit (s := S3x1024x2048) ![k.val, 0, 0] S1x1024x2048.size (part_inb k)
theorem parth_inb (k : Fin 3) (d : Bool) : ∀ a, (![k.val, 0, bif d then 1024 else 0] : Fin 3 → Nat) a + S1x1024x1024.size a ≤ S3x1024x2048.size a := by
  revert k d; decide
/-- The rectangle of the columns direction `d` carries of the product kept at index `k`. -/
def parthR (k : Fin 3) (d : Bool) : Rect S3x1024x2048 := Rect.unit (s := S3x1024x2048) ![k.val, 0, bif d then 1024 else 0] S1x1024x1024.size (parth_inb k d)

/-- What is kept at index `k` is the rounded product of that index's row block. -/
theorem p9_write (c : Dev nD) (k : Fin 3) (i : S1x1024x2048.Idx) :
    I.p9 c ((partR k).emb i) = shapeCast S1x1024x2048 (I.part c (Ins.nb c k)) shapeCasts_S1024x2048_S1x1024x2048 i := by
  have hk : (partR k).emb i 0 = k := Fin.ext (by
    have h0 : (i 0).val = 0 := by have := (i 0).isLt; change (i 0).val < 1 at this; omega
    show k.val + 1 * (i 0).val = k.val
    omega)
  unfold Ins.p9
  rw [hk]
  refine Eq.trans ?_ (shapeCast_addUnit_apply ![1024, 2048] (I.part c (Ins.nb c k)) shapeCasts_S1024x2048_S1x1024x2048 i).symm
  refine congrArg (I.part c (Ins.nb c k)) (Shape.idx_ext₂ ?_ ?_)
  · show 0 + 1 * (i 1).val = (i 1).val; omega
  · show 0 + 1 * (i 2).val = (i 2).val; omega

/-- A load of one direction's columns of what is kept at index `k`. -/
theorem p9_read (c : Dev nD) (k : Fin 3) (d : Bool) :
    dn (fun i => I.p9 c ((parthR k d).emb i)) = half d (I.part c (Ins.nb c k)) := by
  funext j
  refine (shapeCast_dropUnit_apply ![1024, 1024] (fun i => I.p9 c ((parthR k d).emb i)) shapeCasts_S1x1024x1024_S1024x1024 j).trans ?_
  show I.part c (Ins.nb c ((parthR k d).emb (Fin.cons ⟨0, Nat.one_pos⟩ j) 0)) _ = _
  have hk : (parthR k d).emb (Fin.cons ⟨0, Nat.one_pos⟩ j) 0 = k := Fin.ext (by
    show k.val + 1 * 0 = k.val
    omega)
  rw [hk]
  refine congrArg (I.part c (Ins.nb c k)) (Shape.idx_ext₂ ?_ ?_)
  · rfl
  · rfl

theorem nb_prv (c : Dev nD) (d : Bool) : Ins.nb c (bif d then 1 else 0) = prv d c := by revert c d; decide
theorem nb_nxt (c : Dev nD) (d : Bool) : Ins.nb c (bif d then 0 else 1) = nxt d c := by revert c d; decide

end Cert.Ring

end
-- ==== Proof.Sched.lean ====
/- The protocol of the ring: which cell is paid by whom, with what, in which order, and what a wait on it brings back. -/
module

public import proofs.«01_k».proof.Proof.Vals

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

variable [FloatOps F]

local notation "𝕄" => MT nD τ sig ℕ (Elt F) ℕ UU ℕ

/-! ## Cells -/

abbrev barC (c : Dev nD) : GSem nD τ sig := ((c : Thread nD τ), .reg bSem)
abbrev crdC (d : Bool) (c : Dev nD) : GSem nD τ sig := ((c : Thread nD τ), .reg (cSem d))
abbrev sndC (d : Bool) (k : Fin 6) (c : Dev nD) : GSem nD τ sig := ((c : Thread nD τ), .dma (sSem d k))
abbrev rcvC (d : Bool) (k : Fin 6) (c : Dev nD) : GSem nD τ sig := ((c : Thread nD τ), .dma (rSem d k))

/-- The key of slot `j` of direction `d` on device `c`. -/
abbrev keyOf (c : Dev nD) (d j : Bool) : Key := (c, d, j)

/-- The share a transfer reads its source at: the gathering's sources are read by a local copy too. -/
def qk (k : Fin 6) : PosShare TreeShare := if k.val < 3 then fullShare else hL

/-! ## What is paid -/

/-- What the `j`-th credit from the reader says: how often each of its two slots has been handed back. -/
def crFact (r : Dev nD) (d : Bool) (j : Fin 4) : sProp 𝕄 :=
  match j with
  | 0 => Release.released (ES (F := F)) (keyOf r d false) 1
  | 1 => iprop(Release.released (ES (F := F)) (keyOf r d false) 1 ∗ Release.released (ES (F := F)) (keyOf r d true) 1)
  | 2 => iprop(Release.released (ES (F := F)) (keyOf r d false) 2 ∗ Release.released (ES (F := F)) (keyOf r d true) 1)
  | 3 => iprop(Release.released (ES (F := F)) (keyOf r d false) 2 ∗ Release.released (ES (F := F)) (keyOf r d true) 2)

instance crFact_persistent (r : Dev nD) (d : Bool) (j : Fin 4) : BI.Persistent (crFact (F := F) r d j) := by
  unfold crFact; fin_cases j <;> infer_instance
instance crFact_storable (r : Dev nD) (d : Bool) (j : Fin 4) : BI.Storable (upEmb : UEmb _ 𝕄) (crFact (F := F) r d j) := by
  unfold crFact; fin_cases j <;> infer_instance

/-- That the cells of device `p` which its neighbour in direction `!d` pays are open: its receive cells of direction `d`, and its
    credit cell of the other direction. -/
def opens (d : Bool) (p : Dev nD) : sProp 𝕄 :=
  iprop((bigSep Finset.univ fun k => Rounds.reached (ER (F := F)) (rcvC d k p) 0) ∗ Rounds.reached (ER (F := F)) (crdC (!d) p) 0)
instance opens_persistent (d : Bool) (p : Dev nD) : BI.Persistent (opens (F := F) d p) := by unfold opens; infer_instance
instance opens_storable (d : Bool) (p : Dev nD) : BI.Storable (upEmb : UEmb _ 𝕄) (opens (F := F) d p) := by unfold opens; infer_instance

/-- Paid to device `c`'s barrier cell by its neighbour in direction `d`: the neighbour's two slots, and that its cells are open. -/
def barPay (d : Bool) (c : Dev nD) : sProp 𝕄 :=
  iprop(ha (nxt d c) (slotM d false) ∗ ha (nxt d c) (slotM d true) ∗ opens d (nxt d c))

variable (I : Ins F)

/-- What is paid to the cell of device `c` in role `r`, by its duty `i`. -/
def payOf (c : Dev nD) (r : Role) (i : Fin 4) : sProp 𝕄 :=
  match r with
  | .send d k => hv c (srcM d k) (qk k) (I.sent d c k)
  | .recv d k => hv c (dstM d k) fullShare (I.sent d (prv d c) k)
  | .credit d => crFact (nxt d c) d i
  | .barrier => barPay (decide (i = 1)) c
  | .other => iprop(emp)

/-- The duties of a cell of role `r`. -/
def dutOf (r : Role) : Finset (Fin 4) :=
  match r with
  | .send _ _ => {0}
  | .recv _ _ => {0}
  | .credit _ => Finset.univ
  | .barrier => {0, 1}
  | .other => ∅

/-- The units one duty pays a semaphore. -/
def amtOf (s : SemLoc sig) : ℕ := match s with | .dma _ => NN | .reg _ => 1

omit [FloatOps F] in
theorem amtOf_dma (s) : amtOf (SemLoc.dma s : SemLoc sig) = NN := by simp only [amtOf]
omit [FloatOps F] in
theorem amtOf_pos (s : SemLoc sig) : 0 < amtOf s := by
  cases s
  · simp only [amtOf]; exact Nat.one_pos
  · rw [amtOf_dma]; exact NN_pos

/-- One round on every cell of the protocol. -/
def rd : Rounds.Schedule (GSem nD τ sig) (Fin 4) 𝕄 where
  duties g r := if r = 0 ∧ g.1.2 = .tc then dutOf (role g.2) else ∅
  unitless _ := False
  amount g _ _ := amtOf g.2
  payload g _ i := payOf I g.1.1 (role g.2) i
  amount_pos g _ _ _ := by
    show 0 < amtOf g.2
    exact amtOf_pos g.2

instance rd_payload_storable (g : GSem nD τ sig) (r : ℕ) (i : Fin 4) :
    BI.Storable (upEmb : UEmb _ 𝕄) ((rd I).payload g r i) := by
  show BI.Storable upEmb (payOf I g.1.1 (role g.2) i)
  unfold payOf barPay
  cases role g.2 <;> infer_instance

section

variable (c : Dev nD) (d : Bool) (k : Fin 6)

theorem duties_tc (s : SemLoc sig) : (rd I).duties ((c : Thread nD τ), s) 0 = dutOf (role s) := by dsimp only [rd]; exact if_pos ⟨rfl, rfl⟩
theorem duties_snd : (rd I).duties (sndC d k c) 0 = {0} := by rw [duties_tc, role_send]; rfl
theorem duties_rcv : (rd I).duties (rcvC d k c) 0 = {0} := by rw [duties_tc, role_recv]; rfl
theorem duties_crd : (rd I).duties (crdC d c) 0 = Finset.univ := by rw [duties_tc, role_credit]; rfl
theorem duties_bar : (rd I).duties (barC c) 0 = {0, 1} := by rw [duties_tc, role_bar]; rfl
theorem duties_later (g : GSem nD τ sig) : ∀ r, 1 ≤ r → (rd I).duties g r = ∅ := fun r hr => by
  dsimp only [rd]; exact if_neg (fun h => by omega)

theorem pay_snd (i : Fin 4) : (rd I).payload (sndC d k c) 0 i = hv c (srcM d k) (qk k) (I.sent d c k) := by
  dsimp only [rd]; rw [role_send]; rfl
theorem pay_rcv (i : Fin 4) : (rd I).payload (rcvC d k c) 0 i = hv c (dstM d k) fullShare (I.sent d (prv d c) k) := by
  dsimp only [rd]; rw [role_recv]; rfl
theorem pay_crd (i : Fin 4) : (rd I).payload (crdC d c) 0 i = crFact (nxt d c) d i := by
  dsimp only [rd]; rw [role_credit]; rfl
theorem pay_bar (i : Fin 4) : (rd I).payload (barC c) 0 i = barPay (decide (i = 1)) c := by
  dsimp only [rd]; rw [role_bar]; rfl

theorem expect_snd : (rd I).expect (sndC d k c) 0 = NN := by
  unfold Rounds.Schedule.expect Rounds.Schedule.amountOf; rw [duties_snd, Finset.sum_singleton]; rfl
theorem expect_rcv : (rd I).expect (rcvC d k c) 0 = NN := by
  unfold Rounds.Schedule.expect Rounds.Schedule.amountOf; rw [duties_rcv, Finset.sum_singleton]; rfl
theorem expect_crd : (rd I).expect (crdC d c) 0 = 4 := by
  unfold Rounds.Schedule.expect Rounds.Schedule.amountOf; rw [duties_crd]
  show (Finset.univ : Finset (Fin 4)).sum (fun _ => 1) = 4
  rfl
theorem expect_bar : (rd I).expect (barC c) 0 = 2 := by
  unfold Rounds.Schedule.expect Rounds.Schedule.amountOf; rw [duties_bar]
  show ({0, 1} : Finset (Fin 4)).sum (fun _ => 1) = 2
  rfl

theorem rest_snd : bigSep ((rd I).duties (sndC d k c) 0 \ ∅) (fun u => (rd I).payload (sndC d k c) 0 u)
    = hv c (srcM d k) (qk k) (I.sent d c k) := by
  rw [Finset.sdiff_empty, duties_snd, bigSep_singleton, pay_snd]
theorem rest_rcv : bigSep ((rd I).duties (rcvC d k c) 0 \ ∅) (fun u => (rd I).payload (rcvC d k c) 0 u)
    = hv c (dstM d k) fullShare (I.sent d (prv d c) k) := by
  rw [Finset.sdiff_empty, duties_rcv, bigSep_singleton, pay_rcv]
theorem rest_bar : bigSep ((rd I).duties (barC c) 0 \ ∅) (fun u => (rd I).payload (barC c) 0 u)
    ⊢ (iprop(barPay false c ∗ barPay true c) : sProp 𝕄) := by
  rw [Finset.sdiff_empty, duties_bar, bigSep_insert (by decide), bigSep_singleton, pay_bar, pay_bar]
  exact Entails.refl _

end

/-! ## Levels -/

/-- The level of transfer `k`'s receive. -/
def lvR (k : Fin 6) : ℕ := match k with | 0 => 2 | 1 => 3 | 2 => 5 | 3 => 7 | 4 => 9 | 5 => 11
/-- The level of the `j`-th credit. -/
def lvC (j : Fin 4) : ℕ := 4 + 2 * j.val

def L (g : GSem nD τ sig) : Finset ℕ := if g.1.2 = .tc then Finset.range 12 else ∅
def lv (_ : GSem nD τ sig) (i : ℕ) : ℕ := i
omit [FloatOps F] in
theorem L_of_ne (g : GSem nD τ sig) (h : g.1.2 ≠ .tc) : L g = ∅ := if_neg h

/-- One payment due: the device it goes to, the semaphore there, its level and its units. -/
structure Due where
  c : Dev nD
  s : SemLoc sig
  i : ℕ
  n : ℕ
/-- Its cell. -/
def Due.g (e : Due) : GSem nD τ sig := ((e.c : Thread nD τ), e.s)

/-- What is still owed, the next payment first. -/
def owe : List Due → CellTallies nD τ sig ℕ
  | [] => 0
  | e :: l => owe l + tallyAt e.g e.i e.n

omit [FloatOps F] in
theorem owe_pos {l : List Due} {g : GSem nD τ sig} {i : ℕ} (h : 0 < owe l g i) : ∃ e ∈ l, g = e.g ∧ i = e.i := by
  induction l with
  | nil => exact absurd h (Nat.lt_irrefl 0)
  | cons e l ih =>
    by_cases h' : 0 < owe l g i
    · obtain ⟨e', he', hg⟩ := ih h'
      exact ⟨e', List.mem_cons_of_mem _ he', hg⟩
    · have h2 : 0 < tallyAt e.g e.i e.n g i := by
        have : owe (e :: l) g i = owe l g i + tallyAt e.g e.i e.n g i := rfl
        omega
      rw [tallyAt_apply] at h2
      by_cases h3 : g = e.g ∧ i = e.i
      · exact ⟨e, List.mem_cons_self, h3⟩
      · rw [if_neg h3] at h2; exact absurd h2 (Nat.lt_irrefl 0)

/-- A wait below every level still owed is allowed. -/
theorem mayWait_owe (c : Dev nD) (s : SemLoc sig) (i : ℕ) (l : List Due) (hi : i < 12) (hl : ∀ e ∈ l, i < e.i ∧ e.i < 12) :
    (levAts L lv : sProp 𝕄) ⊢ MayWait (c : Thread nD τ) s i (owe l) :=
  MayOwe.of_cut (L := L) (lev := lv) i
    (fun p hp => by rw [Finset.mem_singleton.mp hp]; unfold L; rw [if_pos rfl]; exact Finset.mem_range.2 hi)
    (fun g j h => by
      obtain ⟨e, he, rfl, rfl⟩ := owe_pos h
      unfold L; rw [if_pos (show e.g.1.2 = Proc.tc from rfl)]; exact Finset.mem_range.2 (hl e he).2)
    (fun p hp => by rw [Finset.mem_singleton.mp hp]; exact Nat.le_refl _)
    (fun g j h => by
      obtain ⟨e, he, rfl, rfl⟩ := owe_pos h
      exact (hl e he).1)

/-- The barrier unit owed to the neighbour behind in direction `d`. -/
abbrev dB (d : Bool) (c : Dev nD) : Due := ⟨prv d c, .reg bSem, 1, 1⟩
/-- The `j`-th credit owed to the writer of direction `d`. -/
abbrev dC (d : Bool) (j : Fin 4) (c : Dev nD) : Due := ⟨prv d c, .reg (cSem d), lvC j, 1⟩
/-- The landing of transfer `k` owed to the reader of direction `d`. -/
abbrev dR (d : Bool) (k : Fin 6) (c : Dev nD) : Due := ⟨nxt d c, .dma (rSem d k), lvR k, NN⟩

/-- Everything device `c` pays, in the order it pays it. -/
def dues (c : Dev nD) : List Due :=
  [dB false c, dB true c, dR false 0 c, dR true 0 c, dR false 1 c, dR true 1 c, dC false 0 c, dC true 0 c,
   dR false 2 c, dR true 2 c, dC false 1 c, dC true 1 c, dC false 2 c, dC true 2 c, dR false 3 c, dR true 3 c,
   dR false 4 c, dR true 4 c, dC false 3 c, dC true 3 c, dR false 5 c, dR true 5 c]

/-- What device `c` still owes after its first `n` payments. -/
abbrev od (n : ℕ) (c : Dev nD) : CellTallies nD τ sig ℕ := owe ((dues c).drop n)

end Cert.Ring

end
-- ==== Proof.Hv2.lean ====
/- More steps on held views: loads and stores through slices and through slots, a scalar read, and the output cut into tiles. -/
module

public import proofs.«01_k».proof.Proof.Sched

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

variable [FloatOps F]

local notation "𝕄" => MT nD τ sig ℕ (Elt F) ℕ UU ℕ

section

variable {sp : Space} {s : Shape} {e : EltTy}

/-- A view with an element is not held twice. -/
theorem ha_false (c : Dev nD) (M : Memref sig .tc sp s e) (i : s.Idx) : iprop(ha c M ∗ ha c M) ⊢ (False : sProp 𝕄) := by
  unfold ha hv
  iintro ⟨⟨%X, %f, -, H1⟩, ⟨%Y, %g, -, H2⟩⟩
  have hi : M.view.emb i ∈ M.view.set := Finset.mem_map_of_mem _ (Finset.mem_univ i)
  iapply (pointsTo_overlap_false (q := fullShare) (f := f) (g := g) hi hi)
  isplitl [H1] <;> iassumption

/-- A load of exactly the held rectangle. -/
theorem load_slice {α : Type} {cs : CoreSpace} (c : Dev nD) (M : Memref sig .tc cs s e) (r : Rect s) (h : ∀ a, r.stride a = 1)
    (q : PosShare TreeShare) (Y : r.shape.Idx → Elt F e)
    {hl : M.view.LoadsAt r.toLoadRect} {k : (r.toLoadRect.shape.Idx → Elt F e) → Prog (TpuEff nD τ sig (Elt F) Λ₀ .tc) α} {K : α → sProp 𝕄} :
    hv c (M.slice r h) q Y ⊢ iprop((hv c (M.slice r h) q Y -∗ Run c (k Y) K) -∗ Run c (.op (.load M r.toLoadRect hl) k) K) := by
  unfold hv
  iintro ⟨%f, %hf, H⟩ Hk
  iapply (wp_load_rect 𝒱₀ (c : Thread nD τ) none Set.univ (m := M) (r := r) (Finset.Subset.refl _)) $$ H
  iintro H
  subst hf
  iapply Hk
  iexists f
  isplitr; · ipureintro; rfl
  iexact H

/-- A store to exactly the held rectangle. -/
theorem store_slice {α : Type} {cs : CoreSpace} (c : Dev nD) (M : Memref sig .tc cs s e) (r : Rect s) (h : ∀ a, r.stride a = 1)
    (Y w : r.shape.Idx → Elt F e)
    {hx : (M.access r).Stores Finset.univ} {hm : (Finset.univ : Finset r.shape.Idx) = Finset.univ ∨ ∀ a, r.stride a = 1}
    {k : PUnit → Prog (TpuEff nD τ sig (Elt F) Λ₀ .tc) α} {K : α → sProp 𝕄} :
    hv c (M.slice r h) fullShare Y
      ⊢ iprop((hv c (M.slice r h) fullShare w -∗ Run c (k ⟨⟩) K) -∗ Run c (.op (.store M r w Finset.univ hx hm) k) K) := by
  unfold hv
  iintro ⟨%f, %hf, H⟩ Hk
  iapply (wp_store 𝒱₀ (c : Thread nD τ) none Set.univ (m := M) (r := r) (hx := hx) (hm := hm) (View.setOn_subset_set _ _)) $$ H
  iintro H
  iapply Hk
  iexists ((M.view.slice r).write (Elt F) f w Finset.univ)
  isplitr
  · ipureintro
    exact View.read_write_univ _ _
  · iexact H

/-- A part of a held view lent out. -/
theorem hv_borrow (c : Dev nD) (M : Memref sig .tc sp s e) (r : Rect s) (h : ∀ a, r.stride a = 1) (q : PosShare TreeShare)
    (X : s.Idx → Elt F e) :
    hv c M q X ⊢ (iprop(hv c (M.slice r h) q (fun i => X (r.emb i)) ∗ (hv c (M.slice r h) q (fun i => X (r.emb i)) -∗ hv c M q X)) : sProp 𝕄) := by
  have hS : M.view.set = r.set.map M.view.emb ∪ (M.view.set \ r.set.map M.view.emb) :=
    (Finset.union_sdiff_of_subset (Finset.map_subset_map.2 (Finset.subset_univ _))).symm
  have hD : Disjoint (r.set.map M.view.emb) (M.view.set \ r.set.map M.view.emb) := Finset.disjoint_sdiff
  rw [hv_slice]
  unfold hv
  iintro ⟨%f, %hf, H⟩
  ihave H := (Entails.of_eq (congrArg (fun S => (M.view.loc (c : Thread nD τ) ↦[S]{q} f : sProp 𝕄)) hS)) $$ H
  ihave H := (pointsTo_union hD).1 $$ H
  icases H with ⟨H1, H2⟩
  isplitl [H1]
  · iexists f; isplitr; · ipureintro; subst hf; exact fun _ => rfl
    iexact H1
  · iintro ⟨%g, %hg, H1⟩
    have hgf : ∀ i ∈ r.set.map M.view.emb, g i = f i := by
      intro i hi
      obtain ⟨y, hy, rfl⟩ := Finset.mem_map.mp hi
      rw [← Rect.map_emb_univ] at hy
      obtain ⟨x, -, rfl⟩ := Finset.mem_map.mp hy
      have h1 := hg x
      subst hf
      rw [View.read_apply, View.read_apply] at h1
      exact (cast_inj _).1 h1
    ihave H1 := (Entails.of_eq (pointsTo_congr hgf)) $$ H1
    iexists f
    isplitr; · ipureintro; exact hf
    iapply (Entails.of_eq (congrArg (fun S => (M.view.loc (c : Thread nD τ) ↦[S]{q} f : sProp 𝕄)) hS.symm))
    iapply (pointsTo_union hD).2
    isplitl [H1] <;> iassumption

/-- One element of scalar memory read. -/
theorem smem_hv {α : Type} (c : Dev nD) (M : Memref sig .tc (CoreSpace.smem : CoreSpace) s e) (r : Rect s) (q : PosShare TreeShare)
    (X : s.Idx → Elt F e) (x : r.shape.Idx) {hw : (M.access r).Loads}
    {k : Elt F e → Prog (TpuEff nD τ sig (Elt F) Λ₀ .tc) α} {K : α → sProp 𝕄} :
    hv c M q X ⊢ iprop((hv c M q X -∗ Run c (k (X (r.emb x))) K) -∗ Run c (smemLoadElt M r hw x k) K) := by
  unfold hv
  iintro ⟨%f, %hf, H⟩ Hk
  iapply (wp_smemLoadElt 𝒱₀ (c : Thread nD τ) none Set.univ (m := M) (r := r) (x := x) (View.set_slice_subset _ _)) $$ H
  iintro H
  subst hf
  iapply Hk
  iexists f
  isplitr; · ipureintro; rfl
  iexact H

end

/-! ## Slots -/

theorem unsq_up (X : S1024x1024.Idx → Elt F .f32) (h : S1024x1024.numel = S1x1024x1024.numel) :
    (fun i => X ((Shape.reshapeEquiv h).symm i)) = up X := by
  funext i; unfold up shapeCast; rw [Shape.reshapeEquiv_symm]

theorem sq_up (X : S1024x1024.Idx → Elt F .f32) (h : S1024x1024.numel = S1x1024x1024.numel) :
    (fun i => up X (Shape.reshapeEquiv h i)) = X := by
  rw [← unsq_up X h]; funext i; show X ((Shape.reshapeEquiv h).symm (Shape.reshapeEquiv h i)) = X i; rw [Equiv.symm_apply_apply]

theorem slot_un (c : Dev nD) (d j : Bool) (q : PosShare TreeShare) (X : S1024x1024.Idx → Elt F .f32) :
    hv c (slotM d j) q X ⊢ (hv c ((commM d).slice (slotR j) (fun _ => rfl)) q (up X) : sProp 𝕄) := by
  refine (hv_unsqueeze c _ squeezes_S1x1024x1024_S1024x1024 q X).trans ?_
  rw [unsq_up]; exact Entails.refl _
theorem slot_re (c : Dev nD) (d j : Bool) (q : PosShare TreeShare) (X : S1024x1024.Idx → Elt F .f32) :
    hv c ((commM d).slice (slotR j) (fun _ => rfl)) q (up X) ⊢ (hv c (slotM d j) q X : sProp 𝕄) := by
  refine (hv_squeeze c _ squeezes_S1x1024x1024_S1024x1024 q (up X)).trans ?_
  rw [sq_up]; exact Entails.refl _

/-- A load of a slot. -/
theorem load_slot {α : Type} (c : Dev nD) (M : Memref sig .tc (CoreSpace.vmem : CoreSpace) S2x1024x1024 .f32) (d j : Bool) (hM : M = commM d)
    (off : Fin 3 → ℕ) (hoff : off = ![bif j then 1 else 0, 0, 0]) {hin}
    (q : PosShare TreeShare) (X : S1024x1024.Idx → Elt F .f32)
    {hl : M.view.LoadsAt (Rect.unit (s := S2x1024x1024) off S1x1024x1024.size hin).toLoadRect}
    {k : (S1x1024x1024.Idx → Elt F .f32) → Prog (TpuEff nD τ sig (Elt F) Λ₀ .tc) α} {K : α → sProp 𝕄} :
    hv c (slotM d j) q X ⊢ iprop((hv c (slotM d j) q X -∗ Run c (k (up X)) K)
      -∗ Run c (.op (.load M (Rect.unit (s := S2x1024x1024) off S1x1024x1024.size hin).toLoadRect hl) k) K) := by
  subst hM; subst hoff
  iintro H Hk
  ihave H := (slot_un c d j q X) $$ H
  iapply (load_slice c (cs := .vmem) (commM d) (slotR j) (fun _ => rfl) q (up X)) $$ H
  iintro H
  iapply Hk
  iapply (slot_re c d j q X) $$ H

/-- A store to a slot. -/
theorem store_slot {α : Type} (c : Dev nD) (M : Memref sig .tc (CoreSpace.vmem : CoreSpace) S2x1024x1024 .f32) (d j : Bool) (hM : M = commM d)
    (off : Fin 3 → ℕ) (hoff : off = ![bif j then 1 else 0, 0, 0]) {hin}
    (X X' : S1024x1024.Idx → Elt F .f32) (w : S1x1024x1024.Idx → Elt F .f32) (hw : w = up X')
    {hx : (M.access (Rect.unit (s := S2x1024x1024) off S1x1024x1024.size hin)).Stores Finset.univ} {hm}
    {k : PUnit → Prog (TpuEff nD τ sig (Elt F) Λ₀ .tc) α} {K : α → sProp 𝕄} :
    hv c (slotM d j) fullShare X ⊢ iprop((hv c (slotM d j) fullShare X' -∗ Run c (k ⟨⟩) K)
      -∗ Run c (.op (.store M (Rect.unit (s := S2x1024x1024) off S1x1024x1024.size hin) w Finset.univ hx hm) k) K) := by
  subst hM; subst hoff; subst hw
  iintro H Hk
  ihave H := (slot_un c d j fullShare X) $$ H
  iapply (store_slice c (cs := .vmem) (commM d) (slotR j) (fun _ => rfl) (up X) (up X')) $$ H
  iintro H
  iapply Hk
  iapply (slot_re c d j fullShare X') $$ H

/-! ## The output's tiles -/

/-- The elements of the output's tile. -/
def tileR (t : Dev nD × Bool) : Rect S4096x2048 := Rect.unit (s := S4096x2048) (blkOff t.1 t.2) S1024x1024.size (blk_inb t.1 t.2)

omit [FloatOps F] in
theorem tile_mem (t : Dev nD × Bool) (i : S4096x2048.Idx) :
    i ∈ (tileR t).set ↔ (1024 * t.1.val ≤ (i 0).val ∧ (i 0).val < 1024 * t.1.val + 1024)
      ∧ ((bif t.2 then 1024 else 0) ≤ (i 1).val ∧ (i 1).val < (bif t.2 then 1024 else 0) + 1024) := by
  unfold tileR
  rw [Rect.mem_set_unit]
  constructor
  · intro h; exact ⟨h 0, h 1⟩
  · rintro ⟨h0, h1⟩ a
    fin_cases a
    · exact h0
    · exact h1

omit [FloatOps F] in
theorem tile_disj (t t' : Dev nD × Bool) (h : t ≠ t') : Disjoint (tileR t).set (tileR t').set := by
  rw [Finset.disjoint_left]
  intro i hi hi'
  rw [tile_mem] at hi hi'
  apply h
  obtain ⟨b, d⟩ := t; obtain ⟨b', d'⟩ := t'
  have hb : b = b' := Fin.ext (by dsimp only at hi hi'; omega)
  have hd : d = d' := by
    cases d <;> cases d' <;> simp only [cond_true, cond_false] at hi hi' <;> first | rfl | omega
  rw [hb, hd]

omit [FloatOps F] in
theorem tile_cover : Finset.univ.biUnion (fun t : Dev nD × Bool => (tileR t).set) = (Finset.univ : Finset S4096x2048.Idx) := by
  rw [Finset.eq_univ_iff_forall]
  intro i
  rw [Finset.mem_biUnion]
  have h0 : (i 0).val < 4096 := (i 0).isLt
  have h1 : (i 1).val < 2048 := (i 1).isLt
  refine ⟨(⟨(i 0).val / 1024, by show _ < 4; omega⟩, decide (1024 ≤ (i 1).val)), Finset.mem_univ _, ?_⟩
  rw [tile_mem]
  refine ⟨⟨by dsimp only; omega, by dsimp only; omega⟩, ?_⟩
  show (bif decide (1024 ≤ (i 1).val) then 1024 else 0) ≤ (i 1).val ∧ (i 1).val < (bif decide (1024 ≤ (i 1).val) then 1024 else 0) + 1024
  by_cases h : 1024 ≤ (i 1).val
  · rw [decide_eq_true h, cond_true]; exact ⟨h, by omega⟩
  · rw [decide_eq_false h, cond_false]; exact ⟨Nat.zero_le _, by omega⟩

/-- The whole output held is its eight tiles held. -/
theorem out_split (c : Dev nD) (f : Buf (Elt F) ((Memref.whole main_v3).view.loc (c : Thread nD τ))) :
    ((Memref.whole main_v3).view.loc (c : Thread nD τ) ↦[Finset.univ]{fullShare} f)
      ⊢ (bigSep Finset.univ fun t : Dev nD × Bool => ha c (outM t.1 t.2) : sProp 𝕄) := by
  have e : ((Memref.whole main_v3).view.loc (c : Thread nD τ) ↦[Finset.univ]{fullShare} f : sProp 𝕄)
      = bigSep Finset.univ fun t : Dev nD × Bool => ((Memref.whole main_v3).view.loc (c : Thread nD τ) ↦[(tileR t).set]{fullShare} f) := by
    rw [← pointsTo_biUnion (ℓ := (Memref.whole main_v3).view.loc (c : Thread nD τ)) Finset.univ (fun t => (tileR t).set)
      (fun t _ t' _ h => tile_disj t t' h)]
    exact congrArg (fun S => ((Memref.whole main_v3).view.loc (c : Thread nD τ) ↦[S]{fullShare} f : sProp 𝕄)) tile_cover.symm
  rw [e]
  refine bigSep_mono fun t _ => ?_
  have hs : (outM t.1 t.2).view.set = (tileR t).set := View.set_slice_whole _ _
  refine (Entails.of_eq (congrArg (fun S => ((Memref.whole main_v3).view.loc (c : Thread nD τ) ↦[S]{fullShare} f : sProp 𝕄)) hs.symm)).trans ?_
  exact (hv_intro c (outM t.1 t.2) fullShare f).trans (hv_ha c _ _)

/-- The whole output whose tiles are `T`. -/
def whole {α : Type} (T : Dev nD × Bool → S1024x1024.Idx → α) : S4096x2048.Idx → α := fun i =>
  T (⟨(i 0).val / 1024, by have h : (i 0).val < 4096 := (i 0).isLt; show _ < 4; omega⟩, decide (1024 ≤ (i 1).val))
    (ix2 ⟨(i 0).val % 1024, Nat.mod_lt _ (by decide)⟩ ⟨(i 1).val % 1024, Nat.mod_lt _ (by decide)⟩)

omit [FloatOps F] in
theorem whole_tile {α : Type} (T : Dev nD × Bool → S1024x1024.Idx → α) (t : Dev nD × Bool) (x : S1024x1024.Idx) :
    whole T ((tileR t).emb x) = T t x := by
  obtain ⟨b, h⟩ := t
  have x0 : (x 0).val < 1024 := (x 0).isLt
  have x1 : (x 1).val < 1024 := (x 1).isLt
  have e0 : ((tileR (b, h)).emb x 0).val = 1024 * b.val + 1 * (x 0).val := rfl
  have e1 : ((tileR (b, h)).emb x 1).val = (bif h then 1024 else 0) + 1 * (x 1).val := rfl
  unfold whole
  have hb : (⟨((tileR (b, h)).emb x 0).val / 1024, by rw [e0]; have := b.isLt; show _ < 4; change b.val < 4 at this; omega⟩ : Dev nD) = b :=
    Fin.ext (by show ((tileR (b, h)).emb x 0).val / 1024 = b.val; rw [e0]; omega)
  have hh : decide (1024 ≤ ((tileR (b, h)).emb x 1).val) = h := by
    rw [e1]; cases h
    · rw [cond_false]; exact decide_eq_false (by omega)
    · rw [cond_true]; exact decide_eq_true (by omega)
  have hx : (ix2 ⟨((tileR (b, h)).emb x 0).val % 1024, Nat.mod_lt _ (by decide)⟩ ⟨((tileR (b, h)).emb x 1).val % 1024, Nat.mod_lt _ (by decide)⟩
      : S1024x1024.Idx) = x := Shape.idx_ext₂
    (by show ((tileR (b, h)).emb x 0).val % 1024 = (x 0).val; rw [e0]; omega)
    (by show ((tileR (b, h)).emb x 1).val % 1024 = (x 1).val; rw [e1]; cases h <;> simp only [cond_true, cond_false] <;> omega)
  exact congrArg₂ T (Prod.ext hb hh) hx

/-- The eight tiles held at `T` are the whole output held, its tiles `T`. -/
theorem out_join (c : Dev nD) (T : Dev nD × Bool → S1024x1024.Idx → Elt F .f32) :
    (bigSep Finset.univ fun t : Dev nD × Bool => hv c (outM t.1 t.2) fullShare (T t))
      ⊢ ((Memref.whole main_v3).view.loc (c : Thread nD τ) ↦[Finset.univ]{fullShare} (whole T : Buf (Elt F) ((Memref.whole main_v3).view.loc (c : Thread nD τ))) : sProp 𝕄) := by
  have e : ((Memref.whole main_v3).view.loc (c : Thread nD τ) ↦[Finset.univ]{fullShare} (whole T : Buf (Elt F) ((Memref.whole main_v3).view.loc (c : Thread nD τ))) : sProp 𝕄)
      = bigSep Finset.univ fun t : Dev nD × Bool => ((Memref.whole main_v3).view.loc (c : Thread nD τ) ↦[(tileR t).set]{fullShare} (whole T : Buf (Elt F) ((Memref.whole main_v3).view.loc (c : Thread nD τ)))) := by
    rw [← pointsTo_biUnion (ℓ := (Memref.whole main_v3).view.loc (c : Thread nD τ)) Finset.univ (fun t => (tileR t).set)
      (fun t _ t' _ h => tile_disj t t' h)]
    exact congrArg (fun S => ((Memref.whole main_v3).view.loc (c : Thread nD τ) ↦[S]{fullShare} (whole T : Buf (Elt F) ((Memref.whole main_v3).view.loc (c : Thread nD τ))) : sProp 𝕄)) tile_cover.symm
  rw [e]
  refine bigSep_mono fun t _ => ?_
  have hs : (outM t.1 t.2).view.set = (tileR t).set := View.set_slice_whole _ _
  refine BIBase.Entails.trans ?_ (Entails.of_eq (congrArg (fun S => ((Memref.whole main_v3).view.loc (c : Thread nD τ) ↦[S]{fullShare} (whole T : Buf (Elt F) ((Memref.whole main_v3).view.loc (c : Thread nD τ))) : sProp 𝕄)) hs))
  unfold hv
  iintro ⟨%f, %hf, H⟩
  have hg : ∀ i ∈ (outM t.1 t.2).view.set, f i = (whole T : Buf (Elt F) ((outM t.1 t.2).view.loc (c : Thread nD τ))) i :=
    read_inj (v := (outM t.1 t.2).view) (by rw [hf]; funext x; exact (whole_tile T t x).symm)
  have hc := Entails.of_eq (pointsTo_congr (ℓ := (outM t.1 t.2).view.loc (c : Thread nD τ)) (q := fullShare) hg) (PROP := sProp 𝕄)
  iapply hc
  iexact H

end Cert.Ring

end
-- ==== Proof.Steps.lean ====
/- One step of a device for each kind of communication of the ring. -/
module

public import proofs.«01_k».proof.Proof.Hv2

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

open Idealize.ShloMosaic.Rounds (atPos dutyTok reached cellInv openTok)

variable [FloatOps F]

local notation "𝕄" => MT nD τ sig ℕ (Elt F) ℕ UU ℕ

/-! ## The cells, and what every device knows -/

/-- A device's cells that live for the kernel's run: its send and receive cells, and its credit cells. -/
abbrev CI : Type := (Bool × Bool × Fin 6) ⊕ Bool
def semOf : CI → SemLoc sig
  | .inl (true, d, k) => .dma (sSem d k)
  | .inl (false, d, k) => .dma (rSem d k)
  | .inr d => .reg (cSem d)

theorem semOf_inj : Function.Injective semOf := by
  have h : ∀ a b, semOf a = semOf b → a = b := by decide +kernel
  exact fun a b => h a b

theorem tc_inj {a b : Dev nD} {s t : SemLoc sig} (h : (((a : Thread nD τ), s) : GSem nD τ sig) = ((b : Thread nD τ), t)) : a = b ∧ s = t :=
  ⟨congrArg (fun g => g.1.1) h, congrArg Prod.snd h⟩

def scEmb : Dev nD × CI ↪ GSem nD τ sig :=
  ⟨fun x => ((x.1 : Thread nD τ), semOf x.2), fun x y h => Prod.ext (tc_inj h).1 (semOf_inj (tc_inj h).2)⟩
def barEmb : Dev nD ↪ GSem nD τ sig := ⟨barC, fun _ _ h => (tc_inj h).1⟩

def scCells : Finset (GSem nD τ sig) := Finset.univ.map scEmb
def barCells : Finset (GSem nD τ sig) := Finset.univ.map barEmb
def cells : Finset (GSem nD τ sig) := barCells ∪ scCells

theorem snd_mem (d : Bool) (k : Fin 6) (c : Dev nD) : sndC d k c ∈ cells :=
  Finset.mem_union_right _ (Finset.mem_map.2 ⟨(c, .inl (true, d, k)), Finset.mem_univ _, rfl⟩)
theorem rcv_mem (d : Bool) (k : Fin 6) (c : Dev nD) : rcvC d k c ∈ cells :=
  Finset.mem_union_right _ (Finset.mem_map.2 ⟨(c, .inl (false, d, k)), Finset.mem_univ _, rfl⟩)
theorem crd_mem (d : Bool) (c : Dev nD) : crdC d c ∈ cells :=
  Finset.mem_union_right _ (Finset.mem_map.2 ⟨(c, .inr d), Finset.mem_univ _, rfl⟩)
theorem bar_mem (c : Dev nD) : barC c ∈ cells :=
  Finset.mem_union_left _ (Finset.mem_map.2 ⟨c, Finset.mem_univ _, rfl⟩)

/-- The slot of a key, in hand. -/
def slotS (k : Key) : sProp 𝕄 := ha k.1 (slotM k.2.1 k.2.2)
instance slotS_storable (k : Key) : BI.Storable (upEmb : UEmb _ 𝕄) (slotS (F := F) k) := by unfold slotS; infer_instance
theorem slotS_false (k : Key) : iprop(slotS k ∗ slotS k) ⊢ (False : sProp 𝕄) := ha_false _ _ (ix2 0 0)

variable (I : Ins F) (K : GSem nD τ sig → ℕ) (ι : Key → ℕ)

/-- What device `c` knows all along: the levels, the invariants, and which cells are open. -/
def env (c : Dev nD) : sProp 𝕄 :=
  iprop(levAts L lv ∗ (bigSep cells fun g => cellInv (ER (F := F)) (rd I) (K g) g)
    ∗ (bigSep Finset.univ fun k : Key => Release.slotInv (ES (F := F)) (ι k) k (slotS k))
    ∗ (bigSep Finset.univ fun x : Bool × Fin 6 => reached (ER (F := F)) (sndC x.1 x.2 c) 0)
    ∗ opens false c ∗ opens true c ∗ (bigSep Finset.univ fun d : Bool => reached (ER (F := F)) (barC (prv d c)) 0))
instance env_persistent (c : Dev nD) : BI.Persistent (env I K ι c) := by unfold env; infer_instance

/-- What it knows after the barrier: that its neighbours' cells are open. -/
def peer (c : Dev nD) : sProp 𝕄 := bigSep (Finset.univ : Finset Bool) fun d => opens (F := F) d (nxt d c)
instance peer_persistent (c : Dev nD) : BI.Persistent (peer (F := F) c) := by unfold peer; infer_instance

section

variable (c : Dev nD)

omit [FloatOps F] in
theorem bsE {A : Type} [DecidableEq A] {S : Finset A} (Φ : A → sProp 𝕄) {i : A} (h : i ∈ S) : bigSep S Φ ⊢ (Φ i : sProp 𝕄) := bigSep_elim h

theorem env_lev : env I K ι c ⊢ (levAts L lv : sProp 𝕄) := by unfold env; iintro ⟨H, -⟩; iexact H
theorem env_inv {g : GSem nD τ sig} (h : g ∈ cells) : env I K ι c ⊢ (cellInv (ER (F := F)) (rd I) (K g) g : sProp 𝕄) := by
  unfold env; iintro ⟨-, H, -⟩; iapply (bsE (fun g => cellInv (ER (F := F)) (rd I) (K g) g) h) $$ H
theorem env_slot (k : Key) : env I K ι c ⊢ (Release.slotInv (ES (F := F)) (ι k) k (slotS k) : sProp 𝕄) := by
  unfold env; iintro ⟨-, -, H, -⟩; iapply (bsE (fun k : Key => Release.slotInv (ES (F := F)) (ι k) k (slotS k)) (Finset.mem_univ k)) $$ H
theorem env_snd (d : Bool) (k : Fin 6) : env I K ι c ⊢ (reached (ER (F := F)) (sndC d k c) 0 : sProp 𝕄) := by
  unfold env; iintro ⟨-, -, -, H, -⟩; iapply (bsE (fun x : Bool × Fin 6 => reached (ER (F := F)) (sndC x.1 x.2 c) 0) (Finset.mem_univ (d, k))) $$ H
theorem env_opens (d : Bool) : env I K ι c ⊢ (opens d c : sProp 𝕄) := by
  unfold env; iintro ⟨-, -, -, -, H, H', -⟩; cases d
  · iexact H
  · iexact H'
theorem env_bar (d : Bool) : env I K ι c ⊢ (reached (ER (F := F)) (barC (prv d c)) 0 : sProp 𝕄) := by
  unfold env; iintro ⟨-, -, -, -, -, -, H⟩; iapply (bsE (fun d : Bool => reached (ER (F := F)) (barC (prv d c)) 0) (Finset.mem_univ d)) $$ H
omit [FloatOps F] in
theorem opens_rcv (d : Bool) (k : Fin 6) : opens d c ⊢ (reached (ER (F := F)) (rcvC d k c) 0 : sProp 𝕄) := by
  unfold opens; iintro ⟨H, -⟩; iapply (bsE (fun k => reached (ER (F := F)) (rcvC d k c) 0) (Finset.mem_univ k)) $$ H
omit [FloatOps F] in
theorem opens_crd (d : Bool) : opens d c ⊢ (reached (ER (F := F)) (crdC (!d) c) 0 : sProp 𝕄) := by
  unfold opens; iintro ⟨-, H⟩; iexact H
omit [FloatOps F] in
theorem peer_rcv (d : Bool) (k : Fin 6) : peer c ⊢ (reached (ER (F := F)) (rcvC d k (nxt d c)) 0 : sProp 𝕄) := by
  unfold peer; exact (bigSep_elim (Finset.mem_univ d)).trans (opens_rcv (nxt d c) d k)
omit [FloatOps F] in
theorem peer_crd (d : Bool) : peer c ⊢ (reached (ER (F := F)) (crdC d (prv d c)) 0 : sProp 𝕄) := by
  have h := (bigSep_elim (Φ := fun d => opens (F := F) d (nxt d c)) (Finset.mem_univ (!d))).trans (opens_crd (nxt (!d) c) (!d))
  rw [Bool.not_not] at h
  exact h

/-! ## What is owed -/

def lvls : List ℕ := [1, 1, 2, 2, 3, 3, 4, 4, 5, 5, 6, 6, 8, 8, 7, 7, 9, 9, 10, 10, 11, 11]
omit [FloatOps F] in
theorem dues_lvls : (dues c).map Due.i = lvls := rfl

/-- Device `c` has made its first `n` payments. -/
def ow (n : ℕ) : sProp 𝕄 := iprop(∃ W, owes (c : Thread nD τ) (od n c) W)

theorem mw (n : ℕ) (s : SemLoc sig) (i : ℕ) (hi : i < 12) (h : ∀ j ∈ lvls.drop n, i < j ∧ j < 12) :
    env I K ι c ⊢ (MayWait (c : Thread nD τ) s i (od n c) : sProp 𝕄) :=
  (env_lev I K ι c).trans (mayWait_owe c s i _ hi fun e he => h e.i (by
    rw [← dues_lvls c, ← List.map_drop]; exact List.mem_map_of_mem he))

/-! ## Transfers -/

/-- What device `c` holds for transfer `k` of direction `d`: before it, while it is under way, once its source is back, once it is over. -/
def xf (d : Bool) (k : Fin 6) (st : Fin 4) : sProp 𝕄 :=
  match st with
  | 0 => iprop(dutyTok (ER (F := F)) (sndC d k c) 0 0 ∗ dutyTok (ER (F := F)) (rcvC d k (nxt d c)) 0 0 ∗ atPos (ER (F := F)) (sndC d k c) 0 ∅ 0
      ∗ atPos (ER (F := F)) (rcvC d k c) 0 ∅ 0 ∗ cred (tallyAt (rcvC d k c) (lvR k) NN))
  | 1 => iprop(cred (tallyAt (sndC d k c) 0 NN) ∗ atPos (ER (F := F)) (sndC d k c) 0 ∅ 0
      ∗ atPos (ER (F := F)) (rcvC d k c) 0 ∅ 0 ∗ cred (tallyAt (rcvC d k c) (lvR k) NN))
  | 2 => iprop(atPos (ER (F := F)) (sndC d k c) (0 + 1) ∅ 0
      ∗ atPos (ER (F := F)) (rcvC d k c) 0 ∅ 0 ∗ cred (tallyAt (rcvC d k c) (lvR k) NN))
  | 3 => iprop(atPos (ER (F := F)) (sndC d k c) (0 + 1) ∅ 0 ∗ atPos (ER (F := F)) (rcvC d k c) (0 + 1) ∅ 0)

/-- The start of a transfer. -/
theorem send_step {α : Type} (d : Bool) (k : Fin 6) (n : ℕ) (hn : (dues c).drop n = dR d k c :: (dues c).drop (n + 1))
    {src dst : Memref sig .tc .vmem S1024x1024 .f32} {dv : Dev nD} {sS sR : DmaSem sig} {hsc}
    (hs : src = srcM d k) (hd : dst = dstM d k) (hdv : dv = nxt d c) (hsS : sS = sSem d k) (hsR : sR = rSem d k)
    {hsrc : src.view.WordExact} {hdst : dst.view.WordExact}
    {hsem : DmaTarget.Typed (nD := nD) (p := (Proc.tc : Proc τ)) .vmem (.dma sR) (.remote (Dev.tc dv) dst (.dma sS) hsc)}
    {kk : PUnit → Prog (TpuEff nD τ sig (Elt F) Λ₀ .tc) α} {Q : α → sProp 𝕄} :
    env I K ι c ⊢ iprop(peer c -∗ hv c (srcM d k) (qk k) (I.sent d c k) -∗ ha (nxt d c) (dstM d k) -∗ xf c d k 0 -∗ ow c n
      -∗ (iprop(xf c d k 1 ∗ ow c (n + 1)) -∗ Run c (kk ⟨⟩) Q)
      -∗ Run c (.op (.enqueueDma src (.remote (Dev.tc dv) dst (.dma sS) hsc) (.dma sR) hsrc hdst hsem) kk) Q) := by
  subst hs; subst hd; subst hdv; subst hsS; subst hsR
  iintro #HE #HP Hs Hd Hx HO Hk
  unfold ha ow
  icases HO with ⟨%W, HO⟩
  unfold xf
  dsimp only
  icases Hx with ⟨Ht1, Ht2, Hp1, Hp2, Hc⟩
  have hpr : I.sent d (prv d (nxt d c)) k = I.sent d c k := by rw [prv_nxt]
  have hp2 := pay_rcv I (nxt d c) d k 0
  rw [hpr] at hp2
  ihave #Hi1 := (env_inv I K ι c (snd_mem d k c)) $$ HE
  ihave #Hi2 := (env_inv I K ι c (rcv_mem d k (nxt d c))) $$ HE
  ihave #Hr1 := (env_snd I K ι c d k) $$ HE
  ihave #Hr2 := (peer_rcv c d k) $$ HP
  icases Hd with ⟨%Y, Hd⟩
  unfold hv
  icases Hs with ⟨%fs, %hfs, Hs⟩
  icases Hd with ⟨%fd, -, Hd⟩
  have hq1 : ((srcM d k).view.loc (c : Thread nD τ) ↦[(srcM d k).view.set]{qk k} fs) ⊢ ((rd I).payload (sndC d k c) 0 0 : sProp 𝕄) := by
    rw [pay_snd]; unfold hv; iintro H; iexists fs; isplitr; · ipureintro; exact hfs
    iexact H
  have hq2 : ((dstM d k).view.loc (nxt d c : Thread nD τ) ↦[(dstM d k).view.set]{fullShare} ((dstM d k).view.write (Elt F) fd ((srcM d k).view.read (Elt F) fs) Finset.univ))
      ⊢ ((rd I).payload (rcvC d k (nxt d c)) 0 0 : sProp 𝕄) := by
    rw [hp2]; unfold hv; iintro H; iexists _; isplitr; swap; · iexact H
    ipureintro; rw [View.read_write_univ]; exact hfs
  iapply (Rounds.wp_send_pointsTo 𝒱₀ (ER (F := F)) (rd I) (c : Thread nD τ) none (c' := (nxt d c : Thread nD τ)) (src := srcM d k) (dst := dstM d k)
      (sS := .dma (sSem d k)) (sem := .dma (rSem d k)) (q := qk k) (fs := fs) (κ₁ := K (sndC d k c)) (κ₂ := K (rcvC d k (nxt d c)))
      (r₁ := 0) (r₂ := 0) (d₁ := 0) (d₂ := 0) (fd := fd)
      (by rw [duties_snd]; exact Finset.mem_singleton_self _) (by rw [duties_rcv]; exact Finset.mem_singleton_self _)
      (lvR k) 0 NN (dst_credit d k) (amtOf_dma (sSem d k)) (amtOf_dma (rSem d k)) (O₀ := od n c) (od (n + 1) c) (by unfold od; rw [hn]; rfl) (W := W)
      hq1 hq2) $$ [Hs Hd HO Ht1 Ht2]
  · isplitl []; · iexact Hi1
    isplitr; · iexact Hi2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hcs, HO⟩
  iapply Hk
  isplitr [HO]
  · isplitl [Hcs]; · iexact Hcs
    isplitl [Hp1]; · iexact Hp1
    isplitl [Hp2]; · iexact Hp2
    iexact Hc
  · iexists W; iexact HO

/-- The wait for a transfer's source. -/
theorem waitS_step {α : Type} (d : Bool) (k : Fin 6) (n : ℕ) (h : ∀ j ∈ lvls.drop n, 0 < j ∧ j < 12)
    {s' : Shape} {e' : EltTy} {sp sp' : Space} {src : Memref sig .tc sp' s' e'} {dst : Memref sig .tc sp S1024x1024 .f32} {sS : DmaSem sig}
    (hsS : sS = sSem d k) (hN : dst.view.dmaCredit = NN)
    {hsrc : src.view.WordExact} {hdst : dst.view.WordExact}
    {kk : PUnit → Prog (TpuEff nD τ sig (Elt F) Λ₀ .tc) α} {Q : α → sProp 𝕄} :
    env I K ι c ⊢ iprop(xf c d k 1 -∗ ow c n
      -∗ (iprop(hv c (srcM d k) (qk k) (I.sent d c k) ∗ xf c d k 2 ∗ ow c n) -∗ Run c (kk ⟨⟩) Q)
      -∗ Run c (.op (.waitDma2 sS src dst hsrc hdst) kk) Q) := by
  subst hsS
  iintro #HE Hx HO Hk
  unfold ow
  icases HO with ⟨%W, HO⟩
  unfold xf
  dsimp only
  icases Hx with ⟨Hcs, Hp1, Hp2, Hc⟩
  ihave #Hi1 := (env_inv I K ι c (snd_mem d k c)) $$ HE
  ihave #Hm := (mw I K ι c n (.dma (sSem d k)) 0 (by decide) h) $$ HE
  iapply (Rounds.wp_wait_rest_token 𝒱₀ (ER (F := F)) (rd I) (c : Thread nD τ) none (κ := K (sndC d k c)) (sm := .dma (sSem d k)) (k' := NN)
      (by rw [← hN]; exact wpE_waitDma2_eq 𝒱₀ (c : Thread nD τ) none Set.univ) (Set.mem_univ _) 0 (O := od n c) (W := W) (R := 0) (m := 0) (T := ∅)
      ((Nat.zero_add _).trans (expect_snd I c d k).symm)) $$ [Hcs HO Hp1]
  · isplitr; · iexact Hi1
    isplitl [Hcs]; · iexact Hcs
    isplitl [HO]; · iexact HO
    isplitr; · iexact Hm
    iexact Hp1
  iintro ⟨HO, Hp1, -, Hpay⟩
  ihave Hs := (Entails.of_eq (rest_snd I c d k)) $$ Hpay
  iapply Hk
  isplitl [Hs]; · iexact Hs
  isplitr [HO]
  · isplitl [Hp1]; · iexact Hp1
    isplitl [Hp2]; · iexact Hp2
    iexact Hc
  · iexists _; iexact HO

/-- The wait for what a transfer brings. -/
theorem waitR_step {α : Type} (d : Bool) (k : Fin 6) (n : ℕ) (hi : lvR k < 12) (h : ∀ j ∈ lvls.drop n, lvR k < j ∧ j < 12)
    {s' : Shape} {e' : EltTy} {sp sp' : Space} {src : Memref sig .tc sp' s' e'} {dst : Memref sig .tc sp S1024x1024 .f32} {sR : DmaSem sig}
    (hsR : sR = rSem d k) (hN : dst.view.dmaCredit = NN)
    {hsrc : src.view.WordExact} {hdst : dst.view.WordExact}
    {kk : PUnit → Prog (TpuEff nD τ sig (Elt F) Λ₀ .tc) α} {Q : α → sProp 𝕄} :
    env I K ι c ⊢ iprop(xf c d k 2 -∗ ow c n
      -∗ (iprop(hv c (dstM d k) fullShare (I.sent d (prv d c) k) ∗ xf c d k 3 ∗ ow c n) -∗ Run c (kk ⟨⟩) Q)
      -∗ Run c (.op (.waitDma2 sR src dst hsrc hdst) kk) Q) := by
  subst hsR
  iintro #HE Hx HO Hk
  unfold ow
  icases HO with ⟨%W, HO⟩
  unfold xf
  dsimp only
  icases Hx with ⟨Hp1, Hp2, Hc⟩
  ihave #Hi1 := (env_inv I K ι c (rcv_mem d k c)) $$ HE
  ihave #Hm := (mw I K ι c n (.dma (rSem d k)) (lvR k) hi h) $$ HE
  iapply (Rounds.wp_wait_rest_token 𝒱₀ (ER (F := F)) (rd I) (c : Thread nD τ) none (κ := K (rcvC d k c)) (sm := .dma (rSem d k)) (k' := NN)
      (by rw [← hN]; exact wpE_waitDma2_eq 𝒱₀ (c : Thread nD τ) none Set.univ) (Set.mem_univ _) (lvR k) (O := od n c) (W := W) (R := 0) (m := 0) (T := ∅)
      ((Nat.zero_add _).trans (expect_rcv I c d k).symm)) $$ [Hc HO Hp2]
  · isplitr; · iexact Hi1
    isplitl [Hc]; · iexact Hc
    isplitl [HO]; · iexact HO
    isplitr; · iexact Hm
    iexact Hp2
  iintro ⟨HO, Hp2, -, Hpay⟩
  ihave Hs := (Entails.of_eq (rest_rcv I c d k)) $$ Hpay
  iapply Hk
  isplitl [Hs]; · iexact Hs
  isplitr [HO]
  · isplitl [Hp1]; · iexact Hp1
    iexact Hp2
  · iexists _; iexact HO

end

end Cert.Ring

end
-- ==== Proof.Steps2.lean ====
/- One step of a device for the barrier, for each credit, and for a local copy. -/
module

public import proofs.«01_k».proof.Proof.Steps

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

open Idealize.ShloMosaic.Rounds (atPos dutyTok reached cellInv openTok)

variable [FloatOps F]

local notation "𝕄" => MT nD τ sig ℕ (Elt F) ℕ UU ℕ

variable (I : Ins F) (K : GSem nD τ sig → ℕ) (ι : Key → ℕ)

/-- The barrier duty of a direction. -/
def bi (d : Bool) : Fin 4 := bif d then 1 else 0
theorem bi_eq (d : Bool) : decide (bi d = 1) = d := by cases d <;> rfl
theorem bi_mem (d : Bool) : bi d ∈ ({0, 1} : Finset (Fin 4)) := by cases d <;> decide

section

variable (c : Dev nD)

/-! ## The barrier -/

/-- The barrier's signal in one direction: the device's two slots go with it. -/
theorem barS_step {α : Type} (d : Bool) (n : ℕ) (hn : (dues c).drop n = dB d c :: (dues c).drop (n + 1))
    {dv : Dev nD} {sm : Sem sig} (hdv : dv = prv d c) (hsm : sm = bSem) {m : ℤ} (hm : m = ((1 : ℕ) : ℤ))
    {kk : PUnit → Prog (TpuEff nD τ sig (Elt F) Λ₀ .tc) α} {Q : α → sProp 𝕄} :
    env I K ι c ⊢ iprop(dutyTok (ER (F := F)) (barC (prv d c)) 0 (bi d) -∗ ha c (slotM d false) -∗ ha c (slotM d true) -∗ ow c n
      -∗ (ow c (n + 1) -∗ Run c (kk ⟨⟩) Q)
      -∗ Run c (.op (.semSignal (Dev.tc dv) sm m) kk) Q) := by
  subst hdv; subst hsm; subst hm
  iintro #HE Ht H1 H2 HO Hk
  unfold ow
  icases HO with ⟨%W, HO⟩
  ihave #Hi := (env_inv I K ι c (bar_mem (prv d c))) $$ HE
  ihave #Hr := (env_bar I K ι c d) $$ HE
  ihave #Ho := (env_opens I K ι c d) $$ HE
  iapply (Rounds.wp_signal 𝒱₀ (ER (F := F)) (rd I) (c : Thread nD τ) none (dst := (prv d c : Thread nD τ)) (sem := bSem) (r := 0) (d := bi d)
      (κ := K (barC (prv d c))) (k' := 1) (by rw [duties_bar]; exact bi_mem d) rfl 1 (O₀ := od n c) (od (n + 1) c) (by unfold od; rw [hn]; rfl)) $$ [Ht H1 H2 HO]
  · isplitr; · iexact Hi
    isplitl [HO]; · iexact HO
    isplitl [Ht]; · iexact Ht
    isplitl [H1 H2]
    · rw [pay_bar, bi_eq]; unfold barPay; rw [nxt_prv]
      isplitl [H1]; · iexact H1
      isplitl [H2]; · iexact H2
      iexact Ho
    · iexact Hr
  iintro HO
  iapply Hk
  iexists W; iexact HO

/-- The barrier's wait: both neighbours' slots come with it. -/
theorem barW_step {α : Type} (n : ℕ) (h : ∀ j ∈ lvls.drop n, 1 < j ∧ j < 12) {sm : Sem sig} (hsm : sm = bSem) {m : ℤ} (hm : m = ((2 : ℕ) : ℤ))
    {kk : PUnit → Prog (TpuEff nD τ sig (Elt F) Λ₀ .tc) α} {Q : α → sProp 𝕄} :
    env I K ι c ⊢ iprop(cred (tallyAt (barC c) 1 2) -∗ atPos (ER (F := F)) (barC c) 0 ∅ 0 -∗ ow c n
      -∗ (iprop(barPay false c ∗ barPay true c ∗ atPos (ER (F := F)) (barC c) (0 + 1) ∅ 0 ∗ ow c n) -∗ Run c (kk ⟨⟩) Q)
      -∗ Run c (.op (.semWait sm m) kk) Q) := by
  subst hsm; subst hm
  iintro #HE Hc Hp HO Hk
  unfold ow
  icases HO with ⟨%W, HO⟩
  ihave #Hi := (env_inv I K ι c (bar_mem c)) $$ HE
  ihave #Hm := (mw I K ι c n (.reg bSem) 1 (by decide) h) $$ HE
  iapply (Rounds.wp_wait_rest_token 𝒱₀ (ER (F := F)) (rd I) (c : Thread nD τ) none (κ := K (barC c)) (sm := .reg bSem) (k' := 2)
      (wpE_semWait_eq 𝒱₀ (c : Thread nD τ) none Set.univ) (Set.mem_univ _) 1 (O := od n c) (W := W) (R := 0) (m := 0) (T := ∅)
      ((Nat.zero_add _).trans (expect_bar I c).symm)) $$ [Hc HO Hp]
  · isplitr; · iexact Hi
    isplitl [Hc]; · iexact Hc
    isplitl [HO]; · iexact HO
    isplitr; · iexact Hm
    iexact Hp
  iintro ⟨HO, Hp, -, Hpay⟩
  ihave Hs := (rest_bar I c) $$ Hpay
  icases Hs with ⟨Hs, Hs'⟩
  iapply Hk
  isplitl [Hs]; · iexact Hs
  isplitl [Hs']; · iexact Hs'
  isplitl [Hp]; · iexact Hp
  iexists _; iexact HO

/-! ## Credits, the reader's side -/

/-- The slot handed back with the `j`-th credit. -/
def slJ (j : Fin 4) : Bool := j.val % 2 = 1

/-- The reader's counts after `m` credits. -/
def crr (d : Bool) (m : ℕ) : sProp 𝕄 :=
  match m with
  | 0 => iprop(Release.readerAt (ES (F := F)) (keyOf c d false) 0 ∗ Release.readerAt (ES (F := F)) (keyOf c d true) 0)
  | 1 => iprop(Release.readerAt (ES (F := F)) (keyOf c d false) 1 ∗ Release.readerAt (ES (F := F)) (keyOf c d true) 0 ∗ crFact c d 0)
  | 2 => iprop(Release.readerAt (ES (F := F)) (keyOf c d false) 1 ∗ Release.readerAt (ES (F := F)) (keyOf c d true) 1 ∗ crFact c d 1)
  | 3 => iprop(Release.readerAt (ES (F := F)) (keyOf c d false) 2 ∗ Release.readerAt (ES (F := F)) (keyOf c d true) 1 ∗ crFact c d 2)
  | _ => iprop(emp)

theorem crr0 (d : Bool) : (crr c d 0 : sProp 𝕄) = iprop(Release.readerAt (ES (F := F)) (keyOf c d false) 0 ∗ Release.readerAt (ES (F := F)) (keyOf c d true) 0) := rfl
theorem crr1 (d : Bool) : (crr c d 1 : sProp 𝕄) = iprop(Release.readerAt (ES (F := F)) (keyOf c d false) 1 ∗ Release.readerAt (ES (F := F)) (keyOf c d true) 0 ∗ crFact c d 0) := rfl
theorem crr2 (d : Bool) : (crr c d 2 : sProp 𝕄) = iprop(Release.readerAt (ES (F := F)) (keyOf c d false) 1 ∗ Release.readerAt (ES (F := F)) (keyOf c d true) 1 ∗ crFact c d 1) := rfl
theorem crr3 (d : Bool) : (crr c d 3 : sProp 𝕄) = iprop(Release.readerAt (ES (F := F)) (keyOf c d false) 2 ∗ Release.readerAt (ES (F := F)) (keyOf c d true) 1 ∗ crFact c d 2) := rfl
theorem crr4 (d : Bool) : (crr c d 4 : sProp 𝕄) = iprop(emp) := rfl

theorem rel_one (d j : Bool) (n : ℕ) :
    env I K ι c ⊢ iprop(Release.readerAt (ES (F := F)) (keyOf c d j) n -∗ ha c (slotM d j)
      -∗ (|={Set.univ}=> iprop(Release.readerAt (ES (F := F)) (keyOf c d j) (n + 1) ∗ Release.released (ES (F := F)) (keyOf c d j) (n + 1)) : sProp 𝕄)) := by
  iintro #HE Hr Hs
  ihave #Hi := (env_slot I K ι c (keyOf c d j)) $$ HE
  iapply (Release.slot_release (ES (F := F)) (k := keyOf c d j) (S := slotS (keyOf c d j)) (ι := ι (keyOf c d j)) (Es := Set.univ) (Set.mem_univ _) (slotS_false _) n)
  isplitr; · iexact Hi
  isplitl [Hr]; · iexact Hr
  unfold slotS
  iexact Hs

/-- Handing a slot back moves the reader's counts on and yields the credit's fact. -/
theorem rel_step (d : Bool) (j : Fin 4) :
    env I K ι c ⊢ iprop(crr c d j.val -∗ ha c (slotM d (slJ j)) -∗ (|={Set.univ}=> iprop(crr c d (j.val + 1) ∗ crFact c d j) : sProp 𝕄)) := by
  fin_cases j
  · show env I K ι c ⊢ iprop(crr c d 0 -∗ ha c (slotM d false) -∗ (|={Set.univ}=> iprop(crr c d 1 ∗ crFact c d 0) : sProp 𝕄))
    simp only [crr0, crr1, crr2, crr3, crr4]
    unfold crFact
    dsimp only
    iintro #HE Hc Hs
    icases Hc with ⟨Hf, Ht⟩
    imod (rel_one I K ι c d false 0) $$ HE Hf Hs with ⟨Hf, #H1⟩
    imodintro
    isplitl [Hf Ht]
    · isplitl [Hf]; · iexact Hf
      isplitl [Ht]; · iexact Ht
      iexact H1
    · iexact H1
  · show env I K ι c ⊢ iprop(crr c d 1 -∗ ha c (slotM d true) -∗ (|={Set.univ}=> iprop(crr c d 2 ∗ crFact c d 1) : sProp 𝕄))
    simp only [crr0, crr1, crr2, crr3, crr4]
    unfold crFact
    dsimp only
    iintro #HE Hc Hs
    icases Hc with ⟨Hf, Ht, #H1⟩
    imod (rel_one I K ι c d true 0) $$ HE Ht Hs with ⟨Ht, #H2⟩
    imodintro
    isplitl [Hf Ht]
    · isplitl [Hf]; · iexact Hf
      isplitl [Ht]; · iexact Ht
      isplitr; · iexact H1
      iexact H2
    · isplitr; · iexact H1
      iexact H2
  · show env I K ι c ⊢ iprop(crr c d 2 -∗ ha c (slotM d false) -∗ (|={Set.univ}=> iprop(crr c d 3 ∗ crFact c d 2) : sProp 𝕄))
    simp only [crr0, crr1, crr2, crr3, crr4]
    unfold crFact
    dsimp only
    iintro #HE Hc Hs
    icases Hc with ⟨Hf, Ht, #H1, #H2⟩
    imod (rel_one I K ι c d false 1) $$ HE Hf Hs with ⟨Hf, #H1'⟩
    imodintro
    isplitl [Hf Ht]
    · isplitl [Hf]; · iexact Hf
      isplitl [Ht]; · iexact Ht
      isplitr; · iexact H1'
      iexact H2
    · isplitr; · iexact H1'
      iexact H2
  · show env I K ι c ⊢ iprop(crr c d 3 -∗ ha c (slotM d true) -∗ (|={Set.univ}=> iprop(crr c d 4 ∗ crFact c d 3) : sProp 𝕄))
    simp only [crr0, crr1, crr2, crr3, crr4]
    unfold crFact
    dsimp only
    iintro #HE Hc Hs
    icases Hc with ⟨Hf, Ht, #H1, #H2⟩
    imod (rel_one I K ι c d true 1) $$ HE Ht Hs with ⟨Ht, #H2'⟩
    imodintro
    isplitr; · iempintro
    isplitr; · iexact H1
    iexact H2'

/-- A credit given: the reader hands its slot back and signals the writer. -/
theorem crS_step {α : Type} (d : Bool) (j : Fin 4) (n : ℕ) (hn : (dues c).drop n = dC d j c :: (dues c).drop (n + 1))
    {dv : Dev nD} {sm : Sem sig} (hdv : dv = prv d c) (hsm : sm = cSem d) {m : ℤ} (hm : m = ((1 : ℕ) : ℤ))
    {kk : PUnit → Prog (TpuEff nD τ sig (Elt F) Λ₀ .tc) α} {Q : α → sProp 𝕄} :
    env I K ι c ⊢ iprop(peer c -∗ dutyTok (ER (F := F)) (crdC d (prv d c)) 0 j -∗ crr c d j.val -∗ ha c (slotM d (slJ j)) -∗ ow c n
      -∗ (iprop(crr c d (j.val + 1) ∗ ow c (n + 1)) -∗ Run c (kk ⟨⟩) Q)
      -∗ Run c (.op (.semSignal (Dev.tc dv) sm m) kk) Q) := by
  subst hdv; subst hsm; subst hm
  iintro #HE #HP Ht Hc Hs HO Hk
  iapply (fupd_wp frame (wpE (defs₀ (F := F)) 𝒱₀ (c : Thread nD τ) none) Set.univ _ Q)
  imod (rel_step I K ι c d j) $$ HE Hc Hs with ⟨Hc, #Hf⟩
  imodintro
  unfold ow
  icases HO with ⟨%W, HO⟩
  ihave #Hi := (env_inv I K ι c (crd_mem d (prv d c))) $$ HE
  ihave #Hr := (peer_crd c d) $$ HP
  iapply (Rounds.wp_signal 𝒱₀ (ER (F := F)) (rd I) (c : Thread nD τ) none (dst := (prv d c : Thread nD τ)) (sem := cSem d) (r := 0) (d := j)
      (κ := K (crdC d (prv d c))) (k' := 1) (by rw [duties_crd]; exact Finset.mem_univ j) rfl (lvC j) (O₀ := od n c) (od (n + 1) c) (by unfold od; rw [hn]; rfl)) $$ [Ht HO]
  · isplitr; · iexact Hi
    isplitl [HO]; · iexact HO
    isplitl [Ht]; · iexact Ht
    isplitr
    · rw [pay_crd, nxt_prv]
      iexact Hf
    · iexact Hr
  iintro HO
  iapply Hk
  isplitl [Hc]; · iexact Hc
  iexists W; iexact HO

/-! ## Credits, the writer's side -/

/-- The transfer the `m`-th credit allows. -/
def kJ (m : Fin 4) : Fin 6 := ⟨m.val + 2, by omega⟩

/-- The writer's place after `m` credits, with the facts they brought. -/
def crw (d : Bool) (m : ℕ) : sProp 𝕄 :=
  if m = 4 then atPos (ER (F := F)) (crdC d c) (0 + 1) ∅ 0
  else iprop(∃ T : Finset (Fin 4), atPos (ER (F := F)) (crdC d c) 0 T m ∗ bigSep T (fun i => crFact (nxt d c) d i))

theorem crw_open (d : Bool) (m : ℕ) (h : ¬ m = 4) : crw c d m
    ⊢ (iprop(∃ T : Finset (Fin 4), atPos (ER (F := F)) (crdC d c) 0 T m ∗ bigSep T (fun i => crFact (nxt d c) d i)) : sProp 𝕄) := by
  unfold crw; rw [if_neg h]
theorem crw_intro (d : Bool) (m : ℕ) (h : ¬ m = 4) :
    iprop(∃ T : Finset (Fin 4), atPos (ER (F := F)) (crdC d c) 0 T m ∗ bigSep T (fun i => crFact (nxt d c) d i)) ⊢ (crw c d m : sProp 𝕄) := by
  unfold crw; rw [if_neg h]
theorem crw_close (d : Bool) : atPos (ER (F := F)) (crdC d c) (0 + 1) ∅ 0 ⊢ (crw c d 4 : sProp 𝕄) := by
  unfold crw; rw [if_pos rfl]
theorem crw_end (d : Bool) : crw c d 4 ⊢ (atPos (ER (F := F)) (crdC d c) (0 + 1) ∅ 0 : sProp 𝕄) := by
  unfold crw; rw [if_pos rfl]

/-- What a writer takes the `m`-th credit with: its unit, and the right to the write it allows. -/
def crt (d : Bool) (m : Fin 4) : sProp 𝕄 :=
  iprop(cred (tallyAt (crdC d c) (lvC m) 1) ∗ Release.writeTok (ES (F := F)) (keyOf (nxt d c) d (slJ m)) (m.val / 2 + 1))

/-- The facts of a later credit hold those of an earlier one. -/
theorem fact_rel (r : Dev nD) (d : Bool) (i m : Fin 4) (h : m ≤ i) :
    crFact r d i ⊢ (Release.released (ES (F := F)) (keyOf r d (slJ m)) (m.val / 2 + 1) : sProp 𝕄) := by
  have up (j : Bool) : Release.released (ES (F := F)) (keyOf r d j) 2 ⊢ (Release.released (ES (F := F)) (keyOf r d j) 1 : sProp 𝕄) :=
    Release.released_mono (ES (F := F)) (by decide)
  unfold crFact
  fin_cases i <;> fin_cases m <;> first | (exact absurd h (by decide)) | skip
  · exact BIBase.Entails.rfl
  · show iprop(_ ∗ _) ⊢ (Release.released (ES (F := F)) (keyOf r d false) 1 : sProp 𝕄); iintro ⟨H, -⟩; iexact H
  · show iprop(_ ∗ _) ⊢ (Release.released (ES (F := F)) (keyOf r d true) 1 : sProp 𝕄); iintro ⟨-, H⟩; iexact H
  · show iprop(_ ∗ _) ⊢ (Release.released (ES (F := F)) (keyOf r d false) 1 : sProp 𝕄); iintro ⟨H, -⟩; iapply (up false) $$ H
  · show iprop(_ ∗ _) ⊢ (Release.released (ES (F := F)) (keyOf r d true) 1 : sProp 𝕄); iintro ⟨-, H⟩; iexact H
  · show iprop(_ ∗ _) ⊢ (Release.released (ES (F := F)) (keyOf r d false) 2 : sProp 𝕄); iintro ⟨H, -⟩; iexact H
  · show iprop(_ ∗ _) ⊢ (Release.released (ES (F := F)) (keyOf r d false) 1 : sProp 𝕄); iintro ⟨H, -⟩; iapply (up false) $$ H
  · show iprop(_ ∗ _) ⊢ (Release.released (ES (F := F)) (keyOf r d true) 1 : sProp 𝕄); iintro ⟨-, H⟩; iapply (up true) $$ H
  · show iprop(_ ∗ _) ⊢ (Release.released (ES (F := F)) (keyOf r d false) 2 : sProp 𝕄); iintro ⟨H, -⟩; iexact H
  · show iprop(_ ∗ _) ⊢ (Release.released (ES (F := F)) (keyOf r d true) 2 : sProp 𝕄); iintro ⟨-, H⟩; iexact H

theorem slJ_dst (m : Fin 4) : slJ m = dstSlot (kJ m) := by revert m; decide

/-- More than `m` of the four duties include one numbered `m` or later. -/
theorem late (S : Finset (Fin 4)) (m : Fin 4) (h : m.val + 1 ≤ S.card) : ∃ i ∈ S, m ≤ i := by
  revert m; revert S; decide

/-- The slot a credit allows the writer to write. -/
theorem take_step (d : Bool) (m : Fin 4) (S : Finset (Fin 4)) (h : m.val + 1 ≤ S.card) :
    env I K ι c ⊢ iprop(bigSep S (fun i => crFact (nxt d c) d i) -∗ Release.writeTok (ES (F := F)) (keyOf (nxt d c) d (slJ m)) (m.val / 2 + 1)
      -∗ (|={Set.univ}=> ha (nxt d c) (dstM d (kJ m)) : sProp 𝕄)) := by
  obtain ⟨i, hi, hm⟩ := late S m h
  iintro #HE Hf Ht
  ihave #Hi := (env_slot I K ι c (keyOf (nxt d c) d (slJ m))) $$ HE
  ihave Hf := (bsE (fun i => crFact (nxt d c) d i) hi) $$ Hf
  ihave Hf := (fact_rel (nxt d c) d i m hm) $$ Hf
  have he : slotS (F := F) (keyOf (nxt d c) d (slJ m)) = ha (nxt d c) (dstM d (kJ m)) := by unfold slotS dstM; rw [← slJ_dst]
  rw [← he]
  iapply (Release.slot_take (ES (F := F)) (k := keyOf (nxt d c) d (slJ m)) (S := slotS (keyOf (nxt d c) d (slJ m)))
    (ι := ι (keyOf (nxt d c) d (slJ m))) (Es := Set.univ) (Set.mem_univ _) (m.val / 2 + 1))
  isplitr; · iexact Hi
  isplitl [Hf]; · iexact Hf
  iexact Ht

/-- A credit taken: the slot of the transfer it allows comes with it. -/
theorem crW_step {α : Type} (d : Bool) (m : Fin 4) (n : ℕ) (hi : lvC m < 12) (h : ∀ j ∈ lvls.drop n, lvC m < j ∧ j < 12)
    {sm : Sem sig} (hsm : sm = cSem d) {u : ℤ} (hu : u = ((1 : ℕ) : ℤ))
    {kk : PUnit → Prog (TpuEff nD τ sig (Elt F) Λ₀ .tc) α} {Q : α → sProp 𝕄} :
    env I K ι c ⊢ iprop(crw c d m.val -∗ crt c d m -∗ ow c n
      -∗ (iprop(crw c d (m.val + 1) ∗ ha (nxt d c) (dstM d (kJ m)) ∗ ow c n) -∗ Run c (kk ⟨⟩) Q)
      -∗ Run c (.op (.semWait sm u) kk) Q) := by
  subst hsm; subst hu
  iintro #HE Hw Ht HO Hk
  unfold ow crt
  icases Ht with ⟨Hc, Ht⟩
  icases HO with ⟨%W, HO⟩
  ihave Hw := (crw_open c d m.val (show ¬ m.val = 4 by omega)) $$ Hw
  icases Hw with ⟨%T, Hp, Hf⟩
  ihave #Hi := (env_inv I K ι c (crd_mem d c)) $$ HE
  ihave #Hm := (mw I K ι c n (.reg (cSem d)) (lvC m) hi h) $$ HE
  by_cases hm : m.val + 1 = 4
  · iapply (Rounds.wp_wait_rest_token 𝒱₀ (ER (F := F)) (rd I) (c : Thread nD τ) none (κ := K (crdC d c)) (sm := .reg (cSem d)) (k' := 1)
      (wpE_semWait_eq 𝒱₀ (c : Thread nD τ) none Set.univ) (Set.mem_univ _) (lvC m) (O := od n c) (W := W) (R := 0) (m := m.val) (T := T)
      (hm.trans (expect_crd I c d).symm)) $$ [Hc HO Hp]
    · isplitr; · iexact Hi
      isplitl [Hc]; · iexact Hc
      isplitl [HO]; · iexact HO
      isplitr; · iexact Hm
      iexact Hp
    iintro ⟨HO, Hp, -, Hpay⟩
    iapply (fupd_wp frame (wpE (defs₀ (F := F)) 𝒱₀ (c : Thread nD τ) none) Set.univ _ Q)
    have hpay : bigSep ((rd I).duties (crdC d c) 0 \ T) (fun u => (rd I).payload (crdC d c) 0 u)
        ⊢ (bigSep (Finset.univ \ T) (fun i => crFact (nxt d c) d i) : sProp 𝕄) := by
      rw [duties_crd]; exact bigSep_mono fun i _ => Entails.of_eq (pay_crd I c d i)
    ihave Hpay := hpay $$ Hpay
    have hun : iprop(bigSep T (fun i => crFact (nxt d c) d i) ∗ bigSep (Finset.univ \ T) (fun i => crFact (nxt d c) d i))
        ⊢ (bigSep Finset.univ (fun i => crFact (nxt d c) d i) : sProp 𝕄) :=
      Entails.of_eq ((bigSep_union Finset.disjoint_sdiff).symm.trans (by rw [Finset.union_sdiff_of_subset (Finset.subset_univ T)]))
    ihave Hf := hun $$ [Hf Hpay]
    · isplitl [Hf] <;> iassumption
    imod (take_step I K ι c d m Finset.univ (by rw [hm]; decide)) $$ HE Hf Ht with Hs
    imodintro
    iapply Hk
    isplitl [Hp]
    · rw [hm]
      iapply (crw_close c d) $$ Hp
    isplitl [Hs]; · iexact Hs
    iexists _; iexact HO
  · iapply (Rounds.wp_wait 𝒱₀ (ER (F := F)) (rd I) (c : Thread nD τ) none (κ := K (crdC d c)) (sm := .reg (cSem d)) (k' := 1)
      (wpE_semWait_eq 𝒱₀ (c : Thread nD τ) none Set.univ) (Set.mem_univ _) (cr := Finsupp.single (lvC m) 1) (O := od n c) (W := W) {(SemLoc.reg (cSem d), lvC m)} (R := 0) (m := m.val) (T := T)
      (Util.total_single _ _) (image_single_subset (.reg (cSem d)) (lvC m) 1)) $$ [Hc HO Hp]
    · isplitr; · iexact Hi
      isplitl [Hc]; · iexact Hc
      isplitl [HO]; · iexact HO
      isplitr; · iexact Hm
      iexact Hp
    iintro %S ⟨%hS, HO, Hp, Hpay⟩
    obtain ⟨hTS, hSd, hcard⟩ := hS
    have hcS : m.val + 1 ≤ S.card := by
      rw [expect_crd, duties_crd, Finset.card_sdiff_of_subset (Finset.subset_univ S)] at hcard
      have h4 : (Finset.univ : Finset (Fin 4)).card = 4 := rfl
      have := Finset.card_le_univ S
      rw [h4] at hcard
      change S.card ≤ 4 at this
      omega
    iapply (fupd_wp frame (wpE (defs₀ (F := F)) 𝒱₀ (c : Thread nD τ) none) Set.univ _ Q)
    have hpay : bigSep (S \ T) (fun u => (rd I).payload (crdC d c) 0 u)
        ⊢ (bigSep (S \ T) (fun i => crFact (nxt d c) d i) : sProp 𝕄) :=
      bigSep_mono fun i _ => Entails.of_eq (pay_crd I c d i)
    ihave Hpay := hpay $$ Hpay
    have hun : iprop(bigSep T (fun i => crFact (nxt d c) d i) ∗ bigSep (S \ T) (fun i => crFact (nxt d c) d i))
        ⊢ (bigSep S (fun i => crFact (nxt d c) d i) : sProp 𝕄) :=
      Entails.of_eq ((bigSep_union Finset.disjoint_sdiff).symm.trans (by rw [Finset.union_sdiff_of_subset hTS]))
    ihave #Hf := hun $$ [Hf Hpay]
    · isplitl [Hf] <;> iassumption
    imod (take_step I K ι c d m S hcS) $$ HE Hf Ht with Hs
    imodintro
    iapply Hk
    isplitl [Hp]
    · iapply (crw_intro c d (m.val + 1) hm)
      iexists S
      isplitl [Hp]; · iexact Hp
      iexact Hf
    isplitl [Hs]; · iexact Hs
    iexists _; iexact HO

/-! ## Local copies -/

/-- The wait for a local copy. -/
theorem copied_step {α : Type} (n : ℕ) (h : ∀ j ∈ lvls.drop n, 0 < j ∧ j < 12)
    {s s' : Shape} {e e' : EltTy} {sp sp' : Space} {src : Memref sig .tc sp' s' e'} {dst : Memref sig .tc sp s e} (sm : DmaSem sig) (N : ℕ)
    (hN : dst.view.dmaCredit = N) (D : sProp 𝕄)
    {hsrc : src.view.WordExact} {hdst : dst.view.WordExact}
    {kk : PUnit → Prog (TpuEff nD τ sig (Elt F) Λ₀ .tc) α} {Q : α → sProp 𝕄} :
    env I K ι c ⊢ iprop(flying c sm N D -∗ ow c n
      -∗ (iprop(D ∗ semVal ((c : Thread nD τ), .dma sm) 0 ∗ ow c n) -∗ Run c (kk ⟨⟩) Q)
      -∗ Run c (.op (.waitDma2 sm src dst hsrc hdst) kk) Q) := by
  iintro #HE HF HO Hk
  unfold ow
  icases HO with ⟨%W, HO⟩
  ihave #Hm := (mw I K ι c n (.dma sm) 0 (by decide) h) $$ HE
  iapply (copied_hv c src dst sm N hN D (od n c) W) $$ [HF HO]
  · isplitl [HF]; · iexact HF
    isplitl [HO]; · iexact HO
    iexact Hm
  iintro ⟨HD, Hv, HO⟩
  iapply Hk
  isplitl [HD]; · iexact HD
  isplitl [Hv]; · iexact Hv
  iexists _; iexact HO

end

end Cert.Ring

end
-- ==== Proof.Steps3.lean ====
/- Longer steps of the body: a block brought in, a product made and kept, a partial sum extended. -/

module

public import proofs.«01_k».proof.Proof.Steps2

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

open Idealize.ShloMosaic.Rounds (atPos dutyTok reached cellInv openTok)

variable [FloatOps F]
local notation "𝕄" => MT nD τ sig ℕ (Elt F) ℕ UU ℕ

section
variable {e : EltTy} {s : Shape} {sp : Space}

omit [FloatOps F] in
theorem full_emb (off : Fin s.rank → ℕ) (h0 : ∀ a, off a = 0) {hin} (x : s.Idx) : (Rect.unit (s := s) off s.size hin).emb x = x := by
  funext a
  apply Fin.ext
  show off a + 1 * (x a).val = (x a).val
  rw [h0]; omega

/-- A load of everything a memref names. -/
theorem load_full {α : Type} {cs : CoreSpace} (c : Dev nD) (M : Memref sig .tc cs s e) (off : Fin s.rank → ℕ) (h0 : ∀ a, off a = 0) {hin}
    (q : PosShare TreeShare) (X : s.Idx → Elt F e)
    {hl : M.view.LoadsAt (Rect.unit (s := s) off s.size hin).toLoadRect}
    {k : (s.Idx → Elt F e) → Prog (TpuEff nD τ sig (Elt F) Λ₀ .tc) α} {K : α → sProp 𝕄} :
    hv c M q X ⊢ iprop((hv c M q X -∗ Run c (k X) K)
      -∗ Run c (.op (.load M (Rect.unit (s := s) off s.size hin).toLoadRect hl) k) K) := by
  have h : (fun i => X ((Rect.unit (s := s) off s.size hin).emb i)) = X := funext fun i => congrArg X (full_emb off h0 i)
  have := load_hv (α := α) c M (Rect.unit (s := s) off s.size hin) q X (hl := hl) (k := k) (K := K)
  rw [h] at this
  exact this

/-- A store over everything a memref names. -/
theorem store_full {α : Type} {cs : CoreSpace} (c : Dev nD) (M : Memref sig .tc cs s e) (off : Fin s.rank → ℕ) (h0 : ∀ a, off a = 0) {hin}
    (X w : s.Idx → Elt F e)
    {hx : (M.access (Rect.unit (s := s) off s.size hin)).Stores Finset.univ} {hm}
    {k : PUnit → Prog (TpuEff nD τ sig (Elt F) Λ₀ .tc) α} {K : α → sProp 𝕄} :
    hv c M fullShare X ⊢ iprop((hv c M fullShare w -∗ Run c (k ⟨⟩) K)
      -∗ Run c (.op (.store M (Rect.unit (s := s) off s.size hin) w Finset.univ hx hm) k) K) := by
  refine store_hv c M (Rect.unit (s := s) off s.size hin) X w w (fun x => congrArg w (full_emb off h0 x)) fun i hi => ?_
  refine absurd (Rect.mem_set_unit.2 fun a => ?_) hi
  have := (i a).isLt
  rw [h0]
  exact ⟨Nat.zero_le _, by omega⟩

end

variable (I : Ins F) (K : GSem nD τ sig → ℕ) (ι : Key → ℕ)
variable (c : Dev nD)

/-! ## Copies under way -/

/-- A copy under way on a semaphore; when it is over `A` is held, and so is `B`. -/
def pend (sm : DmaSem sig) (N : ℕ) (A B : sProp 𝕄) : sProp 𝕄 := iprop(∃ C : sProp 𝕄, flying c sm N iprop(A ∗ C) ∗ (C -∗ B))

/-- The start of a copy of a rectangle of what a memref names. -/
theorem copy_part {α : Type} {e : EltTy} {s : Shape} {sp : Space} {sp' : Space} (M : Memref sig .tc sp s e) (r : Rect s) (h : ∀ a, r.stride a = 1)
    (dst : Memref sig .tc sp' r.shape e) (sm : DmaSem sig)
    (q : PosShare TreeShare) (X : s.Idx → Elt F e) (N : ℕ) (hN : dst.view.dmaCredit = N) (hN0 : 0 < N)
    {hsrc : (M.slice r h).view.WordExact} {hdst : dst.view.WordExact} {hsem : DmaTarget.Typed (nD := nD) (p := (Proc.tc : Proc τ)) sp (.dma sm) (.here dst)}
    {k : PUnit → Prog (TpuEff nD τ sig (Elt F) Λ₀ .tc) α} {K : α → sProp 𝕄} :
    hv c M q X ⊢ iprop(ha c dst -∗ semVal ((c : Thread nD τ), .dma sm) 0 -∗
          (pend c sm N (hv c dst fullShare (fun i => X (r.emb i))) (hv c M q X) -∗ Run c (k ⟨⟩) K)
          -∗ Run c (.op (.enqueueDma (M.slice r h) (.here dst) (.dma sm) hsrc hdst hsem) k) K) := by
  unfold ha
  iintro H ⟨%Y, Hd⟩ Hv Hk
  ihave H := (hv_borrow c M r h q X) $$ H
  icases H with ⟨Hs, Hb⟩
  iapply (copy_hv c (M.slice r h) dst sm q _ Y N hN hN0) $$ [Hs Hd Hv]
  · isplitl [Hs]; · iexact Hs
    isplitl [Hd] <;> iassumption
  iintro HF
  iapply Hk
  unfold pend
  iexists _
  isplitl [HF]; · iexact HF
  iexact Hb
/-- The wait for a copy. -/
theorem pend_step {α : Type} (n : ℕ) (h : ∀ j ∈ lvls.drop n, 0 < j ∧ j < 12)
    {s s' : Shape} {e e' : EltTy} {sp sp' : Space} {src : Memref sig .tc sp' s' e'} {dst : Memref sig .tc sp s e} {sm' : DmaSem sig} (sm : DmaSem sig)
    (hsm : sm' = sm) (N : ℕ) (hN : dst.view.dmaCredit = N) (A B : sProp 𝕄)
    {hsrc : src.view.WordExact} {hdst : dst.view.WordExact}
    {kk : PUnit → Prog (TpuEff nD τ sig (Elt F) Λ₀ .tc) α} {Q : α → sProp 𝕄} :
    env I K ι c ⊢ iprop(pend c sm N A B -∗ ow c n
      -∗ (iprop(A ∗ B ∗ semVal ((c : Thread nD τ), .dma sm) 0 ∗ ow c n) -∗ Run c (kk ⟨⟩) Q)
      -∗ Run c (.op (.waitDma2 sm' src dst hsrc hdst) kk) Q) := by
  subst hsm
  iintro #HE HF HO Hk
  unfold pend
  icases HF with ⟨%C, HF, Hb⟩
  iapply (copied_step I K ι c n h sm' N hN iprop(A ∗ C)) $$ HE HF HO
  iintro ⟨⟨HA, HC⟩, Hv, HO⟩
  iapply Hk
  isplitl [HA]; · iexact HA
  isplitl [Hb HC]; · iapply Hb; iexact HC
  isplitl [Hv] <;> iassumption

/-- The semaphore of the loads, and those of the output's stores. -/
abbrev lSem : DmaSem sig := cc0_scratch7.sem
def oSem (h : Bool) : DmaSem sig := bif h then 4 else 3
omit [FloatOps F] in
theorem s13_0 : ((cc0_scratch8.slice (Rect.unit (s := S2) ![0] S1.size inb_S2_S1_0)).squeeze S_ squeezes_S1_S_).sem = oSem false := by decide +kernel
omit [FloatOps F] in
theorem s13_1 : ((cc0_scratch8.slice (Rect.unit (s := S2) ![1] S1.size inb_S2_S1_1)).squeeze S_ squeezes_S1_S_).sem = oSem true := by decide +kernel

/-- The start of the copy that brings row block `b` of the left argument in. -/
theorem xcopy {α : Type} (b : Dev nD) (off : Fin 2 → ℕ) (hoff : off = blkOff b false) {hin hst}
    {hsrc hdst hsem} {k : PUnit → Prog (TpuEff nD τ sig (Elt F) Λ₀ .tc) α} {Q : α → sProp 𝕄} :
    hv c (Memref.whole main_arg0) fullShare (I.x c) ⊢ iprop(ha c (Memref.whole cc0_scratch2) -∗ semVal ((c : Thread nD τ), .dma lSem) 0 -∗
          (pend c lSem (Memref.whole cc0_scratch2).view.dmaCredit (hv c (Memref.whole cc0_scratch2) fullShare (I.xb c b))
            (hv c (Memref.whole main_arg0) fullShare (I.x c)) -∗ Run c (k ⟨⟩) Q)
          -∗ Run c (.op (.enqueueDma ((Memref.whole main_arg0).slice (Rect.unit (s := S4096x1024) off S1024x1024.size hin) hst)
              (.here (Memref.whole cc0_scratch2)) (.dma lSem) hsrc hdst hsem) k) Q) := by
  subst hoff
  exact copy_part c (Memref.whole main_arg0) (xR b) hst (Memref.whole cc0_scratch2) lSem fullShare (I.x c) _ rfl (View.dmaCredit_pos _ (by show 0 < S1024x1024.numel; decide))

theorem wc_inb (j : Fin 4) : ∀ a, (![256 * j.val, 0] : Fin 2 → ℕ) a + S256x2048.size a ≤ S1024x2048.size a := by revert j; decide
/-- The rectangle of the `j`-th row block of the right argument. -/
def wR (j : Fin 4) : Rect S1024x2048 := Rect.unit (s := S1024x2048) ![256 * j.val, 0] S256x2048.size (wc_inb j)
/-- The `j`-th row block of the right argument. -/
def wc (j : Fin 4) : S256x2048.Idx → Elt F .f32 := fun i => I.w c ((wR j).emb i)

/-- The start of the copy that brings row block `j` of the right argument in. -/
theorem wcopy {α : Type} (j : Fin 4) (off : Fin 2 → ℕ) (hoff : off = ![256 * j.val, 0]) {hin hst}
    {hsrc hdst hsem} {k : PUnit → Prog (TpuEff nD τ sig (Elt F) Λ₀ .tc) α} {Q : α → sProp 𝕄} :
    hv c (Memref.whole main_arg1) fullShare (I.w c) ⊢ iprop(ha c (Memref.whole cc0_scratch0) -∗ semVal ((c : Thread nD τ), .dma lSem) 0 -∗
          (pend c lSem (Memref.whole cc0_scratch0).view.dmaCredit (hv c (Memref.whole cc0_scratch0) fullShare (wc I c j))
            (hv c (Memref.whole main_arg1) fullShare (I.w c)) -∗ Run c (k ⟨⟩) Q)
          -∗ Run c (.op (.enqueueDma ((Memref.whole main_arg1).slice (Rect.unit (s := S1024x2048) off S256x2048.size hin) hst)
              (.here (Memref.whole cc0_scratch0)) (.dma lSem) hsrc hdst hsem) k) Q) := by
  subst hoff
  exact copy_part c (Memref.whole main_arg1) (wR j) hst (Memref.whole cc0_scratch0) lSem fullShare (I.w c) _ rfl (View.dmaCredit_pos _ (by show 0 < S256x2048.numel; decide))

/-! ## The right argument, rounded -/

/-- The first `256 * j` rows of the rounded right argument are in place. -/
def wbI (j : ℕ) : sProp 𝕄 :=
  iprop(∃ X : S1024x2048.Idx → Elt F .bf16, ⌜∀ i, (i 0).val < 256 * j → X i = I.wb c i⌝ ∗ hv c (Memref.whole cc0_scratch1) fullShare X)

theorem wbI_open : ha c (Memref.whole cc0_scratch1) ⊢ (wbI I c 0 : sProp 𝕄) := by
  unfold ha wbI
  iintro ⟨%X, H⟩
  iexists X
  isplitr; · ipureintro; intro i hi; omega
  iexact H
theorem wbI_close : wbI I c 4 ⊢ (hv c (Memref.whole cc0_scratch1) fullShare (I.wb c) : sProp 𝕄) := by
  unfold wbI
  iintro ⟨%X, %h, H⟩
  have e : X = I.wb c := funext fun i => h i (by have := (i 0).isLt; exact this)
  subst e
  iexact H

/-- One row block rounded and kept. -/
theorem wchunk {α : Type} (j : Fin 4) (off : Fin 2 → ℕ) (hoff : off = ![256 * j.val, 0])
    (pay : Vec F S256x2048 .f32 → Vec F S256x2048 .bf16) (hpay : ∀ v, pay v = truncf .bf16 v bitsLt_bf16_f32) {hin hin' hin'' hl hl' hx hm}
    {k : PUnit → Prog (TpuEff nD τ sig (Elt F) Λ₀ .tc) α} {Q : α → sProp 𝕄} :
    hv c (Memref.whole cc0_scratch0) fullShare (wc I c j) ⊢ iprop(wbI I c j.val
      -∗ (iprop(hv c (Memref.whole cc0_scratch0) fullShare (wc I c j) ∗ wbI I c (j.val + 1)) -∗ Run c (k ⟨⟩) Q)
      -∗ Run c (.op (.load (Memref.whole cc0_scratch0) (Rect.unit (s := S256x2048) ![0, 0] S256x2048.size hin'').toLoadRect hl) fun v =>
          .op (.load (Memref.whole cc0_scratch1) (Rect.unit (s := S1024x2048) off S256x2048.size hin).toLoadRect hl') fun _ =>
          .op (.store (Memref.whole cc0_scratch1) (Rect.unit (s := S1024x2048) off S256x2048.size hin') (pay v) Finset.univ hx hm) k) Q) := by
  subst hoff
  unfold wbI
  iintro H ⟨%X, %hX, HX⟩ Hk
  have hw1 : ∀ x : (wR j).shape.Idx, (fun i : S1024x2048.Idx => if (i 0).val < 256 * (j.val + 1) then I.wb c i else X i) ((wR j).emb x) = pay (wc I c j) x := by
    intro x
    dsimp only
    have hlt : ((wR j).emb x 0).val < 256 * (j.val + 1) := by
      have h0 : ((wR j).emb x 0).val = 256 * j.val + 1 * (x 0).val := rfl
      have h1 : (x 0).val < 256 := (x 0).isLt
      omega
    rw [if_pos hlt, hpay]
    rfl
  have hw2 : ∀ i, i ∉ (wR j).set → (fun i : S1024x2048.Idx => if (i 0).val < 256 * (j.val + 1) then I.wb c i else X i) i = X i := by
    intro i hi
    dsimp only
    by_cases h : (i 0).val < 256 * (j.val + 1)
    · rw [if_pos h]
      refine (hX i ?_).symm
      by_contra hc
      refine hi ?_
      unfold wR
      rw [Rect.mem_set_unit]
      intro a
      have h1 : (i 1).val < 2048 := (i 1).isLt
      fin_cases a
      · show 256 * j.val ≤ (i 0).val ∧ (i 0).val < 256 * j.val + 256; omega
      · show 0 ≤ (i 1).val ∧ (i 1).val < 0 + 2048; omega
    · rw [if_neg h]
  iapply (load_full (s := S256x2048) (e := .f32) (cs := .vmem) c (Memref.whole cc0_scratch0) ![0, 0] (by decide) fullShare (wc I c j)) $$ H
  iintro H
  iapply (load_hv (s := S1024x2048) (e := .bf16) (cs := .vmem) c (Memref.whole cc0_scratch1) (wR j) fullShare X) $$ HX
  iintro HX
  iapply (store_hv (s := S1024x2048) (e := .bf16) (cs := .vmem) c (Memref.whole cc0_scratch1) (wR j) X (fun i : S1024x2048.Idx => if (i 0).val < 256 * (j.val + 1) then I.wb c i else X i)
    (pay (wc I c j)) hw1 hw2) $$ HX
  iintro HX
  iapply Hk
  isplitl [H]; · iexact H
  iexists (fun i : S1024x2048.Idx => if (i 0).val < 256 * (j.val + 1) then I.wb c i else X i)
  isplitr
  · ipureintro
    intro i hi
    exact if_pos hi
  iexact HX

/-! ## The kept products -/

/-- The first `k` of the kept products are in place. -/
def p9I (k : ℕ) : sProp 𝕄 :=
  iprop(∃ X : S3x1024x2048.Idx → Elt F .bf16, ⌜∀ i, (i 0).val < k → X i = I.p9 c i⌝ ∗ hv c (Memref.whole cc0_scratch4) fullShare X)

theorem p9I_open : ha c (Memref.whole cc0_scratch4) ⊢ (p9I I c 0 : sProp 𝕄) := by
  unfold ha p9I
  iintro ⟨%X, H⟩
  iexists X
  isplitr; · ipureintro; intro i hi; omega
  iexact H
theorem p9I_close : p9I I c 3 ⊢ (hv c (Memref.whole cc0_scratch4) fullShare (I.p9 c) : sProp 𝕄) := by
  unfold p9I
  iintro ⟨%X, %h, H⟩
  have e : X = I.p9 c := funext fun i => h i (by have := (i 0).isLt; exact this)
  subst e
  iexact H

/-- One product made, rounded and kept. -/
theorem keep {α : Type} (k : Fin 3) (b : Dev nD) (hb : Ins.nb c k = b) (off : Fin 3 → ℕ) (hoff : off = ![k.val, 0, 0])
    (pay : Vec F S1024x1024 .f32 → Vec F S1024x2048 .bf16 → Vec F S1x1024x2048 .bf16)
    (hpay : pay (I.xb c b) (I.wb c) = shapeCast S1x1024x2048 (I.part c b) shapeCasts_S1024x2048_S1x1024x2048) {h1 h2 h3 h4 hl1 hl2 hl3 hx hm}
    {kk : PUnit → Prog (TpuEff nD τ sig (Elt F) Λ₀ .tc) α} {Q : α → sProp 𝕄} :
    hv c (Memref.whole cc0_scratch2) fullShare (I.xb c b) ⊢ iprop(hv c (Memref.whole cc0_scratch1) fullShare (I.wb c) -∗ p9I I c k.val
      -∗ (iprop(hv c (Memref.whole cc0_scratch2) fullShare (I.xb c b) ∗ hv c (Memref.whole cc0_scratch1) fullShare (I.wb c) ∗ p9I I c (k.val + 1)) -∗ Run c (kk ⟨⟩) Q)
      -∗ Run c (.op (.load (Memref.whole cc0_scratch2) (Rect.unit (s := S1024x1024) ![0, 0] S1024x1024.size h1).toLoadRect hl1) fun v =>
          .op (.load (Memref.whole cc0_scratch1) (Rect.unit (s := S1024x2048) ![0, 0] S1024x2048.size h2).toLoadRect hl2) fun w =>
          .op (.load (Memref.whole cc0_scratch4) (Rect.unit (s := S3x1024x2048) off S1x1024x2048.size h3).toLoadRect hl3) fun _ =>
          .op (.store (Memref.whole cc0_scratch4) (Rect.unit (s := S3x1024x2048) off S1x1024x2048.size h4) (pay v w) Finset.univ hx hm) kk) Q) := by
  subst hoff; subst hb
  unfold p9I
  iintro H Hw ⟨%X, %hX, HX⟩ Hk
  have hw1 : ∀ x : (partR k).shape.Idx, (fun i : S3x1024x2048.Idx => if (i 0).val < k.val + 1 then I.p9 c i else X i) ((partR k).emb x) = pay (I.xb c (Ins.nb c k)) (I.wb c) x := by
    intro x
    dsimp only
    have hlt : ((partR k).emb x 0).val < k.val + 1 := by
      have h0 : ((partR k).emb x 0).val = k.val + 1 * (x 0).val := rfl
      have h1 : (x 0).val < 1 := (x 0).isLt
      omega
    rw [if_pos hlt, hpay]
    exact p9_write I c k x
  have hw2 : ∀ i, i ∉ (partR k).set → (fun i : S3x1024x2048.Idx => if (i 0).val < k.val + 1 then I.p9 c i else X i) i = X i := by
    intro i hi
    dsimp only
    by_cases h : (i 0).val < k.val + 1
    · rw [if_pos h]
      refine (hX i ?_).symm
      by_contra hc
      refine hi ?_
      unfold partR
      rw [Rect.mem_set_unit]
      intro a
      have h1 : (i 1).val < 1024 := (i 1).isLt
      have h2 : (i 2).val < 2048 := (i 2).isLt
      fin_cases a
      · show k.val ≤ (i 0).val ∧ (i 0).val < k.val + 1; omega
      · show 0 ≤ (i 1).val ∧ (i 1).val < 0 + 1024; omega
      · show 0 ≤ (i 2).val ∧ (i 2).val < 0 + 2048; omega
    · rw [if_neg h]
  iapply (load_full (s := S1024x1024) (e := .f32) (cs := .vmem) c (Memref.whole cc0_scratch2) ![0, 0] (by decide) fullShare (I.xb c (Ins.nb c k))) $$ H
  iintro H
  iapply (load_full (s := S1024x2048) (e := .bf16) (cs := .vmem) c (Memref.whole cc0_scratch1) ![0, 0] (by decide) fullShare (I.wb c)) $$ Hw
  iintro Hw
  iapply (load_hv (s := S3x1024x2048) (e := .bf16) (cs := .vmem) c (Memref.whole cc0_scratch4) (partR k) fullShare X) $$ HX
  iintro HX
  iapply (store_hv (s := S3x1024x2048) (e := .bf16) (cs := .vmem) c (Memref.whole cc0_scratch4) (partR k) X (fun i : S3x1024x2048.Idx => if (i 0).val < k.val + 1 then I.p9 c i else X i)
    (pay (I.xb c (Ins.nb c k)) (I.wb c)) hw1 hw2) $$ HX
  iintro HX
  iapply Hk
  isplitl [H]; · iexact H
  isplitl [Hw]; · iexact Hw
  iexists (fun i : S3x1024x2048.Idx => if (i 0).val < k.val + 1 then I.p9 c i else X i)
  isplitr
  · ipureintro
    intro i hi
    exact if_pos hi
  iexact HX

/-- A partial sum extended by the kept product of index `k`. -/
theorem acc {α : Type} (M : Memref sig .tc (CoreSpace.vmem : CoreSpace) S2x1024x1024 .f32) (d j : Bool) (hM : M = commM d) (k : Fin 3)
    (off : Fin 3 → ℕ) (hoff : off = ![bif j then 1 else 0, 0, 0]) (off9 : Fin 3 → ℕ) (hoff9 : off9 = ![k.val, 0, bif d then 1024 else 0])
    (pay : Vec F S1x1024x1024 .f32 → Vec F S1x1024x1024 .bf16 → Vec F S1x1024x1024 .f32) (hpay : ∀ X P, pay (up X) P = up (addP X (dn P)))
    (X : S1024x1024.Idx → Elt F .f32) (b : Dev nD) (hb : Ins.nb c k = b) {h1 h2 h3 h4 hl1 hl2 hl3 hx hm}
    {kk : PUnit → Prog (TpuEff nD τ sig (Elt F) Λ₀ .tc) α} {Q : α → sProp 𝕄} :
    hv c (slotM d j) fullShare X ⊢ iprop(hv c (Memref.whole cc0_scratch4) fullShare (I.p9 c)
      -∗ (iprop(hv c (slotM d j) fullShare (addP X (half d (I.part c b))) ∗ hv c (Memref.whole cc0_scratch4) fullShare (I.p9 c)) -∗ Run c (kk ⟨⟩) Q)
      -∗ Run c (.op (.load M (Rect.unit (s := S2x1024x1024) off S1x1024x1024.size h1).toLoadRect hl1) fun v =>
          .op (.load (Memref.whole cc0_scratch4) (Rect.unit (s := S3x1024x2048) off9 S1x1024x1024.size h2).toLoadRect hl2) fun w =>
          .op (.load M (Rect.unit (s := S2x1024x1024) off S1x1024x1024.size h3).toLoadRect hl3) fun _ =>
          .op (.store M (Rect.unit (s := S2x1024x1024) off S1x1024x1024.size h4) (pay v w) Finset.univ hx hm) kk) Q) := by
  subst hoff9; subst hb
  iintro H H9 Hk
  iapply (load_slot c M d j hM off hoff fullShare X) $$ H
  iintro H
  iapply (load_hv (s := S3x1024x2048) (e := .bf16) (cs := .vmem) c (Memref.whole cc0_scratch4) (parthR k d) fullShare (I.p9 c)) $$ H9
  iintro H9
  iapply (load_slot c M d j hM off hoff fullShare X) $$ H
  iintro H
  have e : pay (up X) (fun i => I.p9 c ((parthR k d).emb i)) = up (addP X (half d (I.part c (Ins.nb c k)))) :=
    (hpay _ _).trans (congrArg (fun P => up (addP X P)) (p9_read I c k d))
  iapply (store_slot c M d j hM off hoff X (addP X (half d (I.part c (Ins.nb c k)))) _ e) $$ H
  iintro H
  iapply Hk
  isplitl [H] <;> iassumption

/-- A load of a half of the staging matrix. -/
theorem load_stage {α : Type} (d : Bool) (off : Fin 2 → ℕ) (hoff : off = ![0, bif d then 1024 else 0]) {hin}
    (q : PosShare TreeShare) (X : S1024x1024.Idx → Elt F .f32)
    {hl} {k : (S1024x1024.Idx → Elt F .f32) → Prog (TpuEff nD τ sig (Elt F) Λ₀ .tc) α} {K : α → sProp 𝕄} :
    hv c (stageM d) q X ⊢ iprop((hv c (stageM d) q X -∗ Run c (k X) K)
      -∗ Run c (.op (.load (Memref.whole cc0_scratch3) (Rect.unit (s := S1024x2048) off S1024x1024.size hin).toLoadRect hl) k) K) := by
  subst hoff
  exact load_slice (s := S1024x2048) (e := .f32) (cs := .vmem) c (Memref.whole cc0_scratch3) (halfR d) (fun _ => rfl) q X

/-- A store over a half of the staging matrix. -/
theorem store_stage {α : Type} (d : Bool) (off : Fin 2 → ℕ) (hoff : off = ![0, bif d then 1024 else 0]) {hin}
    (X w : S1024x1024.Idx → Elt F .f32)
    {hx hm} {k : PUnit → Prog (TpuEff nD τ sig (Elt F) Λ₀ .tc) α} {K : α → sProp 𝕄} :
    hv c (stageM d) fullShare X ⊢ iprop((hv c (stageM d) fullShare w -∗ Run c (k ⟨⟩) K)
      -∗ Run c (.op (.store (Memref.whole cc0_scratch3) (Rect.unit (s := S1024x2048) off S1024x1024.size hin) w Finset.univ hx hm) k) K) := by
  subst hoff
  exact store_slice (s := S1024x2048) (e := .f32) (cs := .vmem) c (Memref.whole cc0_scratch3) (halfR d) (fun _ => rfl) X w

/-- A block finished into a half of the staging matrix. -/
theorem finish {α : Type} (M : Memref sig .tc (CoreSpace.vmem : CoreSpace) S2x1024x1024 .f32) (d j : Bool) (hM : M = commM d) (k : Fin 3)
    (off : Fin 3 → ℕ) (hoff : off = ![bif j then 1 else 0, 0, 0]) (off9 : Fin 3 → ℕ) (hoff9 : off9 = ![k.val, 0, bif d then 1024 else 0])
    (off8 : Fin 2 → ℕ) (hoff8 : off8 = ![0, bif d then 1024 else 0]) (s : F .f32)
    (pay : Vec F S1x1024x1024 .f32 → Vec F S1x1024x1024 .bf16 → Vec F S1024x1024 .f32) (hpay : ∀ X P, pay (up X) P = fin s (addP X (dn P)))
    (X Y : S1024x1024.Idx → Elt F .f32) (b : Dev nD) (hb : Ins.nb c k = b) {h1 h2 h3 h4 hl1 hl2 hl3 hx hm}
    {kk : PUnit → Prog (TpuEff nD τ sig (Elt F) Λ₀ .tc) α} {Q : α → sProp 𝕄} :
    hv c (slotM d j) fullShare X ⊢ iprop(hv c (Memref.whole cc0_scratch4) fullShare (I.p9 c) -∗ hv c (stageM d) fullShare Y
      -∗ (iprop(hv c (slotM d j) fullShare X ∗ hv c (Memref.whole cc0_scratch4) fullShare (I.p9 c)
          ∗ hv c (stageM d) fullShare (fin s (addP X (half d (I.part c b))))) -∗ Run c (kk ⟨⟩) Q)
      -∗ Run c (.op (.load M (Rect.unit (s := S2x1024x1024) off S1x1024x1024.size h1).toLoadRect hl1) fun v =>
          .op (.load (Memref.whole cc0_scratch4) (Rect.unit (s := S3x1024x2048) off9 S1x1024x1024.size h2).toLoadRect hl2) fun w =>
          .op (.load (Memref.whole cc0_scratch3) (Rect.unit (s := S1024x2048) off8 S1024x1024.size h3).toLoadRect hl3) fun _ =>
          .op (.store (Memref.whole cc0_scratch3) (Rect.unit (s := S1024x2048) off8 S1024x1024.size h4) (pay v w) Finset.univ hx hm) kk) Q) := by
  subst hoff9; subst hb
  iintro H H9 H8 Hk
  iapply (load_slot c M d j hM off hoff fullShare X) $$ H
  iintro H
  iapply (load_hv (s := S3x1024x2048) (e := .bf16) (cs := .vmem) c (Memref.whole cc0_scratch4) (parthR k d) fullShare (I.p9 c)) $$ H9
  iintro H9
  iapply (load_stage c d off8 hoff8 fullShare Y) $$ H8
  iintro H8
  iapply (store_stage c d off8 hoff8 Y _) $$ H8
  iintro H8
  iapply Hk
  isplitl [H]; · iexact H
  isplitl [H9]; · iexact H9
  have e : pay (up X) (fun i => I.p9 c ((parthR k d).emb i)) = fin s (addP X (half d (I.part c (Ins.nb c k)))) :=
    (hpay _ _).trans (congrArg (fun P => fin s (addP X P)) (p9_read I c k d))
  rw [← e]
  iexact H8

/-! ## The output's tiles -/

omit [FloatOps F] in
theorem out_mem (b : Dev nD) (h : Bool) (off : Fin 2 → ℕ) (hoff : off = blkOff b h) {hin hst} :
    (Memref.whole main_v3).slice (Rect.unit (s := S4096x2048) off S1024x1024.size hin) hst = outM b h := by subst hoff; rfl

/-- What a copy into an output tile is counted as. -/
abbrev NO : ℕ := (outM 0 false).view.dmaCredit

/-- The start of a copy into an output tile. -/
theorem ocopy {α : Type} (b : Dev nD) (h : Bool) (off : Fin 2 → ℕ) (hoff : off = blkOff b h) {hin hst} (src src' : Memref sig .tc .vmem S1024x1024 .f32)
    (hs : src' = src) (q : PosShare TreeShare) (X : S1024x1024.Idx → Elt F .f32) (hX : X = I.tile h b) (sm : DmaSem sig) (hsm : sm = oSem h)
    {hsrc hdst hsem} {k : PUnit → Prog (TpuEff nD τ sig (Elt F) Λ₀ .tc) α} {Q : α → sProp 𝕄} :
    hv c src q X ⊢ iprop(ha c (outM b h) -∗ semVal ((c : Thread nD τ), .dma (oSem h)) 0 -∗
          (pend c (oSem h) NO (hv c (outM b h) fullShare (I.tile h b)) (hv c src q X) -∗ Run c (k ⟨⟩) Q)
          -∗ Run c (.op (.enqueueDma src' (.here ((Memref.whole main_v3).slice (Rect.unit (s := S4096x2048) off S1024x1024.size hin) hst))
              (.dma sm) hsrc hdst hsem) k) Q) := by
  subst hoff; subst hs; subst hsm; subst hX
  unfold ha
  iintro H ⟨%Y, Hd⟩ Hv Hk
  iapply (copy_hv c src' (outM b h) (oSem h) q (I.tile h b) Y NO rfl (View.dmaCredit_pos _ (by decide))) $$ [H Hd Hv]
  · isplitl [H]; · iexact H
    isplitl [Hd] <;> iassumption
  iintro HF
  iapply Hk
  unfold pend
  iexists _
  isplitl [HF]; · iexact HF
  iintro H
  iexact H

end Cert.Ring

end
-- ==== Proof.Steps4.lean ====
/- Equalities the walk through the body uses: which slot, which value, which tile. -/
module

public import proofs.«01_k».proof.Proof.Steps3

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

open Idealize.ShloMosaic.Rounds (atPos dutyTok reached cellInv openTok)

variable [FloatOps F]
local notation "𝕄" => MT nD τ sig ℕ (Elt F) ℕ UU ℕ

variable (I : Ins F) (K : GSem nD τ sig → ℕ) (ι : Key → ℕ)
variable (c : Dev nD)

theorem hv_cast {sp : Space} {s : Shape} {e : EltTy} (M : Memref sig .tc sp s e) (q : PosShare TreeShare) (X : s.Idx → Elt F e)
    (M' : Memref sig .tc sp s e) (q' : PosShare TreeShare) (X' : s.Idx → Elt F e) (h1 : M = M') (h2 : q = q') (h3 : X = X') :
    hv c M q X ⊢ (hv c M' q' X' : sProp 𝕄) := by subst h1; subst h2; subst h3; exact BIBase.Entails.rfl
theorem ha_cast {sp : Space} {s : Shape} {e : EltTy} (M M' : Memref sig .tc sp s e) (h1 : M = M') :
    ha c M ⊢ (ha c M' : sProp 𝕄) := by subst h1; exact BIBase.Entails.rfl
theorem ha_of {sp : Space} {s : Shape} {e : EltTy} (M : Memref sig .tc sp s e) (X : s.Idx → Elt F e) :
    hv c M fullShare X ⊢ (ha c M : sProp 𝕄) := by
  unfold ha; iintro H; iexists X; iexact H
theorem ow_cast (n m : ℕ) (h : n = m) : ow c n ⊢ (ow c m : sProp 𝕄) := by subst h; exact BIBase.Entails.rfl
theorem crr_cast (d : Bool) (n m : ℕ) (h : n = m) : crr c d n ⊢ (crr c d m : sProp 𝕄) := by subst h; exact BIBase.Entails.rfl
theorem crw_cast (d : Bool) (n m : ℕ) (h : n = m) : crw c d n ⊢ (crw c d m : sProp 𝕄) := by subst h; exact BIBase.Entails.rfl
theorem wbI_cast (n m : ℕ) (h : n = m) : wbI I c n ⊢ (wbI I c m : sProp 𝕄) := by subst h; exact BIBase.Entails.rfl
theorem p9I_cast (n m : ℕ) (h : n = m) : p9I I c n ⊢ (p9I I c m : sProp 𝕄) := by subst h; exact BIBase.Entails.rfl

theorem halve (M : Memref sig .tc .vmem S1024x1024 .f32) (X : S1024x1024.Idx → Elt F .f32) :
    hv c M fullShare X ⊢ (iprop(hv c M hL X ∗ hv c M hR X) : sProp 𝕄) := hv_halve c M X
theorem join (M : Memref sig .tc .vmem S1024x1024 .f32) (X : S1024x1024.Idx → Elt F .f32) :
    hv c M hL X ⊢ (iprop(hv c M hR X -∗ hv c M fullShare X) : sProp 𝕄) := by
  iintro H1 H2
  iapply (hv_join c M X)
  isplitl [H1] <;> iassumption

omit [FloatOps F] in
theorem cr_slot (d j : Bool) : (slotM d j).view.dmaCredit = NN := by unfold NN; cases d <;> cases j <;> rfl
omit [FloatOps F] in
theorem cr_stage (d : Bool) : (stageM d).view.dmaCredit = NN := by unfold NN; cases d <;> rfl

omit [FloatOps F] in
theorem src0 (d : Bool) : stageM d = srcM d 0 := rfl
omit [FloatOps F] in
theorem src1 (d : Bool) : slotM d false = srcM d 1 := rfl
omit [FloatOps F] in
theorem src2 (d : Bool) : slotM d true = srcM d 2 := rfl
omit [FloatOps F] in
theorem src3 (d : Bool) : stageM d = srcM d 3 := rfl
omit [FloatOps F] in
theorem src4 (d : Bool) : slotM d true = srcM d 4 := rfl
omit [FloatOps F] in
theorem src5 (d : Bool) : slotM d false = srcM d 5 := rfl

theorem tl3 (d : Bool) : I.sent d c 3 = I.tile d (nxt d c) := by
  show I.Z d c = I.Z d (prv d (nxt d c))
  rw [prv_nxt]
theorem tl6 (d : Bool) : I.sent d (prv d c) 5 = I.tile d (c + 2) := by
  show I.Z d (prv d (prv d (prv d c))) = I.Z d (prv d (c + 2))
  have h : prv d (prv d c) = c + 2 := by revert d c; decide
  rw [h]

/-- The staging matrix is its two halves. -/
theorem stage_split (X : S1024x2048.Idx → Elt F .f32) :
    hv c (Memref.whole cc0_scratch3) fullShare X ⊢ (iprop(hv c (stageM false) fullShare (half false X) ∗ hv c (stageM true) fullShare (half true X)) : sProp 𝕄) := by
  refine hv_split (s := S1024x2048) (e := .f32) c (Memref.whole cc0_scratch3) (halfR false) (halfR true) (fun _ => rfl) (fun _ => rfl) ?_ ?_ fullShare X
  · rw [Finset.disjoint_left]
    intro i h h'
    unfold halfR at h h'
    rw [Rect.mem_set_unit] at h h'
    have a : (i 1).val < 0 + 1024 := (h 1).2
    have b : 1024 ≤ (i 1).val := (h' 1).1
    omega
  · rw [Finset.eq_univ_iff_forall]
    intro i
    have h0 : (i 0).val < 1024 := (i 0).isLt
    have h1 : (i 1).val < 2048 := (i 1).isLt
    rw [Finset.mem_union]
    by_cases h : (i 1).val < 1024
    · left
      unfold halfR
      rw [Rect.mem_set_unit]
      intro a
      fin_cases a
      · show 0 ≤ (i 0).val ∧ (i 0).val < 0 + 1024; omega
      · show 0 ≤ (i 1).val ∧ (i 1).val < 0 + 1024; omega
    · right
      unfold halfR
      rw [Rect.mem_set_unit]
      intro a
      fin_cases a
      · show 0 ≤ (i 0).val ∧ (i 0).val < 0 + 1024; omega
      · show 1024 ≤ (i 1).val ∧ (i 1).val < 1024 + 1024; omega

omit [FloatOps F] in
/-- Held for both directions is held for the one and for the other. -/
theorem bs_bool (Φ : Bool → sProp 𝕄) : bigSep Finset.univ Φ = iprop(Φ false ∗ Φ true) := by
  have h : (Finset.univ : Finset Bool) = insert false {true} := by decide
  rw [h, bigSep_insert (by decide), bigSep_singleton]; rfl

/-- The peer's cells are open, from what its neighbours said at the barrier. -/
theorem peer_intro : opens false (nxt false c) ⊢ (iprop(opens true (nxt true c) -∗ peer c) : sProp 𝕄) := by
  unfold peer
  rw [bs_bool]
  iintro H1 H2
  isplitl [H1] <;> iassumption

/-- What the neighbours gave at the barrier. -/
theorem bar_open : barPay false c ⊢ (iprop(barPay true c -∗ ha (nxt false c) (slotM false false) ∗ ha (nxt false c) (slotM false true)
    ∗ ha (nxt true c) (slotM true false) ∗ ha (nxt true c) (slotM true true) ∗ peer c) : sProp 𝕄) := by
  unfold barPay
  iintro ⟨H1, H2, Ho⟩ ⟨H3, H4, Ho'⟩
  isplitl [H1]; · iexact H1
  isplitl [H2]; · iexact H2
  isplitl [H3]; · iexact H3
  isplitl [H4]; · iexact H4
  iapply (peer_intro c) $$ Ho Ho'

theorem ha_open {sp : Space} {s : Shape} {e : EltTy} (M : Memref sig .tc sp s e) :
    ha c M ⊢ (iprop(∃ X, hv c M fullShare X) : sProp 𝕄) := BIBase.Entails.rfl
theorem scale_eq : k0_pay13 (I.s1 c (ix2 0 0)) (I.s2 c (ix2 0 0)) = I.sc c := rfl

/-- The wait for a copy into an output tile. -/
theorem owait {α : Type} (n : ℕ) (h : ∀ j ∈ lvls.drop n, 0 < j ∧ j < 12) (d : Bool) (sm : DmaSem sig) (hsm : sm = oSem d) (off : Fin 2 → ℕ)
    {hin hst} {s' : Shape} {e' : EltTy} {sp' : Space} {src : Memref sig .tc sp' s' e'} (A B : sProp 𝕄) {hsrc hdst}
    {kk : PUnit → Prog (TpuEff nD τ sig (Elt F) Λ₀ .tc) α} {Q : α → sProp 𝕄} :
    env I K ι c ⊢ iprop(pend c (oSem d) NO A B -∗ ow c n
      -∗ (iprop(A ∗ B ∗ semVal ((c : Thread nD τ), .dma (oSem d)) 0 ∗ ow c n) -∗ Run c (kk ⟨⟩) Q)
      -∗ Run c (.op (.waitDma2 sm src ((Memref.whole main_v3).slice (Rect.unit (s := S4096x2048) off S1024x1024.size hin) hst) hsrc hdst) kk) Q) :=
  pend_step I K ι c n h (oSem d) hsm NO
    (dst := (Memref.whole main_v3).slice (Rect.unit (s := S4096x2048) off S1024x1024.size hin) hst) rfl A B

/-- The end of a program. -/
theorem run_ret {α : Type} (v : α) (Q : α → sProp 𝕄) : Q v ⊢ (Run c (.ret v) Q : sProp 𝕄) := by
  iintro H
  unfold Run
  rw [wp_ret]
  imodintro
  iexact H

/-- A program run part by part. -/
theorem run_bind {α β : Type} (t : Prog (TpuEff nD τ sig (Elt F) Λ₀ .tc) α) (k : α → Prog (TpuEff nD τ sig (Elt F) Λ₀ .tc) β) (Q : β → sProp 𝕄) :
    Run c t (fun r => Run c (k r) Q) ⊢ (Run c (t >>= k) Q : sProp 𝕄) := by
  unfold Run
  rw [wp_bind]

/-- A scale read. -/
theorem scale_step {α : Type} (M : Memref sig .tc .smem S1x1 .f32) (q : PosShare TreeShare) (X : S1x1.Idx → Elt F .f32)
    (kk : Elt F .f32 → Prog (TpuEff nD τ sig (Elt F) Λ₀ .tc) α) {h1 h2 h3 h4} {Q : α → sProp 𝕄} :
    hv c M q X ⊢ iprop((hv c M q X -∗ Run c (kk (X (ix2 0 0))) Q)
      -∗ Run c (smemLoad M (Rect.unit (s := S1x1) h1 S1x1.size h2) h3 h4 >>= kk) Q) := by
  have e (x : S1x1.Idx) : x = ix2 0 0 := by
    funext a
    apply Fin.ext
    have := (x a).isLt
    fin_cases a
    · change (x 0).val < 1 at this; show (x 0).val = 0; omega
    · change (x 1).val < 1 at this; show (x 1).val = 0; omega
  have := smem_hv c M (Rect.unit (s := S1x1) h1 S1x1.size h2) q X (Shape.Idx.first (h3.symm ▸ Nat.one_pos)) (hw := View.loads_smem_one h4 h3) (k := kk) (K := Q)
  rw [e (Rect.emb _ _)] at this
  exact this

end Cert.Ring

end
-- ==== Proof.Part1.lean ====
/- Part 1 of the body, run. -/
module

public import proofs.«01_k».proof.Proof.Steps4

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

open Idealize.ShloMosaic.Rounds (atPos dutyTok reached cellInv openTok)

variable [FloatOps F]
local notation "𝕄" => MT nD τ sig ℕ (Elt F) ℕ UU ℕ

variable (I : Ins F) (K : GSem nD τ sig → ℕ) (ι : Key → ℕ)
variable (c : Dev nD)

set_option maxHeartbeats 1000000 in
/-- Part 1 of the body: what it takes and what it leaves. -/
theorem part1_run (arg2 : Memref sig .tc .smem S1x1 .f32) (harg2 : arg2.IsWhole) (arg3 : Memref sig .tc .smem S1x1 .f32) (harg3 : arg3.IsWhole)
    (Q : (Σ' (_ : Dev nD) (_ : BitVec 32) (_ : BitVec 32), BitVec 32) → sProp 𝕄) :
    env I K ι c ⊢ iprop(dutyTok (ER (F := F)) (barC (prv false c)) 0 (bi false)
      -∗ ha c (slotM false false)
      -∗ ha c (slotM false true)
      -∗ ow c 0
      -∗ dutyTok (ER (F := F)) (barC (prv true c)) 0 (bi true)
      -∗ ha c (slotM true false)
      -∗ ha c (slotM true true)
      -∗ cred (tallyAt (barC c) 1 2)
      -∗ atPos (ER (F := F)) (barC c) 0 ∅ 0
      -∗ iprop(∀ v2, ∀ v13, ∀ v24, (iprop(ow c 2 ∗ atPos (ER (F := F)) (barC c) (0 + 1) ∅ 0 ∗ ha (nxt false c) (slotM false false) ∗ ha (nxt false c) (slotM false true) ∗ ha (nxt true c) (slotM true false) ∗ ha (nxt true c) (slotM true true) ∗ peer c) -∗ Q ⟨c, v2, v13, v24⟩))
      -∗ Run c (k0_part1 (F := F) (Memref.whole main_arg0) (Memref.isWhole_whole _) (Memref.whole main_arg1) (Memref.isWhole_whole _) arg2 harg2 arg3 harg3 (Memref.whole main_v3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18 ) Q) := by
  rw [k0_part1_eq_skeleton]
  unfold k0_part1_skel
  simp only [semSignalWord, semWaitWord, Prog.lift, Prog.bind_op, Prog.bind_ret, Prog.pure_eq_ret, wp_deviceId]
  iintro #HE B0 O00 O01 HO B1 O10 O11 BC BP Hk
  iapply (barS_step I K ι c false 0 rfl (dev1 c) rfl rfl) $$ HE B0 O00 O01 HO
  iintro HO
  ihave HO := (ow_cast c (0 + 1) 1 rfl) $$ HO
  iapply (barS_step I K ι c true 1 rfl (dev2 c) rfl rfl) $$ HE B1 O10 O11 HO
  iintro HO
  ihave HO := (ow_cast c (1 + 1) 2 rfl) $$ HO
  iapply (barW_step I K ι c 2 (by decide) rfl rfl) $$ HE BC BP HO
  iintro ⟨P0, P1, BP, HO⟩
  ihave P0 := (bar_open c) $$ P0 P1
  icases P0 with ⟨N00, N01, N10, N11, HP⟩
  iapply (run_ret c)
  iapply Hk
  isplitl [HO]; · iexact HO
  isplitl [BP]; · iexact BP
  isplitl [N00]; · iexact N00
  isplitl [N01]; · iexact N01
  isplitl [N10]; · iexact N10
  isplitl [N11]; · iexact N11
  iexact HP

end Cert.Ring

end
-- ==== Proof.Part2.lean ====
/- Part 2 of the body, run. -/
module

public import proofs.«01_k».proof.Proof.Steps4

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

open Idealize.ShloMosaic.Rounds (atPos dutyTok reached cellInv openTok)

variable [FloatOps F]
local notation "𝕄" => MT nD τ sig ℕ (Elt F) ℕ UU ℕ

variable (I : Ins F) (K : GSem nD τ sig → ℕ) (ι : Key → ℕ)
variable (c : Dev nD)

set_option maxHeartbeats 1000000 in
/-- Part 2 of the body: what it takes and what it leaves. -/
theorem part2_run (arg2 : Memref sig .tc .smem S1x1 .f32) (harg2 : arg2.IsWhole) (arg3 : Memref sig .tc .smem S1x1 .f32) (harg3 : arg3.IsWhole)
    (Q : PUnit → sProp 𝕄) :
    env I K ι c ⊢ iprop(hv c (Memref.whole main_arg1) fullShare (I.w c)
      -∗ ha c (Memref.whole cc0_scratch0)
      -∗ semVal ((c : Thread nD τ), .dma lSem) 0
      -∗ ow c 2
      -∗ ha c (Memref.whole cc0_scratch1)
      -∗ iprop((iprop(hv c (Memref.whole main_arg1) fullShare (I.w c) ∗ hv c (Memref.whole cc0_scratch0) fullShare (wc I c 3) ∗ semVal ((c : Thread nD τ), .dma lSem) 0 ∗ ow c 2 ∗ wbI I c 3) -∗ Q ⟨⟩))
      -∗ Run c (k0_part2 (F := F) (Memref.whole main_arg0) (Memref.isWhole_whole _) (Memref.whole main_arg1) (Memref.isWhole_whole _) arg2 harg2 arg3 harg3 (Memref.whole main_v3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18 ) Q) := by
  rw [k0_part2_eq_skeleton]
  unfold k0_part2_skel
  simp only [semSignalWord, semWaitWord, Prog.lift, Prog.bind_op, Prog.bind_ret, Prog.pure_eq_ret]
  iintro #HE A1 H5 VL HO H6 Hk
  iapply (wcopy I c 0 ![0, 0] rfl) $$ A1 H5 VL
  iintro H5
  iapply (pend_step I K ι c 2 (by decide) lSem rfl _ rfl _ _) $$ HE H5 HO
  iintro ⟨H5, A1, VL, HO⟩
  ihave H6 := (wbI_open I c) $$ H6
  ihave H6 := (wbI_cast I c 0 (0 : Fin 4).val rfl) $$ H6
  iapply (wchunk I c 0 ![0, 0] rfl k0_pay1 pay1_eq) $$ H5 H6
  iintro ⟨H5, H6⟩
  ihave H6 := (wbI_cast I c ((0 : Fin 4).val + 1) 1 rfl) $$ H6
  ihave H5 := (ha_of c (Memref.whole cc0_scratch0) (wc I c 0)) $$ H5
  iapply (wcopy I c 1 ![256, 0] rfl) $$ A1 H5 VL
  iintro H5
  iapply (pend_step I K ι c 2 (by decide) lSem rfl _ rfl _ _) $$ HE H5 HO
  iintro ⟨H5, A1, VL, HO⟩
  ihave H6 := (wbI_cast I c 1 (1 : Fin 4).val rfl) $$ H6
  iapply (wchunk I c 1 ![256, 0] rfl k0_pay2 pay2_eq) $$ H5 H6
  iintro ⟨H5, H6⟩
  ihave H6 := (wbI_cast I c ((1 : Fin 4).val + 1) 2 rfl) $$ H6
  ihave H5 := (ha_of c (Memref.whole cc0_scratch0) (wc I c 1)) $$ H5
  iapply (wcopy I c 2 ![512, 0] rfl) $$ A1 H5 VL
  iintro H5
  iapply (pend_step I K ι c 2 (by decide) lSem rfl _ rfl _ _) $$ HE H5 HO
  iintro ⟨H5, A1, VL, HO⟩
  ihave H6 := (wbI_cast I c 2 (2 : Fin 4).val rfl) $$ H6
  iapply (wchunk I c 2 ![512, 0] rfl k0_pay3 pay3_eq) $$ H5 H6
  iintro ⟨H5, H6⟩
  ihave H6 := (wbI_cast I c ((2 : Fin 4).val + 1) 3 rfl) $$ H6
  ihave H5 := (ha_of c (Memref.whole cc0_scratch0) (wc I c 2)) $$ H5
  iapply (wcopy I c 3 ![768, 0] rfl) $$ A1 H5 VL
  iintro H5
  iapply (pend_step I K ι c 2 (by decide) lSem rfl _ rfl _ _) $$ HE H5 HO
  iintro ⟨H5, A1, VL, HO⟩
  iapply (run_ret c)
  iapply Hk
  isplitl [A1]; · iexact A1
  isplitl [H5]; · iexact H5
  isplitl [VL]; · iexact VL
  isplitl [HO]; · iexact HO
  iexact H6

end Cert.Ring

end
-- ==== Proof.Part3.lean ====
/- Part 3 of the body, run. -/
module

public import proofs.«01_k».proof.Proof.Steps4

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

open Idealize.ShloMosaic.Rounds (atPos dutyTok reached cellInv openTok)

variable [FloatOps F]
local notation "𝕄" => MT nD τ sig ℕ (Elt F) ℕ UU ℕ

variable (I : Ins F) (K : GSem nD τ sig → ℕ) (ι : Key → ℕ)
variable (c : Dev nD)

set_option maxHeartbeats 1000000 in
/-- Part 3 of the body: what it takes and what it leaves. -/
theorem part3_run (arg2 : Memref sig .tc .smem S1x1 .f32) (harg2 : arg2.IsWhole) (arg3 : Memref sig .tc .smem S1x1 .f32) (harg3 : arg3.IsWhole) (v2 : BitVec 32) (v13 : BitVec 32) (v24 : BitVec 32)
    (Q : PUnit → sProp 𝕄) :
    env I K ι c ⊢ iprop(wbI I c 3
      -∗ hv c (Memref.whole cc0_scratch0) fullShare (wc I c 3)
      -∗ hv c (Memref.whole main_arg0) fullShare (I.x c)
      -∗ ha c (Memref.whole cc0_scratch2)
      -∗ semVal ((c : Thread nD τ), .dma lSem) 0
      -∗ ow c 2
      -∗ ha c (Memref.whole cc0_scratch3)
      -∗ ha (nxt false c) (slotM false false)
      -∗ xf c false 0 0
      -∗ peer c
      -∗ iprop((iprop(hv c (Memref.whole cc0_scratch1) fullShare (I.wb c) ∗ hv c (Memref.whole cc0_scratch0) fullShare (wc I c 3) ∗ hv c (Memref.whole main_arg0) fullShare (I.x c) ∗ hv c (Memref.whole cc0_scratch2) fullShare (I.xb c c) ∗ semVal ((c : Thread nD τ), .dma lSem) 0 ∗ ow c 3 ∗ hv c (stageM true) fullShare (half true (I.prod c c)) ∗ xf c false 0 1 ∗ peer c) -∗ Q ⟨⟩))
      -∗ Run c (k0_part3 (F := F) (Memref.whole main_arg0) (Memref.isWhole_whole _) (Memref.whole main_arg1) (Memref.isWhole_whole _) arg2 harg2 arg3 harg3 (Memref.whole main_v3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18 c v2 v13 v24) Q) := by
  rw [k0_part3_eq_skeleton]
  unfold k0_part3_skel
  simp only [semSignalWord, semWaitWord, Prog.lift, Prog.bind_op, Prog.bind_ret, Prog.pure_eq_ret]
  iintro #HE H6 H5 A0 H7 VL HO H8 N00 X00 #HP Hk
  ihave H6 := (wbI_cast I c 3 (3 : Fin 4).val rfl) $$ H6
  iapply (wchunk I c 3 ![768, 0] rfl k0_pay4 pay4_eq) $$ H5 H6
  iintro ⟨H5, H6⟩
  ihave H6 := (wbI_cast I c ((3 : Fin 4).val + 1) 4 rfl) $$ H6
  ihave H6 := (wbI_close I c) $$ H6
  iapply (xcopy I c c (k0_off1 c) (off1 c)) $$ A0 H7 VL
  iintro H7
  iapply (pend_step I K ι c 2 (by decide) lSem rfl _ rfl _ _) $$ HE H7 HO
  iintro ⟨H7, A0, VL, HO⟩
  ihave H8 := (ha_open c (Memref.whole cc0_scratch3)) $$ H8
  icases H8 with ⟨%X8, H8⟩
  iapply (load_full (s := S1024x1024) (e := .f32) (cs := .vmem) c (Memref.whole cc0_scratch2) ![0, 0] (by decide) fullShare (I.xb c c)) $$ H7
  iintro H7
  iapply (load_full (s := S1024x2048) (e := .bf16) (cs := .vmem) c (Memref.whole cc0_scratch1) ![0, 0] (by decide) fullShare (I.wb c)) $$ H6
  iintro H6
  iapply (load_full (s := S1024x2048) (e := .f32) (cs := .vmem) c (Memref.whole cc0_scratch3) ![0, 0] (by decide) fullShare X8) $$ H8
  iintro H8
  iapply (store_full (s := S1024x2048) (e := .f32) (cs := .vmem) c (Memref.whole cc0_scratch3) ![0, 0] (by decide) X8 (k0_pay5 (I.xb c c) (I.wb c))) $$ H8
  iintro H8
  ihave H8 := (hv_cast c (Memref.whole cc0_scratch3) fullShare (k0_pay5 (I.xb c c) (I.wb c)) (Memref.whole cc0_scratch3) fullShare (I.prod c c) rfl rfl (pay5_eq I c c)) $$ H8
  ihave H8 := (stage_split c (I.prod c c)) $$ H8
  icases H8 with ⟨G0, G1⟩
  ihave Z := (hv_cast c (stageM false) fullShare (half false (I.prod c c)) (srcM false 0) (qk 0) (I.sent false c 0) (src0 false) rfl rfl) $$ G0
  ihave N00 := (ha_cast (nxt false c) (slotM false false) (dstM false 0) rfl) $$ N00
  iapply (send_step I K ι c false 0 2 rfl rfl rfl (dev3 c) rfl rfl) $$ HE HP Z N00 X00 HO
  iintro ⟨X00, HO⟩
  ihave HO := (ow_cast c (2 + 1) 3 rfl) $$ HO
  iapply (run_ret c)
  iapply Hk
  isplitl [H6]; · iexact H6
  isplitl [H5]; · iexact H5
  isplitl [A0]; · iexact A0
  isplitl [H7]; · iexact H7
  isplitl [VL]; · iexact VL
  isplitl [HO]; · iexact HO
  isplitl [G1]; · iexact G1
  isplitl [X00]; · iexact X00
  iexact HP

end Cert.Ring

end
-- ==== Proof.Part4.lean ====
/- Part 4 of the body, run. -/
module

public import proofs.«01_k».proof.Proof.Steps4

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

open Idealize.ShloMosaic.Rounds (atPos dutyTok reached cellInv openTok)

variable [FloatOps F]
local notation "𝕄" => MT nD τ sig ℕ (Elt F) ℕ UU ℕ

variable (I : Ins F) (K : GSem nD τ sig → ℕ) (ι : Key → ℕ)
variable (c : Dev nD)

set_option maxHeartbeats 1000000 in
/-- Part 4 of the body: what it takes and what it leaves. -/
theorem part4_run (arg2 : Memref sig .tc .smem S1x1 .f32) (harg2 : arg2.IsWhole) (arg3 : Memref sig .tc .smem S1x1 .f32) (harg3 : arg3.IsWhole) (v2 : BitVec 32)
    (Q : (Σ' (_ : BitVec 32) (_ : BitVec 32) (_ : BitVec 32) (_ : BitVec 32) (_ : BitVec 1) (_ : BitVec 1), BitVec 32) → sProp 𝕄) :
    env I K ι c ⊢ iprop(hv c (stageM true) fullShare (half true (I.prod c c))
      -∗ ha (nxt true c) (slotM true false)
      -∗ xf c true 0 0
      -∗ ow c 3
      -∗ peer c
      -∗ iprop(∀ r, (iprop(xf c true 0 1 ∗ ow c 4 ∗ peer c) -∗ Q r))
      -∗ Run c (k0_part4 (F := F) (Memref.whole main_arg0) (Memref.isWhole_whole _) (Memref.whole main_arg1) (Memref.isWhole_whole _) arg2 harg2 arg3 harg3 (Memref.whole main_v3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18 c v2) Q) := by
  rw [k0_part4_eq_skeleton]
  unfold k0_part4_skel
  simp only [semSignalWord, semWaitWord, Prog.lift, Prog.bind_op, Prog.bind_ret, Prog.pure_eq_ret]
  iintro #HE G1 N10 X10 HO #HP Hk
  ihave Z := (hv_cast c (stageM true) fullShare (half true (I.prod c c)) (srcM true 0) (qk 0) (I.sent true c 0) (src0 true) rfl rfl) $$ G1
  ihave N10 := (ha_cast (nxt true c) (slotM true false) (dstM true 0) rfl) $$ N10
  iapply (send_step I K ι c true 0 3 rfl rfl rfl (dev4 c) rfl rfl) $$ HE HP Z N10 X10 HO
  iintro ⟨X10, HO⟩
  ihave HO := (ow_cast c (3 + 1) 4 rfl) $$ HO
  iapply (run_ret c)
  iapply Hk
  isplitl [X10]; · iexact X10
  isplitl [HO]; · iexact HO
  iexact HP

end Cert.Ring

end
-- ==== Proof.Part5.lean ====
/- Part 5 of the body, run. -/
module

public import proofs.«01_k».proof.Proof.Steps4

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

open Idealize.ShloMosaic.Rounds (atPos dutyTok reached cellInv openTok)

variable [FloatOps F]
local notation "𝕄" => MT nD τ sig ℕ (Elt F) ℕ UU ℕ

variable (I : Ins F) (K : GSem nD τ sig → ℕ) (ι : Key → ℕ)
variable (c : Dev nD)

set_option maxHeartbeats 1000000 in
/-- Part 5 of the body: what it takes and what it leaves. -/
theorem part5_run (arg2 : Memref sig .tc .smem S1x1 .f32) (harg2 : arg2.IsWhole) (arg3 : Memref sig .tc .smem S1x1 .f32) (harg3 : arg3.IsWhole) (v96 : BitVec 32) (v107 : BitVec 32) (v110 : BitVec 32) (v111 : BitVec 32) (w112 : BitVec 1) (w113 : BitVec 1) (c0 : BitVec 32)
    (Q : PUnit → sProp 𝕄) :
    env I K ι c ⊢ iprop(hv c (Memref.whole main_arg0) fullShare (I.x c)
      -∗ hv c (Memref.whole cc0_scratch2) fullShare (I.xb c c)
      -∗ semVal ((c : Thread nD τ), .dma lSem) 0
      -∗ ow c 4
      -∗ hv c (Memref.whole cc0_scratch1) fullShare (I.wb c)
      -∗ ha c (Memref.whole cc0_scratch4)
      -∗ iprop((iprop(pend c lSem (Memref.whole cc0_scratch2).view.dmaCredit (hv c (Memref.whole cc0_scratch2) fullShare (I.xb c (c + 2))) (hv c (Memref.whole main_arg0) fullShare (I.x c)) ∗ ow c 4 ∗ hv c (Memref.whole cc0_scratch1) fullShare (I.wb c) ∗ p9I I c 2) -∗ Q ⟨⟩))
      -∗ Run c (k0_part5 (F := F) (Memref.whole main_arg0) (Memref.isWhole_whole _) (Memref.whole main_arg1) (Memref.isWhole_whole _) arg2 harg2 arg3 harg3 (Memref.whole main_v3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18 c v96 v107 v110 v111 w112 w113 c0) Q) := by
  rw [k0_part5_eq_skeleton]
  unfold k0_part5_skel
  simp only [semSignalWord, semWaitWord, Prog.lift, Prog.bind_op, Prog.bind_ret, Prog.pure_eq_ret]
  iintro #HE A0 H7 VL HO H6 H9 Hk
  ihave H7 := (ha_of c (Memref.whole cc0_scratch2) (I.xb c c)) $$ H7
  iapply (xcopy I c (c + 3) (k0_off2 c) (off2 c)) $$ A0 H7 VL
  iintro H7
  iapply (pend_step I K ι c 4 (by decide) lSem rfl _ rfl _ _) $$ HE H7 HO
  iintro ⟨H7, A0, VL, HO⟩
  ihave H9 := (p9I_open I c) $$ H9
  ihave H9 := (p9I_cast I c 0 (0 : Fin 3).val rfl) $$ H9
  iapply (keep I c 0 (c + 3) rfl ![0, 0, 0] rfl k0_pay6 (pay6_eq I c (c + 3))) $$ H7 H6 H9
  iintro ⟨H7, H6, H9⟩
  ihave H9 := (p9I_cast I c ((0 : Fin 3).val + 1) 1 rfl) $$ H9
  ihave H7 := (ha_of c (Memref.whole cc0_scratch2) (I.xb c (c + 3))) $$ H7
  iapply (xcopy I c (c + 1) (k0_off3 c 1#32) (off3a c)) $$ A0 H7 VL
  iintro H7
  iapply (pend_step I K ι c 4 (by decide) lSem rfl _ rfl _ _) $$ HE H7 HO
  iintro ⟨H7, A0, VL, HO⟩
  ihave H9 := (p9I_cast I c 1 (1 : Fin 3).val rfl) $$ H9
  iapply (keep I c 1 (c + 1) rfl ![1, 0, 0] rfl k0_pay7 (pay7_eq I c (c + 1))) $$ H7 H6 H9
  iintro ⟨H7, H6, H9⟩
  ihave H9 := (p9I_cast I c ((1 : Fin 3).val + 1) 2 rfl) $$ H9
  ihave H7 := (ha_of c (Memref.whole cc0_scratch2) (I.xb c (c + 1))) $$ H7
  iapply (xcopy I c (c + 2) (k0_off3 c 2#32) (off3b c)) $$ A0 H7 VL
  iintro H7
  iapply (run_ret c)
  iapply Hk
  isplitl [H7]; · iexact H7
  isplitl [HO]; · iexact HO
  isplitl [H6]; · iexact H6
  iexact H9

end Cert.Ring

end
-- ==== Proof.Part6.lean ====
/- Part 6 of the body, run. -/
module

public import proofs.«01_k».proof.Proof.Steps4

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

open Idealize.ShloMosaic.Rounds (atPos dutyTok reached cellInv openTok)

variable [FloatOps F]
local notation "𝕄" => MT nD τ sig ℕ (Elt F) ℕ UU ℕ

variable (I : Ins F) (K : GSem nD τ sig → ℕ) (ι : Key → ℕ)
variable (c : Dev nD)

set_option maxHeartbeats 1000000 in
/-- Part 6 of the body: what it takes and what it leaves. -/
theorem part6_run (arg2 : Memref sig .tc .smem S1x1 .f32) (harg2 : arg2.IsWhole) (arg3 : Memref sig .tc .smem S1x1 .f32) (harg3 : arg3.IsWhole) (v24 : BitVec 32)
    (Q : PUnit → sProp 𝕄) :
    env I K ι c ⊢ iprop(pend c lSem (Memref.whole cc0_scratch2).view.dmaCredit (hv c (Memref.whole cc0_scratch2) fullShare (I.xb c (c + 2))) (hv c (Memref.whole main_arg0) fullShare (I.x c))
      -∗ ow c 4
      -∗ hv c (Memref.whole cc0_scratch1) fullShare (I.wb c)
      -∗ p9I I c 2
      -∗ xf c false 0 1
      -∗ iprop((iprop(hv c (Memref.whole cc0_scratch2) fullShare (I.xb c (c + 2)) ∗ ow c 4 ∗ hv c (Memref.whole main_arg0) fullShare (I.x c) ∗ semVal ((c : Thread nD τ), .dma lSem) 0 ∗ hv c (Memref.whole cc0_scratch1) fullShare (I.wb c) ∗ hv c (Memref.whole cc0_scratch4) fullShare (I.p9 c) ∗ xf c false 0 3 ∗ hv c (stageM false) fullShare (I.sent false c 0) ∗ hv c (slotM false false) fullShare (I.sent false (prv false c) 0)) -∗ Q ⟨⟩))
      -∗ Run c (k0_part6 (F := F) (Memref.whole main_arg0) (Memref.isWhole_whole _) (Memref.whole main_arg1) (Memref.isWhole_whole _) arg2 harg2 arg3 harg3 (Memref.whole main_v3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18 c v24) Q) := by
  rw [k0_part6_eq_skeleton]
  unfold k0_part6_skel
  simp only [semSignalWord, semWaitWord, Prog.lift, Prog.bind_op, Prog.bind_ret, Prog.pure_eq_ret]
  iintro #HE H7 HO H6 H9 X00 Hk
  iapply (pend_step I K ι c 4 (by decide) lSem rfl _ rfl _ _) $$ HE H7 HO
  iintro ⟨H7, A0, VL, HO⟩
  ihave H9 := (p9I_cast I c 2 (2 : Fin 3).val rfl) $$ H9
  iapply (keep I c 2 (c + 2) rfl ![2, 0, 0] rfl k0_pay8 (pay8_eq I c (c + 2))) $$ H7 H6 H9
  iintro ⟨H7, H6, H9⟩
  ihave H9 := (p9I_cast I c ((2 : Fin 3).val + 1) 3 rfl) $$ H9
  ihave H9 := (p9I_close I c) $$ H9
  iapply (waitS_step I K ι c false 0 4 (by decide) rfl (cr_stage false)) $$ HE X00 HO
  iintro ⟨G0, X00, HO⟩
  ihave G0 := (hv_cast c (srcM false 0) (qk 0) (I.sent false c 0) (stageM false) fullShare (I.sent false c 0) (src0 false).symm rfl rfl) $$ G0
  iapply (waitR_step I K ι c false 0 4 (by decide) (by decide) rfl (cr_slot false false)) $$ HE X00 HO
  iintro ⟨Q00, X00, HO⟩
  ihave Q00 := (hv_cast c (dstM false 0) fullShare (I.sent false (prv false c) 0) (slotM false false) fullShare (I.sent false (prv false c) 0) rfl rfl rfl) $$ Q00
  iapply (run_ret c)
  iapply Hk
  isplitl [H7]; · iexact H7
  isplitl [HO]; · iexact HO
  isplitl [A0]; · iexact A0
  isplitl [VL]; · iexact VL
  isplitl [H6]; · iexact H6
  isplitl [H9]; · iexact H9
  isplitl [X00]; · iexact X00
  isplitl [G0]; · iexact G0
  iexact Q00

end Cert.Ring

end
-- ==== Proof.Part7.lean ====
/- Part 7 of the body, run. -/
module

public import proofs.«01_k».proof.Proof.Steps4

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

open Idealize.ShloMosaic.Rounds (atPos dutyTok reached cellInv openTok)

variable [FloatOps F]
local notation "𝕄" => MT nD τ sig ℕ (Elt F) ℕ UU ℕ

variable (I : Ins F) (K : GSem nD τ sig → ℕ) (ι : Key → ℕ)
variable (c : Dev nD)

set_option maxHeartbeats 1000000 in
/-- Part 7 of the body: what it takes and what it leaves. -/
theorem part7_run (arg2 : Memref sig .tc .smem S1x1 .f32) (harg2 : arg2.IsWhole) (arg3 : Memref sig .tc .smem S1x1 .f32) (harg3 : arg3.IsWhole) (v13 : BitVec 32)
    (Q : PUnit → sProp 𝕄) :
    env I K ι c ⊢ iprop(xf c true 0 1
      -∗ ow c 4
      -∗ hv c (slotM false false) fullShare (I.sent false (prv false c) 0)
      -∗ hv c (Memref.whole cc0_scratch4) fullShare (I.p9 c)
      -∗ iprop((iprop(xf c true 0 3 ∗ ow c 4 ∗ hv c (stageM true) fullShare (I.sent true c 0) ∗ hv c (slotM true false) fullShare (I.sent true c 1) ∗ hv c (slotM false false) fullShare (I.sent false c 1) ∗ hv c (Memref.whole cc0_scratch4) fullShare (I.p9 c)) -∗ Q ⟨⟩))
      -∗ Run c (k0_part7 (F := F) (Memref.whole main_arg0) (Memref.isWhole_whole _) (Memref.whole main_arg1) (Memref.isWhole_whole _) arg2 harg2 arg3 harg3 (Memref.whole main_v3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18 v13) Q) := by
  rw [k0_part7_eq_skeleton]
  unfold k0_part7_skel
  simp only [semSignalWord, semWaitWord, Prog.lift, Prog.bind_op, Prog.bind_ret, Prog.pure_eq_ret]
  iintro #HE X10 HO Q00 H9 Hk
  iapply (waitS_step I K ι c true 0 4 (by decide) rfl (cr_stage true)) $$ HE X10 HO
  iintro ⟨G1, X10, HO⟩
  ihave G1 := (hv_cast c (srcM true 0) (qk 0) (I.sent true c 0) (stageM true) fullShare (I.sent true c 0) (src0 true).symm rfl rfl) $$ G1
  iapply (waitR_step I K ι c true 0 4 (by decide) (by decide) rfl (cr_slot true false)) $$ HE X10 HO
  iintro ⟨Q10, X10, HO⟩
  ihave Q10 := (hv_cast c (dstM true 0) fullShare (I.sent true (prv true c) 0) (slotM true false) fullShare (I.sent true (prv true c) 0) rfl rfl rfl) $$ Q10
  iapply (acc I c (Memref.whole cc0_scratch5) false false rfl 0 ![0, 0, 0] rfl ![0, 0, 0] rfl k0_pay9 pay9_eq (I.sent false (prv false c) 0) (prv false c) rfl) $$ Q00 H9
  iintro ⟨Q00, H9⟩
  ihave Q00 := (hv_cast c (slotM false false) fullShare (addP (I.sent false (prv false c) 0) (half false (I.part c (prv false c)))) (slotM false false) fullShare (I.sent false c 1) rfl rfl rfl) $$ Q00
  iapply (acc I c (Memref.whole cc0_scratch6) true false rfl 1 ![0, 0, 0] rfl ![1, 0, 1024] rfl k0_pay10 pay10_eq (I.sent true (prv true c) 0) (prv true c) rfl) $$ Q10 H9
  iintro ⟨Q10, H9⟩
  ihave Q10 := (hv_cast c (slotM true false) fullShare (addP (I.sent true (prv true c) 0) (half true (I.part c (prv true c)))) (slotM true false) fullShare (I.sent true c 1) rfl rfl rfl) $$ Q10
  iapply (run_ret c)
  iapply Hk
  isplitl [X10]; · iexact X10
  isplitl [HO]; · iexact HO
  isplitl [G1]; · iexact G1
  isplitl [Q10]; · iexact Q10
  isplitl [Q00]; · iexact Q00
  iexact H9

end Cert.Ring

end
-- ==== Proof.Part8.lean ====
/- Part 8 of the body, run. -/
module

public import proofs.«01_k».proof.Proof.Steps4

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

open Idealize.ShloMosaic.Rounds (atPos dutyTok reached cellInv openTok)

variable [FloatOps F]
local notation "𝕄" => MT nD τ sig ℕ (Elt F) ℕ UU ℕ

variable (I : Ins F) (K : GSem nD τ sig → ℕ) (ι : Key → ℕ)
variable (c : Dev nD)

set_option maxHeartbeats 1000000 in
/-- Part 8 of the body: what it takes and what it leaves. -/
theorem part8_run (arg2 : Memref sig .tc .smem S1x1 .f32) (harg2 : arg2.IsWhole) (arg3 : Memref sig .tc .smem S1x1 .f32) (harg3 : arg3.IsWhole) (v13 : BitVec 32) (v24 : BitVec 32)
    (Q : PUnit → sProp 𝕄) :
    env I K ι c ⊢ iprop(hv c (slotM false false) fullShare (I.sent false c 1)
      -∗ ha (nxt false c) (slotM false true)
      -∗ xf c false 1 0
      -∗ ow c 4
      -∗ peer c
      -∗ hv c (slotM true false) fullShare (I.sent true c 1)
      -∗ ha (nxt true c) (slotM true true)
      -∗ xf c true 1 0
      -∗ iprop((iprop(hv c (slotM false false) fullShare (I.sent false c 1) ∗ xf c false 1 2 ∗ ow c 6 ∗ peer c ∗ xf c true 1 1) -∗ Q ⟨⟩))
      -∗ Run c (k0_part8 (F := F) (Memref.whole main_arg0) (Memref.isWhole_whole _) (Memref.whole main_arg1) (Memref.isWhole_whole _) arg2 harg2 arg3 harg3 (Memref.whole main_v3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18 c v13 v24) Q) := by
  rw [k0_part8_eq_skeleton]
  unfold k0_part8_skel
  simp only [semSignalWord, semWaitWord, Prog.lift, Prog.bind_op, Prog.bind_ret, Prog.pure_eq_ret]
  iintro #HE Q00 N01 X01 HO #HP Q10 N11 X11 Hk
  ihave Z := (hv_cast c (slotM false false) fullShare (I.sent false c 1) (srcM false 1) (qk 1) (I.sent false c 1) (src1 false) rfl rfl) $$ Q00
  ihave N01 := (ha_cast (nxt false c) (slotM false true) (dstM false 1) rfl) $$ N01
  iapply (send_step I K ι c false 1 4 rfl rfl rfl (dev5 c) rfl rfl) $$ HE HP Z N01 X01 HO
  iintro ⟨X01, HO⟩
  ihave HO := (ow_cast c (4 + 1) 5 rfl) $$ HO
  ihave Z := (hv_cast c (slotM true false) fullShare (I.sent true c 1) (srcM true 1) (qk 1) (I.sent true c 1) (src1 true) rfl rfl) $$ Q10
  ihave N11 := (ha_cast (nxt true c) (slotM true true) (dstM true 1) rfl) $$ N11
  iapply (send_step I K ι c true 1 5 rfl rfl rfl (dev6 c) rfl rfl) $$ HE HP Z N11 X11 HO
  iintro ⟨X11, HO⟩
  ihave HO := (ow_cast c (5 + 1) 6 rfl) $$ HO
  iapply (waitS_step I K ι c false 1 6 (by decide) rfl (cr_slot false false)) $$ HE X01 HO
  iintro ⟨Q00, X01, HO⟩
  ihave Q00 := (hv_cast c (srcM false 1) (qk 1) (I.sent false c 1) (slotM false false) fullShare (I.sent false c 1) (src1 false).symm rfl rfl) $$ Q00
  iapply (run_ret c)
  iapply Hk
  isplitl [Q00]; · iexact Q00
  isplitl [X01]; · iexact X01
  isplitl [HO]; · iexact HO
  isplitl []; · iexact HP
  iexact X11

end Cert.Ring

end
-- ==== Proof.Part9.lean ====
/- Part 9 of the body, run. -/
module

public import proofs.«01_k».proof.Proof.Steps4

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

open Idealize.ShloMosaic.Rounds (atPos dutyTok reached cellInv openTok)

variable [FloatOps F]
local notation "𝕄" => MT nD τ sig ℕ (Elt F) ℕ UU ℕ

variable (I : Ins F) (K : GSem nD τ sig → ℕ) (ι : Key → ℕ)
variable (c : Dev nD)

set_option maxHeartbeats 1000000 in
/-- Part 9 of the body: what it takes and what it leaves. -/
theorem part9_run (arg2 : Memref sig .tc .smem S1x1 .f32) (harg2 : arg2.IsWhole) (arg3 : Memref sig .tc .smem S1x1 .f32) (harg3 : arg3.IsWhole) (v13 : BitVec 32) (v24 : BitVec 32)
    (Q : BitVec 32 → sProp 𝕄) :
    env I K ι c ⊢ iprop(xf c false 1 2
      -∗ ow c 6
      -∗ xf c true 1 1
      -∗ hv c (slotM false false) fullShare (I.sent false c 1)
      -∗ crr c false 0
      -∗ dutyTok (ER (F := F)) (crdC false (prv false c)) 0 0
      -∗ peer c
      -∗ iprop(∀ r, (iprop(xf c false 1 3 ∗ ow c 7 ∗ hv c (slotM false true) fullShare (I.sent false (prv false c) 1) ∗ xf c true 1 3 ∗ hv c (slotM true false) fullShare (I.sent true c 1) ∗ hv c (slotM true true) fullShare (I.sent true (prv true c) 1) ∗ crr c false 1 ∗ peer c) -∗ Q r))
      -∗ Run c (k0_part9 (F := F) (Memref.whole main_arg0) (Memref.isWhole_whole _) (Memref.whole main_arg1) (Memref.isWhole_whole _) arg2 harg2 arg3 harg3 (Memref.whole main_v3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18 c v13 v24) Q) := by
  rw [k0_part9_eq_skeleton]
  unfold k0_part9_skel
  simp only [semSignalWord, semWaitWord, Prog.lift, Prog.bind_op, Prog.bind_ret, Prog.pure_eq_ret]
  iintro #HE X01 HO X11 Q00 R0 D00 #HP Hk
  iapply (waitR_step I K ι c false 1 6 (by decide) (by decide) rfl (cr_slot false true)) $$ HE X01 HO
  iintro ⟨Q01, X01, HO⟩
  ihave Q01 := (hv_cast c (dstM false 1) fullShare (I.sent false (prv false c) 1) (slotM false true) fullShare (I.sent false (prv false c) 1) rfl rfl rfl) $$ Q01
  iapply (waitS_step I K ι c true 1 6 (by decide) rfl (cr_slot true false)) $$ HE X11 HO
  iintro ⟨Q10, X11, HO⟩
  ihave Q10 := (hv_cast c (srcM true 1) (qk 1) (I.sent true c 1) (slotM true false) fullShare (I.sent true c 1) (src1 true).symm rfl rfl) $$ Q10
  iapply (waitR_step I K ι c true 1 6 (by decide) (by decide) rfl (cr_slot true true)) $$ HE X11 HO
  iintro ⟨Q11, X11, HO⟩
  ihave Q11 := (hv_cast c (dstM true 1) fullShare (I.sent true (prv true c) 1) (slotM true true) fullShare (I.sent true (prv true c) 1) rfl rfl rfl) $$ Q11
  ihave Q00 := (ha_of c (slotM false false) (I.sent false c 1)) $$ Q00
  ihave Q00 := (ha_cast c (slotM false false) (slotM false (slJ 0)) rfl) $$ Q00
  ihave R0 := (crr_cast c false 0 (0 : Fin 4).val rfl) $$ R0
  iapply (crS_step I K ι c false 0 6 rfl (dev7 c) rfl rfl) $$ HE HP D00 R0 Q00 HO
  iintro ⟨R0, HO⟩
  ihave R0 := (crr_cast c false ((0 : Fin 4).val + 1) 1 rfl) $$ R0
  ihave HO := (ow_cast c (6 + 1) 7 rfl) $$ HO
  iapply (run_ret c)
  iapply Hk
  isplitl [X01]; · iexact X01
  isplitl [HO]; · iexact HO
  isplitl [Q01]; · iexact Q01
  isplitl [X11]; · iexact X11
  isplitl [Q10]; · iexact Q10
  isplitl [Q11]; · iexact Q11
  isplitl [R0]; · iexact R0
  iexact HP

end Cert.Ring

end
-- ==== Proof.Part10.lean ====
/- Part 10 of the body, run. -/
module

public import proofs.«01_k».proof.Proof.Steps4

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

open Idealize.ShloMosaic.Rounds (atPos dutyTok reached cellInv openTok)

variable [FloatOps F]
local notation "𝕄" => MT nD τ sig ℕ (Elt F) ℕ UU ℕ

variable (I : Ins F) (K : GSem nD τ sig → ℕ) (ι : Key → ℕ)
variable (c : Dev nD)

set_option maxHeartbeats 1000000 in
/-- Part 10 of the body: what it takes and what it leaves. -/
theorem part10_run (arg2 : Memref sig .tc .smem S1x1 .f32) (harg2 : arg2.IsWhole) (arg3 : Memref sig .tc .smem S1x1 .f32) (harg3 : arg3.IsWhole) (v24 : BitVec 32) (c1 : BitVec 32)
    (Q : PUnit → sProp 𝕄) :
    env I K ι c ⊢ iprop(hv c (slotM true false) fullShare (I.sent true c 1)
      -∗ crr c true 0
      -∗ dutyTok (ER (F := F)) (crdC true (prv true c)) 0 0
      -∗ ow c 7
      -∗ peer c
      -∗ hv c (slotM false true) fullShare (I.sent false (prv false c) 1)
      -∗ hv c (Memref.whole cc0_scratch4) fullShare (I.p9 c)
      -∗ hv c (slotM true true) fullShare (I.sent true (prv true c) 1)
      -∗ crw c false 0
      -∗ crt c false 0
      -∗ crw c true 0
      -∗ crt c true 0
      -∗ iprop((iprop(crr c true 1 ∗ ow c 8 ∗ peer c ∗ hv c (slotM false true) fullShare (I.sent false c 2) ∗ hv c (Memref.whole cc0_scratch4) fullShare (I.p9 c) ∗ hv c (slotM true true) fullShare (I.sent true c 2) ∗ crw c false 1 ∗ ha (nxt false c) (slotM false false) ∗ crw c true 1 ∗ ha (nxt true c) (slotM true false)) -∗ Q ⟨⟩))
      -∗ Run c (k0_part10 (F := F) (Memref.whole main_arg0) (Memref.isWhole_whole _) (Memref.whole main_arg1) (Memref.isWhole_whole _) arg2 harg2 arg3 harg3 (Memref.whole main_v3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18 c v24 c1) Q) := by
  rw [k0_part10_eq_skeleton]
  unfold k0_part10_skel
  simp only [semSignalWord, semWaitWord, Prog.lift, Prog.bind_op, Prog.bind_ret, Prog.pure_eq_ret]
  iintro #HE Q10 R1 D10 HO #HP Q01 H9 Q11 W0 T00 W1 T10 Hk
  ihave Q10 := (ha_of c (slotM true false) (I.sent true c 1)) $$ Q10
  ihave Q10 := (ha_cast c (slotM true false) (slotM true (slJ 0)) rfl) $$ Q10
  ihave R1 := (crr_cast c true 0 (0 : Fin 4).val rfl) $$ R1
  iapply (crS_step I K ι c true 0 7 rfl (dev8 c) rfl rfl) $$ HE HP D10 R1 Q10 HO
  iintro ⟨R1, HO⟩
  ihave R1 := (crr_cast c true ((0 : Fin 4).val + 1) 1 rfl) $$ R1
  ihave HO := (ow_cast c (7 + 1) 8 rfl) $$ HO
  iapply (acc I c (Memref.whole cc0_scratch5) false true rfl 2 ![1, 0, 0] rfl ![2, 0, 0] rfl k0_pay11 pay11_eq (I.sent false (prv false c) 1) (c + 2) rfl) $$ Q01 H9
  iintro ⟨Q01, H9⟩
  ihave Q01 := (hv_cast c (slotM false true) fullShare (addP (I.sent false (prv false c) 1) (half false (I.part c (c + 2)))) (slotM false true) fullShare (I.sent false c 2) rfl rfl rfl) $$ Q01
  iapply (acc I c (Memref.whole cc0_scratch6) true true rfl 2 ![1, 0, 0] rfl ![2, 0, 1024] rfl k0_pay12 pay12_eq (I.sent true (prv true c) 1) (c + 2) rfl) $$ Q11 H9
  iintro ⟨Q11, H9⟩
  ihave Q11 := (hv_cast c (slotM true true) fullShare (addP (I.sent true (prv true c) 1) (half true (I.part c (c + 2)))) (slotM true true) fullShare (I.sent true c 2) rfl rfl rfl) $$ Q11
  ihave W0 := (crw_cast c false 0 (0 : Fin 4).val rfl) $$ W0
  iapply (crW_step I K ι c false 0 8 (by decide) (by decide) rfl rfl) $$ HE W0 T00 HO
  iintro ⟨W0, N00, HO⟩
  ihave W0 := (crw_cast c false ((0 : Fin 4).val + 1) 1 rfl) $$ W0
  ihave N00 := (ha_cast (nxt false c) (dstM false (kJ 0)) (slotM false false) rfl) $$ N00
  ihave W1 := (crw_cast c true 0 (0 : Fin 4).val rfl) $$ W1
  iapply (crW_step I K ι c true 0 8 (by decide) (by decide) rfl rfl) $$ HE W1 T10 HO
  iintro ⟨W1, N10, HO⟩
  ihave W1 := (crw_cast c true ((0 : Fin 4).val + 1) 1 rfl) $$ W1
  ihave N10 := (ha_cast (nxt true c) (dstM true (kJ 0)) (slotM true false) rfl) $$ N10
  iapply (run_ret c)
  iapply Hk
  isplitl [R1]; · iexact R1
  isplitl [HO]; · iexact HO
  isplitl []; · iexact HP
  isplitl [Q01]; · iexact Q01
  isplitl [H9]; · iexact H9
  isplitl [Q11]; · iexact Q11
  isplitl [W0]; · iexact W0
  isplitl [N00]; · iexact N00
  isplitl [W1]; · iexact W1
  iexact N10

end Cert.Ring

end
-- ==== Proof.Part11.lean ====
/- Part 11 of the body, run. -/
module

public import proofs.«01_k».proof.Proof.Steps4

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

open Idealize.ShloMosaic.Rounds (atPos dutyTok reached cellInv openTok)

variable [FloatOps F]
local notation "𝕄" => MT nD τ sig ℕ (Elt F) ℕ UU ℕ

variable (I : Ins F) (K : GSem nD τ sig → ℕ) (ι : Key → ℕ)
variable (c : Dev nD)

set_option maxHeartbeats 1000000 in
/-- Part 11 of the body: what it takes and what it leaves. -/
theorem part11_run (arg2 : Memref sig .tc .smem S1x1 .f32) (harg2 : arg2.IsWhole) (arg3 : Memref sig .tc .smem S1x1 .f32) (harg3 : arg3.IsWhole) (v13 : BitVec 32) (v24 : BitVec 32)
    (Q : PUnit → sProp 𝕄) :
    env I K ι c ⊢ iprop(hv c (slotM false true) fullShare (I.sent false c 2)
      -∗ ha (nxt false c) (slotM false false)
      -∗ xf c false 2 0
      -∗ ow c 8
      -∗ peer c
      -∗ hv c (slotM true true) fullShare (I.sent true c 2)
      -∗ ha (nxt true c) (slotM true false)
      -∗ xf c true 2 0
      -∗ iprop((iprop(hv c (slotM false true) fullShare (I.sent false c 2) ∗ xf c false 2 2 ∗ ow c 10 ∗ peer c ∗ xf c true 2 1) -∗ Q ⟨⟩))
      -∗ Run c (k0_part11 (F := F) (Memref.whole main_arg0) (Memref.isWhole_whole _) (Memref.whole main_arg1) (Memref.isWhole_whole _) arg2 harg2 arg3 harg3 (Memref.whole main_v3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18 c v13 v24) Q) := by
  rw [k0_part11_eq_skeleton]
  unfold k0_part11_skel
  simp only [semSignalWord, semWaitWord, Prog.lift, Prog.bind_op, Prog.bind_ret, Prog.pure_eq_ret]
  iintro #HE Q01 N00 X02 HO #HP Q11 N10 X12 Hk
  ihave Z := (hv_cast c (slotM false true) fullShare (I.sent false c 2) (srcM false 2) (qk 2) (I.sent false c 2) (src2 false) rfl rfl) $$ Q01
  ihave N00 := (ha_cast (nxt false c) (slotM false false) (dstM false 2) rfl) $$ N00
  iapply (send_step I K ι c false 2 8 rfl rfl rfl (dev9 c) rfl rfl) $$ HE HP Z N00 X02 HO
  iintro ⟨X02, HO⟩
  ihave HO := (ow_cast c (8 + 1) 9 rfl) $$ HO
  ihave Z := (hv_cast c (slotM true true) fullShare (I.sent true c 2) (srcM true 2) (qk 2) (I.sent true c 2) (src2 true) rfl rfl) $$ Q11
  ihave N10 := (ha_cast (nxt true c) (slotM true false) (dstM true 2) rfl) $$ N10
  iapply (send_step I K ι c true 2 9 rfl rfl rfl (dev10 c) rfl rfl) $$ HE HP Z N10 X12 HO
  iintro ⟨X12, HO⟩
  ihave HO := (ow_cast c (9 + 1) 10 rfl) $$ HO
  iapply (waitS_step I K ι c false 2 10 (by decide) rfl (cr_slot false true)) $$ HE X02 HO
  iintro ⟨Q01, X02, HO⟩
  ihave Q01 := (hv_cast c (srcM false 2) (qk 2) (I.sent false c 2) (slotM false true) fullShare (I.sent false c 2) (src2 false).symm rfl rfl) $$ Q01
  iapply (run_ret c)
  iapply Hk
  isplitl [Q01]; · iexact Q01
  isplitl [X02]; · iexact X02
  isplitl [HO]; · iexact HO
  isplitl []; · iexact HP
  iexact X12

end Cert.Ring

end
-- ==== Proof.Part12.lean ====
/- Part 12 of the body, run. -/
module

public import proofs.«01_k».proof.Proof.Steps4

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

open Idealize.ShloMosaic.Rounds (atPos dutyTok reached cellInv openTok)

variable [FloatOps F]
local notation "𝕄" => MT nD τ sig ℕ (Elt F) ℕ UU ℕ

variable (I : Ins F) (K : GSem nD τ sig → ℕ) (ι : Key → ℕ)
variable (c : Dev nD)

set_option maxHeartbeats 1000000 in
/-- Part 12 of the body: what it takes and what it leaves. -/
theorem part12_run (arg2 : Memref sig .tc .smem S1x1 .f32) (harg2 : arg2.IsWhole) (arg3 : Memref sig .tc .smem S1x1 .f32) (harg3 : arg3.IsWhole) (v13 : BitVec 32) (v24 : BitVec 32)
    (Q : F .f32 → sProp 𝕄) :
    env I K ι c ⊢ iprop(xf c false 2 2
      -∗ ow c 10
      -∗ xf c true 2 1
      -∗ hv c (slotM false true) fullShare (I.sent false c 2)
      -∗ crr c false 1
      -∗ dutyTok (ER (F := F)) (crdC false (prv false c)) 0 1
      -∗ peer c
      -∗ crr c true 1
      -∗ dutyTok (ER (F := F)) (crdC true (prv true c)) 0 1
      -∗ hv c arg2 fullShare (I.s1 c)
      -∗ hv c arg3 fullShare (I.s2 c)
      -∗ iprop((iprop(xf c false 2 3 ∗ ow c 12 ∗ hv c (slotM false false) fullShare (I.sent false (prv false c) 2) ∗ xf c true 2 3 ∗ hv c (slotM true false) fullShare (I.sent true (prv true c) 2) ∗ crr c false 2 ∗ peer c ∗ crr c true 2 ∗ hv c arg2 fullShare (I.s1 c) ∗ hv c arg3 fullShare (I.s2 c)) -∗ Q (I.sc c)))
      -∗ Run c (k0_part12 (F := F) (Memref.whole main_arg0) (Memref.isWhole_whole _) (Memref.whole main_arg1) (Memref.isWhole_whole _) arg2 harg2 arg3 harg3 (Memref.whole main_v3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18 c v13 v24) Q) := by
  rw [k0_part12_eq_skeleton]
  unfold k0_part12_skel
  simp only [semSignalWord, semWaitWord, Prog.lift, Prog.bind_op, Prog.bind_ret, Prog.pure_eq_ret]
  iintro #HE X02 HO X12 Q01 R0 D01 #HP R1 D11 S1 S2 Hk
  iapply (waitR_step I K ι c false 2 10 (by decide) (by decide) rfl (cr_slot false false)) $$ HE X02 HO
  iintro ⟨Q00, X02, HO⟩
  ihave Q00 := (hv_cast c (dstM false 2) fullShare (I.sent false (prv false c) 2) (slotM false false) fullShare (I.sent false (prv false c) 2) rfl rfl rfl) $$ Q00
  iapply (waitS_step I K ι c true 2 10 (by decide) rfl (cr_slot true true)) $$ HE X12 HO
  iintro ⟨Q11, X12, HO⟩
  ihave Q11 := (hv_cast c (srcM true 2) (qk 2) (I.sent true c 2) (slotM true true) fullShare (I.sent true c 2) (src2 true).symm rfl rfl) $$ Q11
  iapply (waitR_step I K ι c true 2 10 (by decide) (by decide) rfl (cr_slot true false)) $$ HE X12 HO
  iintro ⟨Q10, X12, HO⟩
  ihave Q10 := (hv_cast c (dstM true 2) fullShare (I.sent true (prv true c) 2) (slotM true false) fullShare (I.sent true (prv true c) 2) rfl rfl rfl) $$ Q10
  ihave Q01 := (ha_of c (slotM false true) (I.sent false c 2)) $$ Q01
  ihave Q01 := (ha_cast c (slotM false true) (slotM false (slJ 1)) rfl) $$ Q01
  ihave R0 := (crr_cast c false 1 (1 : Fin 4).val rfl) $$ R0
  iapply (crS_step I K ι c false 1 10 rfl (dev11 c) rfl rfl) $$ HE HP D01 R0 Q01 HO
  iintro ⟨R0, HO⟩
  ihave R0 := (crr_cast c false ((1 : Fin 4).val + 1) 2 rfl) $$ R0
  ihave HO := (ow_cast c (10 + 1) 11 rfl) $$ HO
  ihave Q11 := (ha_of c (slotM true true) (I.sent true c 2)) $$ Q11
  ihave Q11 := (ha_cast c (slotM true true) (slotM true (slJ 1)) rfl) $$ Q11
  ihave R1 := (crr_cast c true 1 (1 : Fin 4).val rfl) $$ R1
  iapply (crS_step I K ι c true 1 11 rfl (dev12 c) rfl rfl) $$ HE HP D11 R1 Q11 HO
  iintro ⟨R1, HO⟩
  ihave R1 := (crr_cast c true ((1 : Fin 4).val + 1) 2 rfl) $$ R1
  ihave HO := (ow_cast c (11 + 1) 12 rfl) $$ HO
  iapply (scale_step c arg2 fullShare (I.s1 c)) $$ S1
  iintro S1
  iapply (scale_step c arg3 fullShare (I.s2 c)) $$ S2
  iintro S2
  iapply (run_ret c)
  rw [scale_eq I c]
  iapply Hk
  isplitl [X02]; · iexact X02
  isplitl [HO]; · iexact HO
  isplitl [Q00]; · iexact Q00
  isplitl [X12]; · iexact X12
  isplitl [Q10]; · iexact Q10
  isplitl [R0]; · iexact R0
  isplitl []; · iexact HP
  isplitl [R1]; · iexact R1
  isplitl [S1]; · iexact S1
  iexact S2

end Cert.Ring

end
-- ==== Proof.Part13.lean ====
/- Part 13 of the body, run. -/
module

public import proofs.«01_k».proof.Proof.Steps4

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

open Idealize.ShloMosaic.Rounds (atPos dutyTok reached cellInv openTok)

variable [FloatOps F]
local notation "𝕄" => MT nD τ sig ℕ (Elt F) ℕ UU ℕ

variable (I : Ins F) (K : GSem nD τ sig → ℕ) (ι : Key → ℕ)
variable (c : Dev nD)

set_option maxHeartbeats 1000000 in
/-- Part 13 of the body: what it takes and what it leaves. -/
theorem part13_run (arg2 : Memref sig .tc .smem S1x1 .f32) (harg2 : arg2.IsWhole) (arg3 : Memref sig .tc .smem S1x1 .f32) (harg3 : arg3.IsWhole) (v2 : BitVec 32) (v13 : BitVec 32) (v24 : BitVec 32)
    (Q : (Σ' (_ : BitVec 32), BitVec 32) → sProp 𝕄) :
    env I K ι c ⊢ iprop(hv c (slotM false false) fullShare (I.sent false (prv false c) 2)
      -∗ hv c (Memref.whole cc0_scratch4) fullShare (I.p9 c)
      -∗ hv c (stageM false) fullShare (I.sent false c 0)
      -∗ hv c (slotM true false) fullShare (I.sent true (prv true c) 2)
      -∗ hv c (stageM true) fullShare (I.sent true c 0)
      -∗ crr c false 2
      -∗ dutyTok (ER (F := F)) (crdC false (prv false c)) 0 2
      -∗ ow c 12
      -∗ peer c
      -∗ crr c true 2
      -∗ dutyTok (ER (F := F)) (crdC true (prv true c)) 0 2
      -∗ iprop(∀ r, (iprop(hv c (Memref.whole cc0_scratch4) fullShare (I.p9 c) ∗ hv c (stageM false) fullShare (I.sent false c 3) ∗ hv c (stageM true) fullShare (I.sent true c 3) ∗ crr c false 3 ∗ ow c 14 ∗ peer c ∗ crr c true 3) -∗ Q r))
      -∗ Run c (k0_part13 (F := F) (Memref.whole main_arg0) (Memref.isWhole_whole _) (Memref.whole main_arg1) (Memref.isWhole_whole _) arg2 harg2 arg3 harg3 (Memref.whole main_v3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18 c v2 v13 v24 (I.sc c)) Q) := by
  rw [k0_part13_eq_skeleton]
  unfold k0_part13_skel
  simp only [semSignalWord, semWaitWord, Prog.lift, Prog.bind_op, Prog.bind_ret, Prog.pure_eq_ret]
  iintro #HE Q00 H9 G0 Q10 G1 R0 D02 HO #HP R1 D12 Hk
  iapply (finish I c (Memref.whole cc0_scratch5) false false rfl 1 ![0, 0, 0] rfl ![1, 0, 0] rfl ![0, 0] rfl (I.sc c) (k0_pay14 (I.sc c)) (pay14_eq (I.sc c)) (I.sent false (prv false c) 2) (I.sent false c 0) (nxt false c) (nb_nxt c false)) $$ Q00 H9 G0
  iintro ⟨Q00, H9, G0⟩
  ihave G0 := (hv_cast c (stageM false) fullShare (fin (I.sc c) (addP (I.sent false (prv false c) 2) (half false (I.part c (nxt false c))))) (stageM false) fullShare (I.sent false c 3) rfl rfl rfl) $$ G0
  iapply (finish I c (Memref.whole cc0_scratch6) true false rfl 0 ![0, 0, 0] rfl ![0, 0, 1024] rfl ![0, 1024] rfl (I.sc c) (k0_pay15 (I.sc c)) (pay15_eq (I.sc c)) (I.sent true (prv true c) 2) (I.sent true c 0) (nxt true c) (nb_nxt c true)) $$ Q10 H9 G1
  iintro ⟨Q10, H9, G1⟩
  ihave G1 := (hv_cast c (stageM true) fullShare (fin (I.sc c) (addP (I.sent true (prv true c) 2) (half true (I.part c (nxt true c))))) (stageM true) fullShare (I.sent true c 3) rfl rfl rfl) $$ G1
  ihave Q00 := (ha_of c (slotM false false) (I.sent false (prv false c) 2)) $$ Q00
  ihave Q00 := (ha_cast c (slotM false false) (slotM false (slJ 2)) rfl) $$ Q00
  ihave R0 := (crr_cast c false 2 (2 : Fin 4).val rfl) $$ R0
  iapply (crS_step I K ι c false 2 12 rfl (dev13 c) rfl rfl) $$ HE HP D02 R0 Q00 HO
  iintro ⟨R0, HO⟩
  ihave R0 := (crr_cast c false ((2 : Fin 4).val + 1) 3 rfl) $$ R0
  ihave HO := (ow_cast c (12 + 1) 13 rfl) $$ HO
  ihave Q10 := (ha_of c (slotM true false) (I.sent true (prv true c) 2)) $$ Q10
  ihave Q10 := (ha_cast c (slotM true false) (slotM true (slJ 2)) rfl) $$ Q10
  ihave R1 := (crr_cast c true 2 (2 : Fin 4).val rfl) $$ R1
  iapply (crS_step I K ι c true 2 13 rfl (dev14 c) rfl rfl) $$ HE HP D12 R1 Q10 HO
  iintro ⟨R1, HO⟩
  ihave R1 := (crr_cast c true ((2 : Fin 4).val + 1) 3 rfl) $$ R1
  ihave HO := (ow_cast c (13 + 1) 14 rfl) $$ HO
  iapply (run_ret c)
  iapply Hk
  isplitl [H9]; · iexact H9
  isplitl [G0]; · iexact G0
  isplitl [G1]; · iexact G1
  isplitl [R0]; · iexact R0
  isplitl [HO]; · iexact HO
  isplitl []; · iexact HP
  iexact R1

end Cert.Ring

end
-- ==== Proof.Part14.lean ====
/- Part 14 of the body, run. -/
module

public import proofs.«01_k».proof.Proof.Steps4

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

open Idealize.ShloMosaic.Rounds (atPos dutyTok reached cellInv openTok)

variable [FloatOps F]
local notation "𝕄" => MT nD τ sig ℕ (Elt F) ℕ UU ℕ

variable (I : Ins F) (K : GSem nD τ sig → ℕ) (ι : Key → ℕ)
variable (c : Dev nD)

set_option maxHeartbeats 1000000 in
/-- Part 14 of the body: what it takes and what it leaves. -/
theorem part14_run (arg2 : Memref sig .tc .smem S1x1 .f32) (harg2 : arg2.IsWhole) (arg3 : Memref sig .tc .smem S1x1 .f32) (harg3 : arg3.IsWhole) (v2 : BitVec 32) (v349 : BitVec 32) (c4 : BitVec 32)
    (Q : PUnit → sProp 𝕄) :
    env I K ι c ⊢ iprop(hv c (stageM false) fullShare (I.sent false c 3)
      -∗ hv c (stageM true) fullShare (I.sent true c 3)
      -∗ ha c (outM (c + 1) false)
      -∗ semVal ((c : Thread nD τ), .dma (oSem false)) 0
      -∗ ha c (outM (c + 3) true)
      -∗ semVal ((c : Thread nD τ), .dma (oSem true)) 0
      -∗ crw c false 1
      -∗ crt c false 1
      -∗ ow c 14
      -∗ iprop((iprop(hv c (stageM false) hL (I.sent false c 3) ∗ hv c (stageM true) hL (I.sent true c 3) ∗ pend c (oSem false) NO (hv c (outM (c + 1) false) fullShare (I.tile false (c + 1))) (hv c (stageM false) hR (I.sent false c 3)) ∗ pend c (oSem true) NO (hv c (outM (c + 3) true) fullShare (I.tile true (c + 3))) (hv c (stageM true) hR (I.sent true c 3)) ∗ crw c false 2 ∗ ow c 14 ∗ ha (nxt false c) (slotM false true)) -∗ Q ⟨⟩))
      -∗ Run c (k0_part14 (F := F) (Memref.whole main_arg0) (Memref.isWhole_whole _) (Memref.whole main_arg1) (Memref.isWhole_whole _) arg2 harg2 arg3 harg3 (Memref.whole main_v3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18 c v2 v349 c4) Q) := by
  rw [k0_part14_eq_skeleton]
  unfold k0_part14_skel
  simp only [semSignalWord, semWaitWord, Prog.lift, Prog.bind_op, Prog.bind_ret, Prog.pure_eq_ret]
  iintro #HE G0 G1 Y01 V0 Y13 V1 W0 T01 HO Hk
  ihave G0 := (halve c (stageM false) (I.sent false c 3)) $$ G0
  icases G0 with ⟨G0, G0r⟩
  ihave G1 := (halve c (stageM true) (I.sent true c 3)) $$ G1
  icases G1 with ⟨G1, G1r⟩
  iapply (ocopy I c (c + 1) false (k0_off4 c 1#32) (off4a c) (stageM false) _ rfl hR (I.sent false c 3) (tl3 I c false) _ rfl) $$ G0r Y01 V0
  iintro Y01
  iapply (ocopy I c (c + 3) true (k0_off5 c) (off5 c) (stageM true) _ rfl hR (I.sent true c 3) (tl3 I c true) _ rfl) $$ G1r Y13 V1
  iintro Y13
  ihave W0 := (crw_cast c false 1 (1 : Fin 4).val rfl) $$ W0
  iapply (crW_step I K ι c false 1 14 (by decide) (by decide) rfl rfl) $$ HE W0 T01 HO
  iintro ⟨W0, N01, HO⟩
  ihave W0 := (crw_cast c false ((1 : Fin 4).val + 1) 2 rfl) $$ W0
  ihave N01 := (ha_cast (nxt false c) (dstM false (kJ 1)) (slotM false true) rfl) $$ N01
  iapply (run_ret c)
  iapply Hk
  isplitl [G0]; · iexact G0
  isplitl [G1]; · iexact G1
  isplitl [Y01]; · iexact Y01
  isplitl [Y13]; · iexact Y13
  isplitl [W0]; · iexact W0
  isplitl [HO]; · iexact HO
  iexact N01

end Cert.Ring

end
-- ==== Proof.Part15.lean ====
/- Part 15 of the body, run. -/
module

public import proofs.«01_k».proof.Proof.Steps4

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

open Idealize.ShloMosaic.Rounds (atPos dutyTok reached cellInv openTok)

variable [FloatOps F]
local notation "𝕄" => MT nD τ sig ℕ (Elt F) ℕ UU ℕ

variable (I : Ins F) (K : GSem nD τ sig → ℕ) (ι : Key → ℕ)
variable (c : Dev nD)

set_option maxHeartbeats 1000000 in
/-- Part 15 of the body: what it takes and what it leaves. -/
theorem part15_run (arg2 : Memref sig .tc .smem S1x1 .f32) (harg2 : arg2.IsWhole) (arg3 : Memref sig .tc .smem S1x1 .f32) (harg3 : arg3.IsWhole) (v13 : BitVec 32) (v24 : BitVec 32)
    (Q : PUnit → sProp 𝕄) :
    env I K ι c ⊢ iprop(crw c true 1
      -∗ crt c true 1
      -∗ ow c 14
      -∗ hv c (stageM false) hL (I.sent false c 3)
      -∗ ha (nxt false c) (slotM false true)
      -∗ xf c false 3 0
      -∗ peer c
      -∗ hv c (stageM true) hL (I.sent true c 3)
      -∗ xf c true 3 0
      -∗ pend c (oSem false) NO (hv c (outM (c + 1) false) fullShare (I.tile false (c + 1))) (hv c (stageM false) hR (I.sent false c 3))
      -∗ pend c (oSem true) NO (hv c (outM (c + 3) true) fullShare (I.tile true (c + 3))) (hv c (stageM true) hR (I.sent true c 3))
      -∗ iprop((iprop(crw c true 2 ∗ ow c 16 ∗ xf c false 3 1 ∗ peer c ∗ xf c true 3 1 ∗ hv c (outM (c + 1) false) fullShare (I.tile false (c + 1)) ∗ hv c (stageM false) hR (I.sent false c 3) ∗ semVal ((c : Thread nD τ), .dma (oSem false)) 0 ∗ hv c (outM (c + 3) true) fullShare (I.tile true (c + 3)) ∗ hv c (stageM true) hR (I.sent true c 3) ∗ semVal ((c : Thread nD τ), .dma (oSem true)) 0) -∗ Q ⟨⟩))
      -∗ Run c (k0_part15 (F := F) (Memref.whole main_arg0) (Memref.isWhole_whole _) (Memref.whole main_arg1) (Memref.isWhole_whole _) arg2 harg2 arg3 harg3 (Memref.whole main_v3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18 c v13 v24) Q) := by
  rw [k0_part15_eq_skeleton]
  unfold k0_part15_skel
  simp only [semSignalWord, semWaitWord, Prog.lift, Prog.bind_op, Prog.bind_ret, Prog.pure_eq_ret]
  iintro #HE W1 T11 HO G0 N01 X03 #HP G1 X13 Y01 Y13 Hk
  ihave W1 := (crw_cast c true 1 (1 : Fin 4).val rfl) $$ W1
  iapply (crW_step I K ι c true 1 14 (by decide) (by decide) rfl rfl) $$ HE W1 T11 HO
  iintro ⟨W1, N11, HO⟩
  ihave W1 := (crw_cast c true ((1 : Fin 4).val + 1) 2 rfl) $$ W1
  ihave N11 := (ha_cast (nxt true c) (dstM true (kJ 1)) (slotM true true) rfl) $$ N11
  ihave Z := (hv_cast c (stageM false) hL (I.sent false c 3) (srcM false 3) (qk 3) (I.sent false c 3) (src3 false) rfl rfl) $$ G0
  ihave N01 := (ha_cast (nxt false c) (slotM false true) (dstM false 3) rfl) $$ N01
  iapply (send_step I K ι c false 3 14 rfl rfl rfl (dev15 c) rfl rfl) $$ HE HP Z N01 X03 HO
  iintro ⟨X03, HO⟩
  ihave HO := (ow_cast c (14 + 1) 15 rfl) $$ HO
  ihave Z := (hv_cast c (stageM true) hL (I.sent true c 3) (srcM true 3) (qk 3) (I.sent true c 3) (src3 true) rfl rfl) $$ G1
  ihave N11 := (ha_cast (nxt true c) (slotM true true) (dstM true 3) rfl) $$ N11
  iapply (send_step I K ι c true 3 15 rfl rfl rfl (dev16 c) rfl rfl) $$ HE HP Z N11 X13 HO
  iintro ⟨X13, HO⟩
  ihave HO := (ow_cast c (15 + 1) 16 rfl) $$ HO
  iapply (owait I K ι c 16 (by decide) false _ rfl (k0_off4 c 1#32) _ _) $$ HE Y01 HO
  iintro ⟨Y01, G0r, V0, HO⟩
  iapply (owait I K ι c 16 (by decide) true _ rfl (k0_off5 c) _ _) $$ HE Y13 HO
  iintro ⟨Y13, G1r, V1, HO⟩
  iapply (run_ret c)
  iapply Hk
  isplitl [W1]; · iexact W1
  isplitl [HO]; · iexact HO
  isplitl [X03]; · iexact X03
  isplitl []; · iexact HP
  isplitl [X13]; · iexact X13
  isplitl [Y01]; · iexact Y01
  isplitl [G0r]; · iexact G0r
  isplitl [V0]; · iexact V0
  isplitl [Y13]; · iexact Y13
  isplitl [G1r]; · iexact G1r
  iexact V1

end Cert.Ring

end
-- ==== Proof.Part16.lean ====
/- Part 16 of the body, run. -/
module

public import proofs.«01_k».proof.Proof.Steps4

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

open Idealize.ShloMosaic.Rounds (atPos dutyTok reached cellInv openTok)

variable [FloatOps F]
local notation "𝕄" => MT nD τ sig ℕ (Elt F) ℕ UU ℕ

variable (I : Ins F) (K : GSem nD τ sig → ℕ) (ι : Key → ℕ)
variable (c : Dev nD)

set_option maxHeartbeats 1000000 in
/-- Part 16 of the body: what it takes and what it leaves. -/
theorem part16_run (arg2 : Memref sig .tc .smem S1x1 .f32) (harg2 : arg2.IsWhole) (arg3 : Memref sig .tc .smem S1x1 .f32) (harg3 : arg3.IsWhole) (v13 : BitVec 32) (v24 : BitVec 32)
    (Q : PUnit → sProp 𝕄) :
    env I K ι c ⊢ iprop(xf c false 3 1
      -∗ ow c 16
      -∗ xf c true 3 1
      -∗ hv c (stageM false) hR (I.sent false c 3)
      -∗ hv c (stageM true) hR (I.sent true c 3)
      -∗ iprop((iprop(xf c false 3 3 ∗ ow c 16 ∗ hv c (stageM false) fullShare (I.sent false c 3) ∗ hv c (slotM false true) fullShare (I.sent false (prv false c) 3) ∗ xf c true 3 3 ∗ hv c (stageM true) fullShare (I.sent true c 3) ∗ hv c (slotM true true) fullShare (I.sent true (prv true c) 3)) -∗ Q ⟨⟩))
      -∗ Run c (k0_part16 (F := F) (Memref.whole main_arg0) (Memref.isWhole_whole _) (Memref.whole main_arg1) (Memref.isWhole_whole _) arg2 harg2 arg3 harg3 (Memref.whole main_v3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18 v13 v24) Q) := by
  rw [k0_part16_eq_skeleton]
  unfold k0_part16_skel
  simp only [semSignalWord, semWaitWord, Prog.lift, Prog.bind_op, Prog.bind_ret, Prog.pure_eq_ret]
  iintro #HE X03 HO X13 G0r G1r Hk
  iapply (waitS_step I K ι c false 3 16 (by decide) rfl (cr_stage false)) $$ HE X03 HO
  iintro ⟨G0, X03, HO⟩
  ihave G0 := (hv_cast c (srcM false 3) (qk 3) (I.sent false c 3) (stageM false) hL (I.sent false c 3) (src3 false).symm rfl rfl) $$ G0
  iapply (waitR_step I K ι c false 3 16 (by decide) (by decide) rfl (cr_slot false true)) $$ HE X03 HO
  iintro ⟨Q01, X03, HO⟩
  ihave Q01 := (hv_cast c (dstM false 3) fullShare (I.sent false (prv false c) 3) (slotM false true) fullShare (I.sent false (prv false c) 3) rfl rfl rfl) $$ Q01
  iapply (waitS_step I K ι c true 3 16 (by decide) rfl (cr_stage true)) $$ HE X13 HO
  iintro ⟨G1, X13, HO⟩
  ihave G1 := (hv_cast c (srcM true 3) (qk 3) (I.sent true c 3) (stageM true) hL (I.sent true c 3) (src3 true).symm rfl rfl) $$ G1
  iapply (waitR_step I K ι c true 3 16 (by decide) (by decide) rfl (cr_slot true true)) $$ HE X13 HO
  iintro ⟨Q11, X13, HO⟩
  ihave Q11 := (hv_cast c (dstM true 3) fullShare (I.sent true (prv true c) 3) (slotM true true) fullShare (I.sent true (prv true c) 3) rfl rfl rfl) $$ Q11
  ihave G0 := (join c (stageM false) (I.sent false c 3)) $$ G0 G0r
  ihave G1 := (join c (stageM true) (I.sent true c 3)) $$ G1 G1r
  iapply (run_ret c)
  iapply Hk
  isplitl [X03]; · iexact X03
  isplitl [HO]; · iexact HO
  isplitl [G0]; · iexact G0
  isplitl [Q01]; · iexact Q01
  isplitl [X13]; · iexact X13
  isplitl [G1]; · iexact G1
  iexact Q11

end Cert.Ring

end
-- ==== Proof.Part17.lean ====
/- Part 17 of the body, run. -/
module

public import proofs.«01_k».proof.Proof.Steps4

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

open Idealize.ShloMosaic.Rounds (atPos dutyTok reached cellInv openTok)

variable [FloatOps F]
local notation "𝕄" => MT nD τ sig ℕ (Elt F) ℕ UU ℕ

variable (I : Ins F) (K : GSem nD τ sig → ℕ) (ι : Key → ℕ)
variable (c : Dev nD)

set_option maxHeartbeats 1000000 in
/-- Part 17 of the body: what it takes and what it leaves. -/
theorem part17_run (arg2 : Memref sig .tc .smem S1x1 .f32) (harg2 : arg2.IsWhole) (arg3 : Memref sig .tc .smem S1x1 .f32) (harg3 : arg3.IsWhole) (v2 : BitVec 32) (v13 : BitVec 32) (v24 : BitVec 32)
    (Q : PUnit → sProp 𝕄) :
    env I K ι c ⊢ iprop(crw c false 2
      -∗ crt c false 2
      -∗ ow c 16
      -∗ crw c true 2
      -∗ crt c true 2
      -∗ hv c (slotM false true) fullShare (I.sent false (prv false c) 3)
      -∗ xf c false 4 0
      -∗ peer c
      -∗ hv c (slotM true true) fullShare (I.sent true (prv true c) 3)
      -∗ xf c true 4 0
      -∗ iprop((iprop(crw c false 3 ∗ ow c 18 ∗ crw c true 3 ∗ xf c false 4 1 ∗ peer c ∗ hv c (slotM false true) hR (I.sent false (prv false c) 3) ∗ xf c true 4 1 ∗ hv c (slotM true true) hR (I.sent true (prv true c) 3)) -∗ Q ⟨⟩))
      -∗ Run c (k0_part17 (F := F) (Memref.whole main_arg0) (Memref.isWhole_whole _) (Memref.whole main_arg1) (Memref.isWhole_whole _) arg2 harg2 arg3 harg3 (Memref.whole main_v3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18 c v2 v13 v24) Q) := by
  rw [k0_part17_eq_skeleton]
  unfold k0_part17_skel
  simp only [semSignalWord, semWaitWord, Prog.lift, Prog.bind_op, Prog.bind_ret, Prog.pure_eq_ret]
  iintro #HE W0 T02 HO W1 T12 Q01 X04 #HP Q11 X14 Hk
  ihave W0 := (crw_cast c false 2 (2 : Fin 4).val rfl) $$ W0
  iapply (crW_step I K ι c false 2 16 (by decide) (by decide) rfl rfl) $$ HE W0 T02 HO
  iintro ⟨W0, N00, HO⟩
  ihave W0 := (crw_cast c false ((2 : Fin 4).val + 1) 3 rfl) $$ W0
  ihave N00 := (ha_cast (nxt false c) (dstM false (kJ 2)) (slotM false false) rfl) $$ N00
  ihave W1 := (crw_cast c true 2 (2 : Fin 4).val rfl) $$ W1
  iapply (crW_step I K ι c true 2 16 (by decide) (by decide) rfl rfl) $$ HE W1 T12 HO
  iintro ⟨W1, N10, HO⟩
  ihave W1 := (crw_cast c true ((2 : Fin 4).val + 1) 3 rfl) $$ W1
  ihave N10 := (ha_cast (nxt true c) (dstM true (kJ 2)) (slotM true false) rfl) $$ N10
  ihave Q01 := (halve c (slotM false true) (I.sent false (prv false c) 3)) $$ Q01
  icases Q01 with ⟨Q01, Q01r⟩
  ihave Z := (hv_cast c (slotM false true) hL (I.sent false (prv false c) 3) (srcM false 4) (qk 4) (I.sent false c 4) (src4 false) rfl rfl) $$ Q01
  ihave N00 := (ha_cast (nxt false c) (slotM false false) (dstM false 4) rfl) $$ N00
  iapply (send_step I K ι c false 4 16 rfl rfl rfl (dev17 c) rfl rfl) $$ HE HP Z N00 X04 HO
  iintro ⟨X04, HO⟩
  ihave HO := (ow_cast c (16 + 1) 17 rfl) $$ HO
  ihave Q11 := (halve c (slotM true true) (I.sent true (prv true c) 3)) $$ Q11
  icases Q11 with ⟨Q11, Q11r⟩
  ihave Z := (hv_cast c (slotM true true) hL (I.sent true (prv true c) 3) (srcM true 4) (qk 4) (I.sent true c 4) (src4 true) rfl rfl) $$ Q11
  ihave N10 := (ha_cast (nxt true c) (slotM true false) (dstM true 4) rfl) $$ N10
  iapply (send_step I K ι c true 4 17 rfl rfl rfl (dev18 c) rfl rfl) $$ HE HP Z N10 X14 HO
  iintro ⟨X14, HO⟩
  ihave HO := (ow_cast c (17 + 1) 18 rfl) $$ HO
  iapply (run_ret c)
  iapply Hk
  isplitl [W0]; · iexact W0
  isplitl [HO]; · iexact HO
  isplitl [W1]; · iexact W1
  isplitl [X04]; · iexact X04
  isplitl []; · iexact HP
  isplitl [Q01r]; · iexact Q01r
  isplitl [X14]; · iexact X14
  iexact Q11r

end Cert.Ring

end
-- ==== Proof.Part18.lean ====
/- Part 18 of the body, run. -/
module

public import proofs.«01_k».proof.Proof.Steps4

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

open Idealize.ShloMosaic.Rounds (atPos dutyTok reached cellInv openTok)

variable [FloatOps F]
local notation "𝕄" => MT nD τ sig ℕ (Elt F) ℕ UU ℕ

variable (I : Ins F) (K : GSem nD τ sig → ℕ) (ι : Key → ℕ)
variable (c : Dev nD)

set_option maxHeartbeats 1000000 in
/-- Part 18 of the body: what it takes and what it leaves. -/
theorem part18_run (arg2 : Memref sig .tc .smem S1x1 .f32) (harg2 : arg2.IsWhole) (arg3 : Memref sig .tc .smem S1x1 .f32) (harg3 : arg3.IsWhole) (v24 : BitVec 32)
    (Q : PUnit → sProp 𝕄) :
    env I K ι c ⊢ iprop(hv c (slotM false true) hR (I.sent false (prv false c) 3)
      -∗ ha c (outM c false)
      -∗ semVal ((c : Thread nD τ), .dma (oSem false)) 0
      -∗ hv c (slotM true true) hR (I.sent true (prv true c) 3)
      -∗ ha c (outM c true)
      -∗ semVal ((c : Thread nD τ), .dma (oSem true)) 0
      -∗ ow c 18
      -∗ xf c false 4 1
      -∗ iprop((iprop(hv c (outM c false) fullShare (I.tile false c) ∗ semVal ((c : Thread nD τ), .dma (oSem false)) 0 ∗ hv c (slotM true true) hR (I.sent true (prv true c) 3) ∗ hv c (outM c true) fullShare (I.tile true c) ∗ semVal ((c : Thread nD τ), .dma (oSem true)) 0 ∗ ow c 18 ∗ xf c false 4 2 ∗ hv c (slotM false true) fullShare (I.sent false c 4)) -∗ Q ⟨⟩))
      -∗ Run c (k0_part18 (F := F) (Memref.whole main_arg0) (Memref.isWhole_whole _) (Memref.whole main_arg1) (Memref.isWhole_whole _) arg2 harg2 arg3 harg3 (Memref.whole main_v3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18 c v24) Q) := by
  rw [k0_part18_eq_skeleton]
  unfold k0_part18_skel
  simp only [semSignalWord, semWaitWord, Prog.lift, Prog.bind_op, Prog.bind_ret, Prog.pure_eq_ret]
  iintro #HE Q01r Y00 V0 Q11r Y10 V1 HO X04 Hk
  iapply (ocopy I c c false (k0_off6 c) (off6 c) (slotM false true) _ rfl hR (I.sent false (prv false c) 3) rfl _ rfl) $$ Q01r Y00 V0
  iintro Y00
  iapply (ocopy I c c true (k0_off7 c) (off7 c) (slotM true true) _ rfl hR (I.sent true (prv true c) 3) rfl _ rfl) $$ Q11r Y10 V1
  iintro Y10
  iapply (owait I K ι c 18 (by decide) false _ rfl (k0_off6 c) _ _) $$ HE Y00 HO
  iintro ⟨Y00, Q01r, V0, HO⟩
  iapply (owait I K ι c 18 (by decide) true _ rfl (k0_off7 c) _ _) $$ HE Y10 HO
  iintro ⟨Y10, Q11r, V1, HO⟩
  iapply (waitS_step I K ι c false 4 18 (by decide) rfl (cr_slot false true)) $$ HE X04 HO
  iintro ⟨Q01, X04, HO⟩
  ihave Q01 := (hv_cast c (srcM false 4) (qk 4) (I.sent false c 4) (slotM false true) hL (I.sent false c 4) (src4 false).symm rfl rfl) $$ Q01
  ihave Q01r := (hv_cast c (slotM false true) hR (I.sent false (prv false c) 3) (slotM false true) hR (I.sent false c 4) rfl rfl rfl) $$ Q01r
  ihave Q01 := (join c (slotM false true) (I.sent false c 4)) $$ Q01 Q01r
  iapply (run_ret c)
  iapply Hk
  isplitl [Y00]; · iexact Y00
  isplitl [V0]; · iexact V0
  isplitl [Q11r]; · iexact Q11r
  isplitl [Y10]; · iexact Y10
  isplitl [V1]; · iexact V1
  isplitl [HO]; · iexact HO
  isplitl [X04]; · iexact X04
  iexact Q01

end Cert.Ring

end
-- ==== Proof.Part19.lean ====
/- Part 19 of the body, run. -/
module

public import proofs.«01_k».proof.Proof.Steps4

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

open Idealize.ShloMosaic.Rounds (atPos dutyTok reached cellInv openTok)

variable [FloatOps F]
local notation "𝕄" => MT nD τ sig ℕ (Elt F) ℕ UU ℕ

variable (I : Ins F) (K : GSem nD τ sig → ℕ) (ι : Key → ℕ)
variable (c : Dev nD)

set_option maxHeartbeats 1000000 in
/-- Part 19 of the body: what it takes and what it leaves. -/
theorem part19_run (arg2 : Memref sig .tc .smem S1x1 .f32) (harg2 : arg2.IsWhole) (arg3 : Memref sig .tc .smem S1x1 .f32) (harg3 : arg3.IsWhole) (v13 : BitVec 32) (v24 : BitVec 32)
    (Q : PUnit → sProp 𝕄) :
    env I K ι c ⊢ iprop(xf c false 4 2
      -∗ ow c 18
      -∗ xf c true 4 1
      -∗ hv c (slotM true true) hR (I.sent true (prv true c) 3)
      -∗ hv c (slotM false true) fullShare (I.sent false c 4)
      -∗ crr c false 3
      -∗ dutyTok (ER (F := F)) (crdC false (prv false c)) 0 3
      -∗ peer c
      -∗ crr c true 3
      -∗ dutyTok (ER (F := F)) (crdC true (prv true c)) 0 3
      -∗ crw c false 3
      -∗ crt c false 3
      -∗ iprop((iprop(xf c false 4 3 ∗ ow c 20 ∗ hv c (slotM false false) fullShare (I.sent false (prv false c) 4) ∗ xf c true 4 3 ∗ hv c (slotM true false) fullShare (I.sent true (prv true c) 4) ∗ crr c false 4 ∗ peer c ∗ crr c true 4 ∗ crw c false 4 ∗ ha (nxt false c) (slotM false true)) -∗ Q ⟨⟩))
      -∗ Run c (k0_part19 (F := F) (Memref.whole main_arg0) (Memref.isWhole_whole _) (Memref.whole main_arg1) (Memref.isWhole_whole _) arg2 harg2 arg3 harg3 (Memref.whole main_v3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18 c v13 v24) Q) := by
  rw [k0_part19_eq_skeleton]
  unfold k0_part19_skel
  simp only [semSignalWord, semWaitWord, Prog.lift, Prog.bind_op, Prog.bind_ret, Prog.pure_eq_ret]
  iintro #HE X04 HO X14 Q11r Q01 R0 D03 #HP R1 D13 W0 T03 Hk
  iapply (waitR_step I K ι c false 4 18 (by decide) (by decide) rfl (cr_slot false false)) $$ HE X04 HO
  iintro ⟨Q00, X04, HO⟩
  ihave Q00 := (hv_cast c (dstM false 4) fullShare (I.sent false (prv false c) 4) (slotM false false) fullShare (I.sent false (prv false c) 4) rfl rfl rfl) $$ Q00
  iapply (waitS_step I K ι c true 4 18 (by decide) rfl (cr_slot true true)) $$ HE X14 HO
  iintro ⟨Q11, X14, HO⟩
  ihave Q11 := (hv_cast c (srcM true 4) (qk 4) (I.sent true c 4) (slotM true true) hL (I.sent true c 4) (src4 true).symm rfl rfl) $$ Q11
  iapply (waitR_step I K ι c true 4 18 (by decide) (by decide) rfl (cr_slot true false)) $$ HE X14 HO
  iintro ⟨Q10, X14, HO⟩
  ihave Q10 := (hv_cast c (dstM true 4) fullShare (I.sent true (prv true c) 4) (slotM true false) fullShare (I.sent true (prv true c) 4) rfl rfl rfl) $$ Q10
  ihave Q11r := (hv_cast c (slotM true true) hR (I.sent true (prv true c) 3) (slotM true true) hR (I.sent true c 4) rfl rfl rfl) $$ Q11r
  ihave Q11 := (join c (slotM true true) (I.sent true c 4)) $$ Q11 Q11r
  ihave Q01 := (ha_of c (slotM false true) (I.sent false c 4)) $$ Q01
  ihave Q01 := (ha_cast c (slotM false true) (slotM false (slJ 3)) rfl) $$ Q01
  ihave R0 := (crr_cast c false 3 (3 : Fin 4).val rfl) $$ R0
  iapply (crS_step I K ι c false 3 18 rfl (dev19 c) rfl rfl) $$ HE HP D03 R0 Q01 HO
  iintro ⟨R0, HO⟩
  ihave R0 := (crr_cast c false ((3 : Fin 4).val + 1) 4 rfl) $$ R0
  ihave HO := (ow_cast c (18 + 1) 19 rfl) $$ HO
  ihave Q11 := (ha_of c (slotM true true) (I.sent true c 4)) $$ Q11
  ihave Q11 := (ha_cast c (slotM true true) (slotM true (slJ 3)) rfl) $$ Q11
  ihave R1 := (crr_cast c true 3 (3 : Fin 4).val rfl) $$ R1
  iapply (crS_step I K ι c true 3 19 rfl (dev20 c) rfl rfl) $$ HE HP D13 R1 Q11 HO
  iintro ⟨R1, HO⟩
  ihave R1 := (crr_cast c true ((3 : Fin 4).val + 1) 4 rfl) $$ R1
  ihave HO := (ow_cast c (19 + 1) 20 rfl) $$ HO
  ihave W0 := (crw_cast c false 3 (3 : Fin 4).val rfl) $$ W0
  iapply (crW_step I K ι c false 3 20 (by decide) (by decide) rfl rfl) $$ HE W0 T03 HO
  iintro ⟨W0, N01, HO⟩
  ihave W0 := (crw_cast c false ((3 : Fin 4).val + 1) 4 rfl) $$ W0
  ihave N01 := (ha_cast (nxt false c) (dstM false (kJ 3)) (slotM false true) rfl) $$ N01
  iapply (run_ret c)
  iapply Hk
  isplitl [X04]; · iexact X04
  isplitl [HO]; · iexact HO
  isplitl [Q00]; · iexact Q00
  isplitl [X14]; · iexact X14
  isplitl [Q10]; · iexact Q10
  isplitl [R0]; · iexact R0
  isplitl []; · iexact HP
  isplitl [R1]; · iexact R1
  isplitl [W0]; · iexact W0
  iexact N01

end Cert.Ring

end
-- ==== Proof.Part20.lean ====
/- Part 20 of the body, run. -/
module

public import proofs.«01_k».proof.Proof.Steps4

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

open Idealize.ShloMosaic.Rounds (atPos dutyTok reached cellInv openTok)

variable [FloatOps F]
local notation "𝕄" => MT nD τ sig ℕ (Elt F) ℕ UU ℕ

variable (I : Ins F) (K : GSem nD τ sig → ℕ) (ι : Key → ℕ)
variable (c : Dev nD)

set_option maxHeartbeats 1000000 in
/-- Part 20 of the body: what it takes and what it leaves. -/
theorem part20_run (arg2 : Memref sig .tc .smem S1x1 .f32) (harg2 : arg2.IsWhole) (arg3 : Memref sig .tc .smem S1x1 .f32) (harg3 : arg3.IsWhole) (v2 : BitVec 32) (v13 : BitVec 32) (v24 : BitVec 32)
    (Q : (Σ' (_ : BitVec 32) (_ : BitVec 32) (_ : BitVec 1), BitVec 1) → sProp 𝕄) :
    env I K ι c ⊢ iprop(crw c true 3
      -∗ crt c true 3
      -∗ ow c 20
      -∗ hv c (slotM false false) fullShare (I.sent false (prv false c) 4)
      -∗ ha (nxt false c) (slotM false true)
      -∗ xf c false 5 0
      -∗ peer c
      -∗ hv c (slotM true false) fullShare (I.sent true (prv true c) 4)
      -∗ xf c true 5 0
      -∗ iprop(∀ r, (iprop(crw c true 4 ∗ ow c 22 ∗ xf c false 5 1 ∗ peer c ∗ hv c (slotM false false) hR (I.sent false (prv false c) 4) ∗ xf c true 5 1 ∗ hv c (slotM true false) hR (I.sent true (prv true c) 4)) -∗ Q r))
      -∗ Run c (k0_part20 (F := F) (Memref.whole main_arg0) (Memref.isWhole_whole _) (Memref.whole main_arg1) (Memref.isWhole_whole _) arg2 harg2 arg3 harg3 (Memref.whole main_v3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18 c v2 v13 v24) Q) := by
  rw [k0_part20_eq_skeleton]
  unfold k0_part20_skel
  simp only [semSignalWord, semWaitWord, Prog.lift, Prog.bind_op, Prog.bind_ret, Prog.pure_eq_ret]
  iintro #HE W1 T13 HO Q00 N01 X05 #HP Q10 X15 Hk
  ihave W1 := (crw_cast c true 3 (3 : Fin 4).val rfl) $$ W1
  iapply (crW_step I K ι c true 3 20 (by decide) (by decide) rfl rfl) $$ HE W1 T13 HO
  iintro ⟨W1, N11, HO⟩
  ihave W1 := (crw_cast c true ((3 : Fin 4).val + 1) 4 rfl) $$ W1
  ihave N11 := (ha_cast (nxt true c) (dstM true (kJ 3)) (slotM true true) rfl) $$ N11
  ihave Q00 := (halve c (slotM false false) (I.sent false (prv false c) 4)) $$ Q00
  icases Q00 with ⟨Q00, Q00r⟩
  ihave Z := (hv_cast c (slotM false false) hL (I.sent false (prv false c) 4) (srcM false 5) (qk 5) (I.sent false c 5) (src5 false) rfl rfl) $$ Q00
  ihave N01 := (ha_cast (nxt false c) (slotM false true) (dstM false 5) rfl) $$ N01
  iapply (send_step I K ι c false 5 20 rfl rfl rfl (dev21 c) rfl rfl) $$ HE HP Z N01 X05 HO
  iintro ⟨X05, HO⟩
  ihave HO := (ow_cast c (20 + 1) 21 rfl) $$ HO
  ihave Q10 := (halve c (slotM true false) (I.sent true (prv true c) 4)) $$ Q10
  icases Q10 with ⟨Q10, Q10r⟩
  ihave Z := (hv_cast c (slotM true false) hL (I.sent true (prv true c) 4) (srcM true 5) (qk 5) (I.sent true c 5) (src5 true) rfl rfl) $$ Q10
  ihave N11 := (ha_cast (nxt true c) (slotM true true) (dstM true 5) rfl) $$ N11
  iapply (send_step I K ι c true 5 21 rfl rfl rfl (dev22 c) rfl rfl) $$ HE HP Z N11 X15 HO
  iintro ⟨X15, HO⟩
  ihave HO := (ow_cast c (21 + 1) 22 rfl) $$ HO
  iapply (run_ret c)
  iapply Hk
  isplitl [W1]; · iexact W1
  isplitl [HO]; · iexact HO
  isplitl [X05]; · iexact X05
  isplitl []; · iexact HP
  isplitl [Q00r]; · iexact Q00r
  isplitl [X15]; · iexact X15
  iexact Q10r

end Cert.Ring

end
-- ==== Proof.Part21.lean ====
/- Part 21 of the body, run. -/
module

public import proofs.«01_k».proof.Proof.Steps4

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

open Idealize.ShloMosaic.Rounds (atPos dutyTok reached cellInv openTok)

variable [FloatOps F]
local notation "𝕄" => MT nD τ sig ℕ (Elt F) ℕ UU ℕ

variable (I : Ins F) (K : GSem nD τ sig → ℕ) (ι : Key → ℕ)
variable (c : Dev nD)

set_option maxHeartbeats 1000000 in
/-- Part 21 of the body: what it takes and what it leaves. -/
theorem part21_run (arg2 : Memref sig .tc .smem S1x1 .f32) (harg2 : arg2.IsWhole) (arg3 : Memref sig .tc .smem S1x1 .f32) (harg3 : arg3.IsWhole) (v2 : BitVec 32) (v527 : BitVec 32) (v528 : BitVec 32) (w529 : BitVec 1) (w532 : BitVec 1)
    (Q : PUnit → sProp 𝕄) :
    env I K ι c ⊢ iprop(hv c (slotM false false) hR (I.sent false (prv false c) 4)
      -∗ ha c (outM (c + 3) false)
      -∗ semVal ((c : Thread nD τ), .dma (oSem false)) 0
      -∗ hv c (slotM true false) hR (I.sent true (prv true c) 4)
      -∗ ha c (outM (c + 1) true)
      -∗ semVal ((c : Thread nD τ), .dma (oSem true)) 0
      -∗ ow c 22
      -∗ iprop((iprop(hv c (slotM false false) hR (I.sent false (prv false c) 4) ∗ hv c (outM (c + 3) false) fullShare (I.tile false (c + 3)) ∗ semVal ((c : Thread nD τ), .dma (oSem false)) 0 ∗ pend c (oSem true) NO (hv c (outM (c + 1) true) fullShare (I.tile true (c + 1))) (hv c (slotM true false) hR (I.sent true (prv true c) 4)) ∗ ow c 22) -∗ Q ⟨⟩))
      -∗ Run c (k0_part21 (F := F) (Memref.whole main_arg0) (Memref.isWhole_whole _) (Memref.whole main_arg1) (Memref.isWhole_whole _) arg2 harg2 arg3 harg3 (Memref.whole main_v3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18 c v2 v527 v528 w529 w532) Q) := by
  rw [k0_part21_eq_skeleton]
  unfold k0_part21_skel
  simp only [semSignalWord, semWaitWord, Prog.lift, Prog.bind_op, Prog.bind_ret, Prog.pure_eq_ret]
  iintro #HE Q00r Y03 V0 Q10r Y11 V1 HO Hk
  iapply (ocopy I c (c + 3) false (k0_off8 c) (off8 c) (slotM false false) _ rfl hR (I.sent false (prv false c) 4) rfl _ rfl) $$ Q00r Y03 V0
  iintro Y03
  iapply (ocopy I c (c + 1) true (k0_off9 c 1#32) (off9a c) (slotM true false) _ rfl hR (I.sent true (prv true c) 4) rfl _ rfl) $$ Q10r Y11 V1
  iintro Y11
  iapply (owait I K ι c 22 (by decide) false _ rfl (k0_off8 c) _ _) $$ HE Y03 HO
  iintro ⟨Y03, Q00r, V0, HO⟩
  iapply (run_ret c)
  iapply Hk
  isplitl [Q00r]; · iexact Q00r
  isplitl [Y03]; · iexact Y03
  isplitl [V0]; · iexact V0
  isplitl [Y11]; · iexact Y11
  iexact HO

end Cert.Ring

end
-- ==== Proof.Part22.lean ====
/- Part 22 of the body, run. -/
module

public import proofs.«01_k».proof.Proof.Steps4

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

open Idealize.ShloMosaic.Rounds (atPos dutyTok reached cellInv openTok)

variable [FloatOps F]
local notation "𝕄" => MT nD τ sig ℕ (Elt F) ℕ UU ℕ

variable (I : Ins F) (K : GSem nD τ sig → ℕ) (ι : Key → ℕ)
variable (c : Dev nD)

set_option maxHeartbeats 1000000 in
/-- Part 22 of the body: what it takes and what it leaves. -/
theorem part22_run (arg2 : Memref sig .tc .smem S1x1 .f32) (harg2 : arg2.IsWhole) (arg3 : Memref sig .tc .smem S1x1 .f32) (harg3 : arg3.IsWhole) (v24 : BitVec 32)
    (Q : PUnit → sProp 𝕄) :
    env I K ι c ⊢ iprop(pend c (oSem true) NO (hv c (outM (c + 1) true) fullShare (I.tile true (c + 1))) (hv c (slotM true false) hR (I.sent true (prv true c) 4))
      -∗ ow c 22
      -∗ xf c false 5 1
      -∗ xf c true 5 1
      -∗ hv c (slotM false false) hR (I.sent false (prv false c) 4)
      -∗ iprop((iprop(hv c (outM (c + 1) true) fullShare (I.tile true (c + 1)) ∗ ow c 22 ∗ semVal ((c : Thread nD τ), .dma (oSem true)) 0 ∗ xf c false 5 3 ∗ hv c (slotM false false) fullShare (I.sent false c 5) ∗ hv c (slotM false true) fullShare (I.sent false (prv false c) 5) ∗ xf c true 5 2 ∗ hv c (slotM true false) fullShare (I.sent true c 5)) -∗ Q ⟨⟩))
      -∗ Run c (k0_part22 (F := F) (Memref.whole main_arg0) (Memref.isWhole_whole _) (Memref.whole main_arg1) (Memref.isWhole_whole _) arg2 harg2 arg3 harg3 (Memref.whole main_v3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18 c v24) Q) := by
  rw [k0_part22_eq_skeleton]
  unfold k0_part22_skel
  simp only [semSignalWord, semWaitWord, Prog.lift, Prog.bind_op, Prog.bind_ret, Prog.pure_eq_ret]
  iintro #HE Y11 HO X05 X15 Q00r Hk
  iapply (owait I K ι c 22 (by decide) true _ rfl (k0_off9 c 1#32) _ _) $$ HE Y11 HO
  iintro ⟨Y11, Q10r, V1, HO⟩
  iapply (waitS_step I K ι c false 5 22 (by decide) rfl (cr_slot false false)) $$ HE X05 HO
  iintro ⟨Q00, X05, HO⟩
  ihave Q00 := (hv_cast c (srcM false 5) (qk 5) (I.sent false c 5) (slotM false false) hL (I.sent false c 5) (src5 false).symm rfl rfl) $$ Q00
  iapply (waitR_step I K ι c false 5 22 (by decide) (by decide) rfl (cr_slot false true)) $$ HE X05 HO
  iintro ⟨Q01, X05, HO⟩
  ihave Q01 := (hv_cast c (dstM false 5) fullShare (I.sent false (prv false c) 5) (slotM false true) fullShare (I.sent false (prv false c) 5) rfl rfl rfl) $$ Q01
  iapply (waitS_step I K ι c true 5 22 (by decide) rfl (cr_slot true false)) $$ HE X15 HO
  iintro ⟨Q10, X15, HO⟩
  ihave Q10 := (hv_cast c (srcM true 5) (qk 5) (I.sent true c 5) (slotM true false) hL (I.sent true c 5) (src5 true).symm rfl rfl) $$ Q10
  ihave Q00r := (hv_cast c (slotM false false) hR (I.sent false (prv false c) 4) (slotM false false) hR (I.sent false c 5) rfl rfl rfl) $$ Q00r
  ihave Q00 := (join c (slotM false false) (I.sent false c 5)) $$ Q00 Q00r
  ihave Q10r := (hv_cast c (slotM true false) hR (I.sent true (prv true c) 4) (slotM true false) hR (I.sent true c 5) rfl rfl rfl) $$ Q10r
  ihave Q10 := (join c (slotM true false) (I.sent true c 5)) $$ Q10 Q10r
  iapply (run_ret c)
  iapply Hk
  isplitl [Y11]; · iexact Y11
  isplitl [HO]; · iexact HO
  isplitl [V1]; · iexact V1
  isplitl [X05]; · iexact X05
  isplitl [Q00]; · iexact Q00
  isplitl [Q01]; · iexact Q01
  isplitl [X15]; · iexact X15
  iexact Q10

end Cert.Ring

end
-- ==== Proof.Part23.lean ====
/- Part 23 of the body, run. -/
module

public import proofs.«01_k».proof.Proof.Steps4

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

open Idealize.ShloMosaic.Rounds (atPos dutyTok reached cellInv openTok)

variable [FloatOps F]
local notation "𝕄" => MT nD τ sig ℕ (Elt F) ℕ UU ℕ

variable (I : Ins F) (K : GSem nD τ sig → ℕ) (ι : Key → ℕ)
variable (c : Dev nD)

set_option maxHeartbeats 1000000 in
/-- Part 23 of the body: what it takes and what it leaves. -/
theorem part23_run (arg2 : Memref sig .tc .smem S1x1 .f32) (harg2 : arg2.IsWhole) (arg3 : Memref sig .tc .smem S1x1 .f32) (harg3 : arg3.IsWhole) (v2 : BitVec 32) (v13 : BitVec 32)
    (Q : PUnit → sProp 𝕄) :
    env I K ι c ⊢ iprop(xf c true 5 2
      -∗ ow c 22
      -∗ iprop((iprop(xf c true 5 3 ∗ ow c 22 ∗ hv c (slotM true true) fullShare (I.sent true (prv true c) 5)) -∗ Q ⟨⟩))
      -∗ Run c (k0_part23 (F := F) (Memref.whole main_arg0) (Memref.isWhole_whole _) (Memref.whole main_arg1) (Memref.isWhole_whole _) arg2 harg2 arg3 harg3 (Memref.whole main_v3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18 v2 v13) Q) := by
  rw [k0_part23_eq_skeleton]
  unfold k0_part23_skel
  simp only [semSignalWord, semWaitWord, Prog.lift, Prog.bind_op, Prog.bind_ret, Prog.pure_eq_ret]
  iintro #HE X15 HO Hk
  iapply (waitR_step I K ι c true 5 22 (by decide) (by decide) rfl (cr_slot true true)) $$ HE X15 HO
  iintro ⟨Q11, X15, HO⟩
  ihave Q11 := (hv_cast c (dstM true 5) fullShare (I.sent true (prv true c) 5) (slotM true true) fullShare (I.sent true (prv true c) 5) rfl rfl rfl) $$ Q11
  iapply (run_ret c)
  iapply Hk
  isplitl [X15]; · iexact X15
  isplitl [HO]; · iexact HO
  iexact Q11

end Cert.Ring

end
-- ==== Proof.Body.lean ====
/- The body, run. -/
module

public import proofs.«01_k».proof.Proof.Part1
public import proofs.«01_k».proof.Proof.Part2
public import proofs.«01_k».proof.Proof.Part3
public import proofs.«01_k».proof.Proof.Part4
public import proofs.«01_k».proof.Proof.Part5
public import proofs.«01_k».proof.Proof.Part6
public import proofs.«01_k».proof.Proof.Part7
public import proofs.«01_k».proof.Proof.Part8
public import proofs.«01_k».proof.Proof.Part9
public import proofs.«01_k».proof.Proof.Part10
public import proofs.«01_k».proof.Proof.Part11
public import proofs.«01_k».proof.Proof.Part12
public import proofs.«01_k».proof.Proof.Part13
public import proofs.«01_k».proof.Proof.Part14
public import proofs.«01_k».proof.Proof.Part15
public import proofs.«01_k».proof.Proof.Part16
public import proofs.«01_k».proof.Proof.Part17
public import proofs.«01_k».proof.Proof.Part18
public import proofs.«01_k».proof.Proof.Part19
public import proofs.«01_k».proof.Proof.Part20
public import proofs.«01_k».proof.Proof.Part21
public import proofs.«01_k».proof.Proof.Part22
public import proofs.«01_k».proof.Proof.Part23

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

open Idealize.ShloMosaic.Rounds (atPos dutyTok reached cellInv openTok)

variable [FloatOps F]
local notation "𝕄" => MT nD τ sig ℕ (Elt F) ℕ UU ℕ

variable (I : Ins F) (K : GSem nD τ sig → ℕ) (ι : Key → ℕ)
variable (c : Dev nD)

set_option maxHeartbeats 2000000 in
/-- The first twenty-three parts and all but the last wait. -/
theorem part24_run (arg2 : Memref sig .tc .smem S1x1 .f32) (harg2 : arg2.IsWhole) (arg3 : Memref sig .tc .smem S1x1 .f32) (harg3 : arg3.IsWhole)
    (Q : Dev nD → sProp 𝕄) :
    env I K ι c ⊢ iprop(ow c 0
      -∗ dutyTok (ER (F := F)) (barC (prv false c)) 0 (bi false)
      -∗ ha c (slotM false false)
      -∗ ha c (slotM false true)
      -∗ xf c false 0 0
      -∗ xf c false 1 0
      -∗ xf c false 2 0
      -∗ xf c false 3 0
      -∗ xf c false 4 0
      -∗ xf c false 5 0
      -∗ crr c false 0
      -∗ crw c false 0
      -∗ crt c false 0
      -∗ dutyTok (ER (F := F)) (crdC false (prv false c)) 0 0
      -∗ crt c false 1
      -∗ dutyTok (ER (F := F)) (crdC false (prv false c)) 0 1
      -∗ crt c false 2
      -∗ dutyTok (ER (F := F)) (crdC false (prv false c)) 0 2
      -∗ crt c false 3
      -∗ dutyTok (ER (F := F)) (crdC false (prv false c)) 0 3
      -∗ semVal ((c : Thread nD τ), .dma (oSem false)) 0
      -∗ ha c (outM c false)
      -∗ ha c (outM (c + 1) false)
      -∗ ha c (outM (c + 2) false)
      -∗ ha c (outM (c + 3) false)
      -∗ dutyTok (ER (F := F)) (barC (prv true c)) 0 (bi true)
      -∗ ha c (slotM true false)
      -∗ ha c (slotM true true)
      -∗ xf c true 0 0
      -∗ xf c true 1 0
      -∗ xf c true 2 0
      -∗ xf c true 3 0
      -∗ xf c true 4 0
      -∗ xf c true 5 0
      -∗ crr c true 0
      -∗ crw c true 0
      -∗ crt c true 0
      -∗ dutyTok (ER (F := F)) (crdC true (prv true c)) 0 0
      -∗ crt c true 1
      -∗ dutyTok (ER (F := F)) (crdC true (prv true c)) 0 1
      -∗ crt c true 2
      -∗ dutyTok (ER (F := F)) (crdC true (prv true c)) 0 2
      -∗ crt c true 3
      -∗ dutyTok (ER (F := F)) (crdC true (prv true c)) 0 3
      -∗ semVal ((c : Thread nD τ), .dma (oSem true)) 0
      -∗ ha c (outM c true)
      -∗ ha c (outM (c + 1) true)
      -∗ ha c (outM (c + 2) true)
      -∗ ha c (outM (c + 3) true)
      -∗ semVal ((c : Thread nD τ), .dma lSem) 0
      -∗ cred (tallyAt (barC c) 1 2)
      -∗ atPos (ER (F := F)) (barC c) 0 ∅ 0
      -∗ hv c (Memref.whole main_arg0) fullShare (I.x c)
      -∗ hv c (Memref.whole main_arg1) fullShare (I.w c)
      -∗ hv c arg2 fullShare (I.s1 c)
      -∗ hv c arg3 fullShare (I.s2 c)
      -∗ ha c (Memref.whole cc0_scratch0)
      -∗ ha c (Memref.whole cc0_scratch1)
      -∗ ha c (Memref.whole cc0_scratch2)
      -∗ ha c (Memref.whole cc0_scratch3)
      -∗ ha c (Memref.whole cc0_scratch4)
      -∗ iprop((iprop(atPos (ER (F := F)) (barC c) (0 + 1) ∅ 0 ∗ hv c (Memref.whole main_arg1) fullShare (I.w c) ∗ hv c (Memref.whole cc0_scratch0) fullShare (wc I c 3) ∗ hv c (Memref.whole cc0_scratch2) fullShare (I.xb c (c + 2)) ∗ hv c (Memref.whole main_arg0) fullShare (I.x c) ∗ semVal ((c : Thread nD τ), .dma lSem) 0 ∗ hv c (Memref.whole cc0_scratch1) fullShare (I.wb c) ∗ xf c false 0 3 ∗ xf c true 0 3 ∗ xf c false 1 3 ∗ xf c true 1 3 ∗ xf c false 2 3 ∗ xf c true 2 3 ∗ hv c arg2 fullShare (I.s1 c) ∗ hv c arg3 fullShare (I.s2 c) ∗ hv c (Memref.whole cc0_scratch4) fullShare (I.p9 c) ∗ hv c (outM (c + 1) false) fullShare (I.tile false (c + 1)) ∗ hv c (outM (c + 3) true) fullShare (I.tile true (c + 3)) ∗ xf c false 3 3 ∗ hv c (stageM false) fullShare (I.sent false c 3) ∗ xf c true 3 3 ∗ hv c (stageM true) fullShare (I.sent true c 3) ∗ hv c (outM c false) fullShare (I.tile false c) ∗ hv c (outM c true) fullShare (I.tile true c) ∗ xf c false 4 3 ∗ xf c true 4 3 ∗ crr c false 4 ∗ crr c true 4 ∗ crw c false 4 ∗ crw c true 4 ∗ hv c (outM (c + 3) false) fullShare (I.tile false (c + 3)) ∗ hv c (outM (c + 1) true) fullShare (I.tile true (c + 1)) ∗ xf c false 5 3 ∗ hv c (slotM false false) fullShare (I.sent false c 5) ∗ hv c (slotM true false) fullShare (I.sent true c 5) ∗ xf c true 5 3 ∗ hv c (slotM false true) fullShare (I.sent false (prv false c) 5) ∗ hv c (outM (c + 2) false) fullShare (I.tile false (c + 2)) ∗ semVal ((c : Thread nD τ), .dma (oSem false)) 0 ∗ pend c (oSem true) NO (hv c (outM (c + 2) true) fullShare (I.tile true (c + 2))) (hv c (slotM true true) fullShare (I.sent true (prv true c) 5)) ∗ ow c 22) -∗ Q c))
      -∗ Run c (k0_part24 (F := F) (Memref.whole main_arg0) (Memref.isWhole_whole _) (Memref.whole main_arg1) (Memref.isWhole_whole _) arg2 harg2 arg3 harg3 (Memref.whole main_v3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18) Q) := by
  rw [k0_part24_eq_skeleton]
  unfold k0_part24_skel
  iintro #HE HO B0 O00 O01 X00 X01 X02 X03 X04 X05 R0 W0 T00 D00 T01 D01 T02 D02 T03 D03 V0 Y00 Y01 Y02 Y03 B1 O10 O11 X10 X11 X12 X13 X14 X15 R1 W1 T10 D10 T11 D11 T12 D12 T13 D13 V1 Y10 Y11 Y12 Y13 VL BC BP A0 A1 S1 S2 H5 H6 H7 H8 H9 Hk
  iapply (run_bind c _ _ _)
  iapply (part1_run I K ι c arg2 harg2 arg3 harg3 _) $$ HE B0 O00 O01 HO B1 O10 O11 BC BP
  iintro %v2 %v13 %v24 ⟨HO, BP, N00, N01, N10, N11, #HP⟩
  iapply (run_bind c _ _ _)
  iapply (part2_run I K ι c arg2 harg2 arg3 harg3 _) $$ HE A1 H5 VL HO H6
  iintro ⟨A1, H5, VL, HO, H6⟩
  iapply (run_bind c _ _ _)
  iapply (part3_run I K ι c arg2 harg2 arg3 harg3 v2 v13 v24 _) $$ HE H6 H5 A0 H7 VL HO H8 N00 X00 HP
  iintro ⟨H6, H5, A0, H7, VL, HO, G1, X00, #HP⟩
  iapply (run_bind c _ _ _)
  iapply (part4_run I K ι c arg2 harg2 arg3 harg3 v2 _) $$ HE G1 N10 X10 HO HP
  iintro %r4 ⟨X10, HO, #HP⟩
  obtain ⟨v96, v107, v110, v111, w112, w113, c0⟩ := r4
  iapply (run_bind c _ _ _)
  iapply (part5_run I K ι c arg2 harg2 arg3 harg3 v96 v107 v110 v111 w112 w113 c0 _) $$ HE A0 H7 VL HO H6 H9
  iintro ⟨H7, HO, H6, H9⟩
  iapply (run_bind c _ _ _)
  iapply (part6_run I K ι c arg2 harg2 arg3 harg3 v24 _) $$ HE H7 HO H6 H9 X00
  iintro ⟨H7, HO, A0, VL, H6, H9, X00, G0, Q00⟩
  iapply (run_bind c _ _ _)
  iapply (part7_run I K ι c arg2 harg2 arg3 harg3 v13 _) $$ HE X10 HO Q00 H9
  iintro ⟨X10, HO, G1, Q10, Q00, H9⟩
  iapply (run_bind c _ _ _)
  iapply (part8_run I K ι c arg2 harg2 arg3 harg3 v13 v24 _) $$ HE Q00 N01 X01 HO HP Q10 N11 X11
  iintro ⟨Q00, X01, HO, #HP, X11⟩
  iapply (run_bind c _ _ _)
  iapply (part9_run I K ι c arg2 harg2 arg3 harg3 v13 v24 _) $$ HE X01 HO X11 Q00 R0 D00 HP
  iintro %c1 ⟨X01, HO, Q01, X11, Q10, Q11, R0, #HP⟩
  iapply (run_bind c _ _ _)
  iapply (part10_run I K ι c arg2 harg2 arg3 harg3 v24 c1 _) $$ HE Q10 R1 D10 HO HP Q01 H9 Q11 W0 T00 W1 T10
  iintro ⟨R1, HO, #HP, Q01, H9, Q11, W0, N00, W1, N10⟩
  iapply (run_bind c _ _ _)
  iapply (part11_run I K ι c arg2 harg2 arg3 harg3 v13 v24 _) $$ HE Q01 N00 X02 HO HP Q11 N10 X12
  iintro ⟨Q01, X02, HO, #HP, X12⟩
  iapply (run_bind c _ _ _)
  iapply (part12_run I K ι c arg2 harg2 arg3 harg3 v13 v24 _) $$ HE X02 HO X12 Q01 R0 D01 HP R1 D11 S1 S2
  iintro ⟨X02, HO, Q00, X12, Q10, R0, #HP, R1, S1, S2⟩
  iapply (run_bind c _ _ _)
  iapply (part13_run I K ι c arg2 harg2 arg3 harg3 v2 v13 v24 _) $$ HE Q00 H9 G0 Q10 G1 R0 D02 HO HP R1 D12
  iintro %r13 ⟨H9, G0, G1, R0, HO, #HP, R1⟩
  obtain ⟨v349, c4⟩ := r13
  iapply (run_bind c _ _ _)
  iapply (part14_run I K ι c arg2 harg2 arg3 harg3 v2 v349 c4 _) $$ HE G0 G1 Y01 V0 Y13 V1 W0 T01 HO
  iintro ⟨G0, G1, Y01, Y13, W0, HO, N01⟩
  iapply (run_bind c _ _ _)
  iapply (part15_run I K ι c arg2 harg2 arg3 harg3 v13 v24 _) $$ HE W1 T11 HO G0 N01 X03 HP G1 X13 Y01 Y13
  iintro ⟨W1, HO, X03, #HP, X13, Y01, G0r, V0, Y13, G1r, V1⟩
  iapply (run_bind c _ _ _)
  iapply (part16_run I K ι c arg2 harg2 arg3 harg3 v13 v24 _) $$ HE X03 HO X13 G0r G1r
  iintro ⟨X03, HO, G0, Q01, X13, G1, Q11⟩
  iapply (run_bind c _ _ _)
  iapply (part17_run I K ι c arg2 harg2 arg3 harg3 v2 v13 v24 _) $$ HE W0 T02 HO W1 T12 Q01 X04 HP Q11 X14
  iintro ⟨W0, HO, W1, X04, #HP, Q01r, X14, Q11r⟩
  iapply (run_bind c _ _ _)
  iapply (part18_run I K ι c arg2 harg2 arg3 harg3 v24 _) $$ HE Q01r Y00 V0 Q11r Y10 V1 HO X04
  iintro ⟨Y00, V0, Q11r, Y10, V1, HO, X04, Q01⟩
  iapply (run_bind c _ _ _)
  iapply (part19_run I K ι c arg2 harg2 arg3 harg3 v13 v24 _) $$ HE X04 HO X14 Q11r Q01 R0 D03 HP R1 D13 W0 T03
  iintro ⟨X04, HO, Q00, X14, Q10, R0, #HP, R1, W0, N01⟩
  iapply (run_bind c _ _ _)
  iapply (part20_run I K ι c arg2 harg2 arg3 harg3 v2 v13 v24 _) $$ HE W1 T13 HO Q00 N01 X05 HP Q10 X15
  iintro %r20 ⟨W1, HO, X05, #HP, Q00r, X15, Q10r⟩
  obtain ⟨v527, v528, w529, w532⟩ := r20
  iapply (run_bind c _ _ _)
  iapply (part21_run I K ι c arg2 harg2 arg3 harg3 v2 v527 v528 w529 w532 _) $$ HE Q00r Y03 V0 Q10r Y11 V1 HO
  iintro ⟨Q00r, Y03, V0, Y11, HO⟩
  iapply (run_bind c _ _ _)
  iapply (part22_run I K ι c arg2 harg2 arg3 harg3 v24 _) $$ HE Y11 HO X05 X15 Q00r
  iintro ⟨Y11, HO, V1, X05, Q00, Q01, X15, Q10⟩
  iapply (run_bind c _ _ _)
  iapply (part23_run I K ι c arg2 harg2 arg3 harg3 v2 v13 _) $$ HE X15 HO
  iintro ⟨X15, HO, Q11⟩
  simp only [Prog.lift, Prog.bind_op, Prog.bind_ret, Prog.pure_eq_ret]
  iapply (ocopy I c (c + 2) false (k0_off4 c 2#32) (off4b c) (slotM false true) _ rfl fullShare (I.sent false (prv false c) 5) (tl6 I c false) _ rfl) $$ Q01 Y02 V0
  iintro Y02
  iapply (ocopy I c (c + 2) true (k0_off9 c 2#32) (off9b c) (slotM true true) _ rfl fullShare (I.sent true (prv true c) 5) (tl6 I c true) _ rfl) $$ Q11 Y12 V1
  iintro Y12
  iapply (owait I K ι c 22 (by decide) false _ rfl (k0_off4 c 2#32) _ _) $$ HE Y02 HO
  iintro ⟨Y02, Q01, V0, HO⟩
  iapply (run_ret c)
  iapply Hk
  isplitl [BP]; · iexact BP
  isplitl [A1]; · iexact A1
  isplitl [H5]; · iexact H5
  isplitl [H7]; · iexact H7
  isplitl [A0]; · iexact A0
  isplitl [VL]; · iexact VL
  isplitl [H6]; · iexact H6
  isplitl [X00]; · iexact X00
  isplitl [X10]; · iexact X10
  isplitl [X01]; · iexact X01
  isplitl [X11]; · iexact X11
  isplitl [X02]; · iexact X02
  isplitl [X12]; · iexact X12
  isplitl [S1]; · iexact S1
  isplitl [S2]; · iexact S2
  isplitl [H9]; · iexact H9
  isplitl [Y01]; · iexact Y01
  isplitl [Y13]; · iexact Y13
  isplitl [X03]; · iexact X03
  isplitl [G0]; · iexact G0
  isplitl [X13]; · iexact X13
  isplitl [G1]; · iexact G1
  isplitl [Y00]; · iexact Y00
  isplitl [Y10]; · iexact Y10
  isplitl [X04]; · iexact X04
  isplitl [X14]; · iexact X14
  isplitl [R0]; · iexact R0
  isplitl [R1]; · iexact R1
  isplitl [W0]; · iexact W0
  isplitl [W1]; · iexact W1
  isplitl [Y03]; · iexact Y03
  isplitl [Y11]; · iexact Y11
  isplitl [X05]; · iexact X05
  isplitl [Q00]; · iexact Q00
  isplitl [Q10]; · iexact Q10
  isplitl [X15]; · iexact X15
  isplitl [Q01]; · iexact Q01
  isplitl [Y02]; · iexact Y02
  isplitl [V0]; · iexact V0
  isplitl [Y12]; · iexact Y12
  iexact HO

set_option maxHeartbeats 2000000 in
/-- The kernel's body: what it takes and what it leaves. -/
theorem body_run (arg2 : Memref sig .tc .smem S1x1 .f32) (harg2 : arg2.IsWhole) (arg3 : Memref sig .tc .smem S1x1 .f32) (harg3 : arg3.IsWhole)
    (Q : PUnit → sProp 𝕄) :
    env I K ι c ⊢ iprop(ow c 0
      -∗ dutyTok (ER (F := F)) (barC (prv false c)) 0 (bi false)
      -∗ ha c (slotM false false)
      -∗ ha c (slotM false true)
      -∗ xf c false 0 0
      -∗ xf c false 1 0
      -∗ xf c false 2 0
      -∗ xf c false 3 0
      -∗ xf c false 4 0
      -∗ xf c false 5 0
      -∗ crr c false 0
      -∗ crw c false 0
      -∗ crt c false 0
      -∗ dutyTok (ER (F := F)) (crdC false (prv false c)) 0 0
      -∗ crt c false 1
      -∗ dutyTok (ER (F := F)) (crdC false (prv false c)) 0 1
      -∗ crt c false 2
      -∗ dutyTok (ER (F := F)) (crdC false (prv false c)) 0 2
      -∗ crt c false 3
      -∗ dutyTok (ER (F := F)) (crdC false (prv false c)) 0 3
      -∗ semVal ((c : Thread nD τ), .dma (oSem false)) 0
      -∗ ha c (outM c false)
      -∗ ha c (outM (c + 1) false)
      -∗ ha c (outM (c + 2) false)
      -∗ ha c (outM (c + 3) false)
      -∗ dutyTok (ER (F := F)) (barC (prv true c)) 0 (bi true)
      -∗ ha c (slotM true false)
      -∗ ha c (slotM true true)
      -∗ xf c true 0 0
      -∗ xf c true 1 0
      -∗ xf c true 2 0
      -∗ xf c true 3 0
      -∗ xf c true 4 0
      -∗ xf c true 5 0
      -∗ crr c true 0
      -∗ crw c true 0
      -∗ crt c true 0
      -∗ dutyTok (ER (F := F)) (crdC true (prv true c)) 0 0
      -∗ crt c true 1
      -∗ dutyTok (ER (F := F)) (crdC true (prv true c)) 0 1
      -∗ crt c true 2
      -∗ dutyTok (ER (F := F)) (crdC true (prv true c)) 0 2
      -∗ crt c true 3
      -∗ dutyTok (ER (F := F)) (crdC true (prv true c)) 0 3
      -∗ semVal ((c : Thread nD τ), .dma (oSem true)) 0
      -∗ ha c (outM c true)
      -∗ ha c (outM (c + 1) true)
      -∗ ha c (outM (c + 2) true)
      -∗ ha c (outM (c + 3) true)
      -∗ semVal ((c : Thread nD τ), .dma lSem) 0
      -∗ cred (tallyAt (barC c) 1 2)
      -∗ atPos (ER (F := F)) (barC c) 0 ∅ 0
      -∗ hv c (Memref.whole main_arg0) fullShare (I.x c)
      -∗ hv c (Memref.whole main_arg1) fullShare (I.w c)
      -∗ hv c arg2 fullShare (I.s1 c)
      -∗ hv c arg3 fullShare (I.s2 c)
      -∗ ha c (Memref.whole cc0_scratch0)
      -∗ ha c (Memref.whole cc0_scratch1)
      -∗ ha c (Memref.whole cc0_scratch2)
      -∗ ha c (Memref.whole cc0_scratch3)
      -∗ ha c (Memref.whole cc0_scratch4)
      -∗ iprop((iprop(atPos (ER (F := F)) (barC c) (0 + 1) ∅ 0 ∗ hv c (Memref.whole main_arg1) fullShare (I.w c) ∗ hv c (Memref.whole cc0_scratch0) fullShare (wc I c 3) ∗ hv c (Memref.whole cc0_scratch2) fullShare (I.xb c (c + 2)) ∗ hv c (Memref.whole main_arg0) fullShare (I.x c) ∗ semVal ((c : Thread nD τ), .dma lSem) 0 ∗ hv c (Memref.whole cc0_scratch1) fullShare (I.wb c) ∗ xf c false 0 3 ∗ xf c true 0 3 ∗ xf c false 1 3 ∗ xf c true 1 3 ∗ xf c false 2 3 ∗ xf c true 2 3 ∗ hv c arg2 fullShare (I.s1 c) ∗ hv c arg3 fullShare (I.s2 c) ∗ hv c (Memref.whole cc0_scratch4) fullShare (I.p9 c) ∗ hv c (outM (c + 1) false) fullShare (I.tile false (c + 1)) ∗ hv c (outM (c + 3) true) fullShare (I.tile true (c + 3)) ∗ xf c false 3 3 ∗ hv c (stageM false) fullShare (I.sent false c 3) ∗ xf c true 3 3 ∗ hv c (stageM true) fullShare (I.sent true c 3) ∗ hv c (outM c false) fullShare (I.tile false c) ∗ hv c (outM c true) fullShare (I.tile true c) ∗ xf c false 4 3 ∗ xf c true 4 3 ∗ crr c false 4 ∗ crr c true 4 ∗ crw c false 4 ∗ crw c true 4 ∗ hv c (outM (c + 3) false) fullShare (I.tile false (c + 3)) ∗ hv c (outM (c + 1) true) fullShare (I.tile true (c + 1)) ∗ xf c false 5 3 ∗ hv c (slotM false false) fullShare (I.sent false c 5) ∗ hv c (slotM true false) fullShare (I.sent true c 5) ∗ xf c true 5 3 ∗ hv c (slotM false true) fullShare (I.sent false (prv false c) 5) ∗ hv c (outM (c + 2) false) fullShare (I.tile false (c + 2)) ∗ semVal ((c : Thread nD τ), .dma (oSem false)) 0 ∗ hv c (outM (c + 2) true) fullShare (I.tile true (c + 2)) ∗ ow c 22 ∗ hv c (slotM true true) fullShare (I.sent true (prv true c) 5) ∗ semVal ((c : Thread nD τ), .dma (oSem true)) 0) -∗ Q ⟨⟩))
      -∗ Run c (cc0_body (F := F) (Memref.whole main_arg0) (Memref.isWhole_whole _) (Memref.whole main_arg1) (Memref.isWhole_whole _) arg2 harg2 arg3 harg3 (Memref.whole main_v3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18) Q) := by
  rw [cc0_body_eq_skeleton]
  unfold cc0_body_skel
  iintro #HE HO B0 O00 O01 X00 X01 X02 X03 X04 X05 R0 W0 T00 D00 T01 D01 T02 D02 T03 D03 V0 Y00 Y01 Y02 Y03 B1 O10 O11 X10 X11 X12 X13 X14 X15 R1 W1 T10 D10 T11 D11 T12 D12 T13 D13 V1 Y10 Y11 Y12 Y13 VL BC BP A0 A1 S1 S2 H5 H6 H7 H8 H9 Hk
  iapply (run_bind c _ _ _)
  iapply (part24_run I K ι c arg2 harg2 arg3 harg3 _) $$ HE HO B0 O00 O01 X00 X01 X02 X03 X04 X05 R0 W0 T00 D00 T01 D01 T02 D02 T03 D03 V0 Y00 Y01 Y02 Y03 B1 O10 O11 X10 X11 X12 X13 X14 X15 R1 W1 T10 D10 T11 D11 T12 D12 T13 D13 V1 Y10 Y11 Y12 Y13 VL BC BP A0 A1 S1 S2 H5 H6 H7 H8 H9
  iintro ⟨BP, A1, H5, H7, A0, VL, H6, X00, X10, X01, X11, X02, X12, S1, S2, H9, Y01, Y13, X03, G0, X13, G1, Y00, Y10, X04, X14, R0, R1, W0, W1, Y03, Y11, X05, Q00, Q10, X15, Q01, Y02, V0, Y12, HO⟩
  simp only [Prog.lift, Prog.bind_op, Prog.bind_ret, Prog.pure_eq_ret]
  iapply (owait I K ι c 22 (by decide) true _ rfl (k0_off9 c 2#32) _ _) $$ HE Y12 HO
  iintro ⟨Y12, Q11, V1, HO⟩
  iapply (run_ret c)
  iapply Hk
  isplitl [BP]; · iexact BP
  isplitl [A1]; · iexact A1
  isplitl [H5]; · iexact H5
  isplitl [H7]; · iexact H7
  isplitl [A0]; · iexact A0
  isplitl [VL]; · iexact VL
  isplitl [H6]; · iexact H6
  isplitl [X00]; · iexact X00
  isplitl [X10]; · iexact X10
  isplitl [X01]; · iexact X01
  isplitl [X11]; · iexact X11
  isplitl [X02]; · iexact X02
  isplitl [X12]; · iexact X12
  isplitl [S1]; · iexact S1
  isplitl [S2]; · iexact S2
  isplitl [H9]; · iexact H9
  isplitl [Y01]; · iexact Y01
  isplitl [Y13]; · iexact Y13
  isplitl [X03]; · iexact X03
  isplitl [G0]; · iexact G0
  isplitl [X13]; · iexact X13
  isplitl [G1]; · iexact G1
  isplitl [Y00]; · iexact Y00
  isplitl [Y10]; · iexact Y10
  isplitl [X04]; · iexact X04
  isplitl [X14]; · iexact X14
  isplitl [R0]; · iexact R0
  isplitl [R1]; · iexact R1
  isplitl [W0]; · iexact W0
  isplitl [W1]; · iexact W1
  isplitl [Y03]; · iexact Y03
  isplitl [Y11]; · iexact Y11
  isplitl [X05]; · iexact X05
  isplitl [Q00]; · iexact Q00
  isplitl [Q10]; · iexact Q10
  isplitl [X15]; · iexact X15
  isplitl [Q01]; · iexact Q01
  isplitl [Y02]; · iexact Y02
  isplitl [V0]; · iexact V0
  isplitl [Y12]; · iexact Y12
  isplitl [HO]; · iexact HO
  isplitl [Q11]; · iexact Q11
  iexact V1

end Cert.Ring

end
-- ==== Proof.Wrap.lean ====
/- The body between whole buffers, and its cells opened and closed. -/
module

public import proofs.«01_k».proof.Proof.Body
public import Idealize.ShloMosaic.Lib.Rounds.Family

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

open Idealize.ShloMosaic.Rounds (atPos dutyTok reached cellInv openTok)

variable [FloatOps F]

local notation "𝕄" => MT nD τ sig ℕ (Elt F) ℕ UU ℕ

/-! ## Small families -/

section
omit [FloatOps F]

theorem b2 (Φ : Bool → sProp 𝕄) : bigSep Finset.univ Φ = iprop(Φ false ∗ Φ true) := by
  rw [show (Finset.univ : Finset Bool) = {false, true} by decide, bigSep_insert (by decide), bigSep_singleton]; rfl

theorem b4 (Φ : Fin 4 → sProp 𝕄) : bigSep Finset.univ Φ = iprop(Φ 0 ∗ Φ 1 ∗ Φ 2 ∗ Φ 3) := by
  rw [show (Finset.univ : Finset (Fin 4)) = {0, 1, 2, 3} by decide, bigSep_insert (by decide), bigSep_insert (by decide), bigSep_insert (by decide),
    bigSep_singleton]; rfl

theorem b6 (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} by decide, bigSep_insert (by decide), bigSep_insert (by decide), bigSep_insert (by decide),
    bigSep_insert (by decide), bigSep_insert (by decide), bigSep_singleton]; rfl

end

/-! ## Buffers and their parts -/

section

variable {sp : Space} {s : Shape} {e : EltTy}

theorem ha_split (c : Dev nD) (M : Memref sig .tc sp s e) (r r' : Rect s) (h : ∀ a, r.stride a = 1) (h' : ∀ a, r'.stride a = 1)
    (hd : Disjoint r.set r'.set) (hu : r.set ∪ r'.set = Finset.univ) :
    ha c M ⊢ (iprop(ha c (M.slice r h) ∗ ha c (M.slice r' h')) : sProp 𝕄) := by
  unfold ha
  iintro ⟨%X, H⟩
  ihave H := (hv_split c M r r' h h' hd hu fullShare X) $$ H
  icases H with ⟨H, H'⟩
  isplitl [H]
  · iexists (fun i => X (r.emb i)); iexact H
  · iexists (fun i => X (r'.emb i)); iexact H'

/-- Two contents of the parts are one contents of the whole. -/
theorem glue_exists {α : Type} (r r' : Rect s) (hd : Disjoint r.set r'.set) (hu : r.set ∪ r'.set = Finset.univ) (Y : r.shape.Idx → α) (Y' : r'.shape.Idx → α) :
    ∃ X : s.Idx → α, (fun i => X (r.emb i)) = Y ∧ (fun i => X (r'.emb i)) = Y' := by
  classical
  have hm (i : s.Idx) (hi : ¬ ∃ x, r.emb x = i) : ∃ x, r'.emb x = i := by
    have : i ∈ r.set ∪ r'.set := hu ▸ Finset.mem_univ i
    rcases Finset.mem_union.1 this with h | h
    · rw [← Rect.map_emb_univ] at h; obtain ⟨x, -, hx⟩ := Finset.mem_map.1 h; exact absurd ⟨x, hx⟩ hi
    · rw [← Rect.map_emb_univ] at h; obtain ⟨x, -, hx⟩ := Finset.mem_map.1 h; exact ⟨x, hx⟩
  refine ⟨fun i => if h : ∃ x, r.emb x = i then Y h.choose else Y' (hm i h).choose, ?_, ?_⟩
  · funext x
    have h : ∃ y, r.emb y = r.emb x := ⟨x, rfl⟩
    show (if h : ∃ y, r.emb y = r.emb x then Y h.choose else _) = Y x
    rw [dif_pos h, r.emb.injective h.choose_spec]
  · funext x
    have h : ¬ ∃ y, r.emb y = r'.emb x := fun ⟨y, hy⟩ =>
      Finset.disjoint_left.1 hd (r.idx_mem y) ((show r.idx y = r'.idx x from hy) ▸ r'.idx_mem x)
    show (if h : ∃ y, r.emb y = r'.emb x then Y h.choose else Y' (hm _ h).choose) = Y' x
    rw [dif_neg h, r'.emb.injective (hm _ h).choose_spec]

theorem ha_glue (c : Dev nD) (M : Memref sig .tc sp s e) (r r' : Rect s) (h : ∀ a, r.stride a = 1) (h' : ∀ a, r'.stride a = 1)
    (hd : Disjoint r.set r'.set) (hu : r.set ∪ r'.set = Finset.univ) :
    iprop(ha c (M.slice r h) ∗ ha c (M.slice r' h')) ⊢ (ha c M : sProp 𝕄) := by
  unfold ha
  iintro ⟨⟨%Y, H⟩, ⟨%Y', H'⟩⟩
  obtain ⟨X, hX, hX'⟩ := glue_exists r r' hd hu Y Y'
  subst hX; subst hX'
  iexists X
  iapply (hv_glue c M r r' h h' hd hu X)
  isplitl [H]; · iexact H
  iexact H'

end

section

variable (I : Ins F) (K : GSem nD τ sig → ℕ) (ι : Key → ℕ)
variable (c : Dev nD)

omit [FloatOps F] in
theorem slot_disj : Disjoint (slotR false).set (slotR true).set := by
  rw [Finset.disjoint_left]
  intro i h h'
  unfold slotR at h h'
  rw [Rect.mem_set_unit] at h h'
  have a := (h 0).2; have b := (h' 0).1
  change (i 0).val < 0 + 1 at a
  change 1 ≤ (i 0).val at b
  omega
omit [FloatOps F] in
theorem slot_cover : (slotR false).set ∪ (slotR true).set = Finset.univ := by
  rw [Finset.eq_univ_iff_forall]
  intro i
  rw [Finset.mem_union]
  unfold slotR
  rw [Rect.mem_set_unit, Rect.mem_set_unit]
  have h0 : (i 0).val < 2 := (i 0).isLt
  have h1 : (i 1).val < 1024 := (i 1).isLt
  have h2 : (i 2).val < 1024 := (i 2).isLt
  by_cases h : (i 0).val = 0
  · left
    intro a
    fin_cases a
    · show 0 ≤ (i 0).val ∧ (i 0).val < 0 + 1; omega
    · show 0 ≤ (i 1).val ∧ (i 1).val < 0 + 1024; omega
    · show 0 ≤ (i 2).val ∧ (i 2).val < 0 + 1024; omega
  · right
    intro a
    fin_cases a
    · show 1 ≤ (i 0).val ∧ (i 0).val < 1 + 1; omega
    · show 0 ≤ (i 1).val ∧ (i 1).val < 0 + 1024; omega
    · show 0 ≤ (i 2).val ∧ (i 2).val < 0 + 1024; omega

theorem slot_un_ha (d j : Bool) : ha c (slotM d j) ⊢ (ha c ((commM d).slice (slotR j) (fun _ => rfl)) : sProp 𝕄) := by
  unfold ha; iintro ⟨%X, H⟩; iexists (up X); iapply (slot_un c d j fullShare X) $$ H
theorem slot_re_ha (d j : Bool) : ha c ((commM d).slice (slotR j) (fun _ => rfl)) ⊢ (ha c (slotM d j) : sProp 𝕄) := by
  unfold ha; iintro ⟨%X, H⟩; iexists (dn X); iapply ((Entails.of_eq (congrArg (hv c ((commM d).slice (slotR j) (fun _ => rfl)) fullShare) (up_dn X).symm)).trans (slot_re c d j fullShare (dn X))) $$ H

/-- A receive buffer is its two slots. -/
theorem comm_split (d : Bool) : ha c (commM d) ⊢ (iprop(ha c (slotM d false) ∗ ha c (slotM d true)) : sProp 𝕄) := by
  refine (ha_split c (commM d) (slotR false) (slotR true) (fun _ => rfl) (fun _ => rfl) slot_disj slot_cover).trans ?_
  iintro ⟨H, H'⟩
  isplitl [H]
  · iapply (slot_re_ha c d false) $$ H
  · iapply (slot_re_ha c d true) $$ H'
theorem comm_join (d : Bool) : iprop(ha c (slotM d false) ∗ ha c (slotM d true)) ⊢ (ha c (commM d) : sProp 𝕄) := by
  iintro ⟨H, H'⟩
  iapply (ha_glue c (commM d) (slotR false) (slotR true) (fun _ => rfl) (fun _ => rfl) slot_disj slot_cover)
  isplitl [H]
  · iapply (slot_un_ha c d false) $$ H
  · iapply (slot_un_ha c d true) $$ H'

omit [FloatOps F] in
theorem half_disj : Disjoint (halfR false).set (halfR true).set := by
  rw [Finset.disjoint_left]
  intro i h h'
  unfold halfR at h h'
  rw [Rect.mem_set_unit] at h h'
  have a := (h 1).2; have b := (h' 1).1
  change (i 1).val < 0 + 1024 at a
  change 1024 ≤ (i 1).val at b
  omega
omit [FloatOps F] in
theorem half_cover : (halfR false).set ∪ (halfR true).set = Finset.univ := by
  rw [Finset.eq_univ_iff_forall]
  intro i
  rw [Finset.mem_union]
  unfold halfR
  rw [Rect.mem_set_unit, Rect.mem_set_unit]
  have h0 : (i 0).val < 1024 := (i 0).isLt
  have h1 : (i 1).val < 2048 := (i 1).isLt
  by_cases h : (i 1).val < 1024
  · left
    intro a
    fin_cases a
    · show 0 ≤ (i 0).val ∧ (i 0).val < 0 + 1024; omega
    · show 0 ≤ (i 1).val ∧ (i 1).val < 0 + 1024; omega
  · right
    intro a
    fin_cases a
    · show 0 ≤ (i 0).val ∧ (i 0).val < 0 + 1024; omega
    · show 1024 ≤ (i 1).val ∧ (i 1).val < 1024 + 1024; omega

/-- The staging matrix is its two halves. -/
theorem stage_join : iprop(ha c (stageM false) ∗ ha c (stageM true)) ⊢ (ha c (Memref.whole cc0_scratch3) : sProp 𝕄) :=
  ha_glue c (Memref.whole cc0_scratch3) (halfR false) (halfR true) (fun _ => rfl) (fun _ => rfl) half_disj half_cover

/-! ## The output's tiles -/

/-- The tiles of the output as a device meets them: by column half, and by how many devices on the row block lies. -/
def tileE : Bool × Fin 4 ≃ Dev nD × Bool where
  toFun x := (c + x.2, x.1)
  invFun y := (y.2, y.1 - c)
  left_inv := by revert c; decide
  right_inv := by revert c; decide

omit [FloatOps F] in
theorem tiles_eq (Φ : Dev nD × Bool → sProp 𝕄) : bigSep Finset.univ Φ
    = iprop((Φ (c, false) ∗ Φ (c + 1, false) ∗ Φ (c + 2, false) ∗ Φ (c + 3, false)) ∗ (Φ (c, true) ∗ Φ (c + 1, true) ∗ Φ (c + 2, true) ∗ Φ (c + 3, true))) := by
  have h0 : c + 0 = c := by revert c; decide
  rw [bigSep_univ_equiv (tileE c), bigSep_univ_prod, b2, b4, b4]
  show iprop((Φ (c + 0, false) ∗ Φ (c + 1, false) ∗ Φ (c + 2, false) ∗ Φ (c + 3, false)) ∗ (Φ (c + 0, true) ∗ Φ (c + 1, true) ∗ Φ (c + 2, true) ∗ Φ (c + 3, true))) = _
  rw [h0]

/-- The whole output as the kernel leaves it. -/
def outV : S4096x2048.Idx → Elt F .f32 := whole fun t => I.tile t.2 t.1

/-! ## The body between whole buffers -/

/-- What a device holds at the start for one direction: its tokens, its places, its credits and its rights to write. -/
def dir (d : Bool) : sProp 𝕄 :=
  iprop(dutyTok (ER (F := F)) (barC (prv d c)) 0 (bi d) ∗ (bigSep Finset.univ fun k : Fin 6 => xf c d k 0) ∗ crr c d 0 ∗ crw c d 0
    ∗ bigSep Finset.univ fun m : Fin 4 => iprop(crt c d m ∗ dutyTok (ER (F := F)) (crdC d (prv d c)) 0 m))
/-- What it is left with for that direction. -/
def dirE (d : Bool) : sProp 𝕄 := iprop((bigSep Finset.univ fun k : Fin 6 => xf c d k 3) ∗ crw c d 4)

/-- The scratch buffers, at any contents. -/
def scr : sProp 𝕄 :=
  iprop(ha c (Memref.whole cc0_scratch0) ∗ ha c (Memref.whole cc0_scratch1) ∗ ha c (Memref.whole cc0_scratch2) ∗ ha c (Memref.whole cc0_scratch3)
    ∗ ha c (Memref.whole cc0_scratch4) ∗ ha c (Memref.whole cc0_scratch5) ∗ ha c (Memref.whole cc0_scratch6))
/-- The counters of the local copies, at zero. -/
def locs : sProp 𝕄 :=
  iprop(semVal ((c : Thread nD τ), .dma lSem) 0 ∗ semVal ((c : Thread nD τ), .dma (oSem false)) 0 ∗ semVal ((c : Thread nD τ), .dma (oSem true)) 0)

/-- What the body needs of the ghost state. -/
def ghostI : sProp 𝕄 := iprop(env I K ι c ∗ dir c false ∗ dir c true ∗ locs c ∗ cred (tallyAt (barC c) 1 2) ∗ atPos (ER (F := F)) (barC c) 0 ∅ 0)
/-- What it leaves of it. -/
def ghostE : sProp 𝕄 := iprop(dirE c false ∗ dirE c true ∗ locs c ∗ atPos (ER (F := F)) (barC c) (0 + 1) ∅ 0)

set_option maxHeartbeats 1000000 in
/-- The kernel's body between whole buffers: the result ends at the tiles' values, the arguments as they were. -/
theorem body_whole (arg2 : Memref sig .tc .smem S1x1 .f32) (harg2 : arg2.IsWhole) (arg3 : Memref sig .tc .smem S1x1 .f32) (harg3 : arg3.IsWhole)
    (f : Buf (Elt F) ((Memref.whole main_v3).view.loc (c : Thread nD τ))) (Q : PUnit → sProp 𝕄) :
    ghostI I K ι c ⊢ iprop(ow c 0 -∗ hv c (Memref.whole main_arg0) fullShare (I.x c) -∗ hv c (Memref.whole main_arg1) fullShare (I.w c)
      -∗ hv c arg2 fullShare (I.s1 c) -∗ hv c arg3 fullShare (I.s2 c)
      -∗ ((Memref.whole main_v3).view.loc (c : Thread nD τ) ↦[Finset.univ]{fullShare} f) -∗ scr c
      -∗ (iprop(ow c 22 ∗ hv c (Memref.whole main_arg0) fullShare (I.x c) ∗ hv c (Memref.whole main_arg1) fullShare (I.w c)
          ∗ hv c arg2 fullShare (I.s1 c) ∗ hv c arg3 fullShare (I.s2 c)
          ∗ ((Memref.whole main_v3).view.loc (c : Thread nD τ) ↦[Finset.univ]{fullShare} (outV I : Buf (Elt F) ((Memref.whole main_v3).view.loc (c : Thread nD τ)))) ∗ scr c ∗ ghostE c) -∗ Q ⟨⟩)
      -∗ Run c (cc0_body (F := F) (Memref.whole main_arg0) (Memref.isWhole_whole _) (Memref.whole main_arg1) (Memref.isWhole_whole _) arg2 harg2 arg3 harg3 (Memref.whole main_v3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18) Q) := by
  unfold ghostI dir scr locs
  rw [b6, b6, b4, b4]
  iintro ⟨#HE, ⟨B0, ⟨X00, X01, X02, X03, X04, X05⟩, R0, W0, ⟨T00, D00⟩, ⟨T01, D01⟩, ⟨T02, D02⟩, T03, D03⟩, ⟨B1, ⟨X10, X11, X12, X13, X14, X15⟩, R1, W1, ⟨T10, D10⟩, ⟨T11, D11⟩, ⟨T12, D12⟩, T13, D13⟩, ⟨VL, V0, V1⟩, BC, BP⟩ HO A0 A1 S1 S2 Hout ⟨H5, H6, H7, H8, H9, HA, HB⟩ Hk
  ihave HA := ((Entails.of_eq (show ha c (Memref.whole cc0_scratch5) = (ha c (commM false) : sProp 𝕄) from rfl)).trans (comm_split c false)) $$ HA
  icases HA with ⟨O00, O01⟩
  ihave HB := ((Entails.of_eq (show ha c (Memref.whole cc0_scratch6) = (ha c (commM true) : sProp 𝕄) from rfl)).trans (comm_split c true)) $$ HB
  icases HB with ⟨O10, O11⟩
  ihave Hout := ((out_split c f).trans (Entails.of_eq (tiles_eq c _))) $$ Hout
  icases Hout with ⟨⟨Y00, Y01, Y02, Y03⟩, Y10, Y11, Y12, Y13⟩
  iapply (body_run I K ι c arg2 harg2 arg3 harg3 Q) $$ HE HO B0 O00 O01 X00 X01 X02 X03 X04 X05 R0 W0 T00 D00 T01 D01 T02 D02 T03 D03 V0 Y00 Y01 Y02 Y03 B1 O10 O11 X10 X11 X12 X13 X14 X15 R1 W1 T10 D10 T11 D11 T12 D12 T13 D13 V1 Y10 Y11 Y12 Y13 VL BC BP A0 A1 S1 S2 H5 H6 H7 H8 H9
  iintro ⟨BP, A1, H5, H7, A0, VL, H6, X00, X10, X01, X11, X02, X12, S1, S2, H9, Y01, Y13, X03, G0, X13, G1, Y00, Y10, X04, X14, R0, R1, W0, W1, Y03, Y11, X05, Q00, Q10, X15, Q01, Y02, V0, Y12, HO, Q11, V1⟩
  iapply Hk
  isplitl [HO]; · iexact HO
  isplitl [A0]; · iexact A0
  isplitl [A1]; · iexact A1
  isplitl [S1]; · iexact S1
  isplitl [S2]; · iexact S2
  isplitl [Y00 Y01 Y02 Y03 Y10 Y11 Y12 Y13]
  · unfold outV
    iapply (out_join c (fun t => I.tile t.2 t.1))
    iapply (Entails.of_eq (tiles_eq c (fun t : Dev nD × Bool => hv c (outM t.1 t.2) fullShare (I.tile t.2 t.1))).symm)
    isplitl [Y00 Y01 Y02 Y03]
    · isplitl [Y00]; · iexact Y00
      isplitl [Y01]; · iexact Y01
      isplitl [Y02]; · iexact Y02
      iexact Y03
    · isplitl [Y10]; · iexact Y10
      isplitl [Y11]; · iexact Y11
      isplitl [Y12]; · iexact Y12
      iexact Y13
  isplitl [H5 H6 H7 H9 G0 G1 Q00 Q01 Q10 Q11]
  · isplitl [H5]; · iapply (hv_ha c _ _) $$ H5
    isplitl [H6]; · iapply (hv_ha c _ _) $$ H6
    isplitl [H7]; · iapply (hv_ha c _ _) $$ H7
    isplitl [G0 G1]
    · iapply (stage_join c)
      isplitl [G0]; · iapply (hv_ha c _ _) $$ G0
      iapply (hv_ha c _ _) $$ G1
    isplitl [H9]; · iapply (hv_ha c _ _) $$ H9
    isplitl [Q00 Q01]
    · iapply (comm_join c false)
      isplitl [Q00]; · iapply (hv_ha c _ _) $$ Q00
      iapply (hv_ha c _ _) $$ Q01
    · iapply (comm_join c true)
      isplitl [Q10]; · iapply (hv_ha c _ _) $$ Q10
      iapply (hv_ha c _ _) $$ Q11
  unfold ghostE dirE locs
  rw [b6, b6]
  isplitl [X00 X01 X02 X03 X04 X05 W0]
  · isplitr [W0]
    · isplitl [X00]; · iexact X00
      isplitl [X01]; · iexact X01
      isplitl [X02]; · iexact X02
      isplitl [X03]; · iexact X03
      isplitl [X04]; · iexact X04
      iexact X05
    iexact W0
  isplitl [X10 X11 X12 X13 X14 X15 W1]
  · isplitr [W1]
    · isplitl [X10]; · iexact X10
      isplitl [X11]; · iexact X11
      isplitl [X12]; · iexact X12
      isplitl [X13]; · iexact X13
      isplitl [X14]; · iexact X14
      iexact X15
    iexact W1
  isplitl [VL V0 V1]
  · isplitl [VL]; · iexact VL
    isplitl [V0]; · iexact V0
    iexact V1
  iexact BP

end

end Cert.Ring

end
-- ==== Proof.Fund.lean ====
/- What the devices hold at launch: the invariants, each device's share of the tokens and of the credits; the cells opened and closed. -/
module

public import proofs.«01_k».proof.Proof.Wrap
public import Idealize.ShloMosaic.Lib.Pipeline.RegionTalk
public import Idealize.ShloMosaic.Lib.Release

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

open Idealize.ShloMosaic.Rounds (atPos dutyTok reached cellInv openTok)

variable [FloatOps F]

local notation "𝕄" => MT nD τ sig ℕ (Elt F) ℕ UU ℕ

/-! ## The credits -/

/-- A payment every device makes: where it goes round the ring, the semaphore, the level and the units. -/
abbrev Pt : Type := (Dev nD ≃ Dev nD) × SemLoc sig × ℕ × ℕ
def Pt.due (c : Dev nD) (p : Pt) : Due := ⟨p.1 c, p.2.1, p.2.2.1, p.2.2.2⟩
def Pt.get (c : Dev nD) (p : Pt) : Due := ⟨c, p.2.1, p.2.2.1, p.2.2.2⟩
abbrev pB (d : Bool) : Pt := ((ring d).symm, .reg bSem, 1, 1)
abbrev pC (d : Bool) (j : Fin 4) : Pt := ((ring d).symm, .reg (cSem d), lvC j, 1)
abbrev pR (d : Bool) (k : Fin 6) : Pt := (ring d, .dma (rSem d k), lvR k, NN)
def pts : List Pt :=
  [pB false, pB true, pR false 0, pR true 0, pR false 1, pR true 1, pC false 0, pC true 0,
   pR false 2, pR true 2, pC false 1, pC true 1, pC false 2, pC true 2, pR false 3, pR true 3,
   pR false 4, pR true 4, pC false 3, pC true 3, pR false 5, pR true 5]
/-- What device `c` is paid. -/
def gets (c : Dev nD) : List Due := pts.map (Pt.get c)

omit [FloatOps F] in
theorem dues_pts (c : Dev nD) : dues c = pts.map (Pt.due c) := rfl

omit [FloatOps F] in
/-- Paid round the ring or at home, the sums over the devices agree. -/
theorem owe_sum (l : List Pt) (g : GSem nD τ sig) (i : ℕ) :
    ∑ c : Dev nD, owe (l.map (Pt.due c)) g i = ∑ c : Dev nD, owe (l.map (Pt.get c)) g i := by
  induction l with
  | nil => rfl
  | cons p l ih =>
    have e (h : Dev nD → Due) (t : Dev nD → List Due) (c : Dev nD) :
        owe (h c :: t c) g i = owe (t c) g i + tallyAt (h c).g (h c).i (h c).n g i := rfl
    simp only [List.map_cons]
    rw [Finset.sum_congr rfl fun c _ => e (fun c => Pt.due c p) (fun c => l.map (Pt.due c)) c,
      Finset.sum_congr rfl fun c _ => e (fun c => Pt.get c p) (fun c => l.map (Pt.get c)) c, Finset.sum_add_distrib, Finset.sum_add_distrib, ih]
    congr 1
    exact Equiv.sum_comp p.1 (fun c => tallyAt (Pt.get c p).g (Pt.get c p).i (Pt.get c p).n g i)

omit [FloatOps F] in
theorem gets_at (c c' : Dev nD) (s : SemLoc sig) (i : ℕ) (h : c' ≠ c) : owe (gets c') ((c : Thread nD τ), s) i = 0 := by
  by_contra h0
  obtain ⟨e, he, hg, -⟩ := owe_pos (Nat.pos_of_ne_zero h0)
  obtain ⟨p, -, rfl⟩ := List.mem_map.1 he
  exact h (tc_inj hg).1.symm

/-- The credits of a list of payments, one by one. -/
def credL : List Due → sProp 𝕄
  | [] => iprop(emp)
  | e :: l => iprop(cred (tallyAt e.g e.i e.n) ∗ credL l)

omit [FloatOps F] in
theorem credL_of (l : List Due) : cred (owe l) ⊢ (credL l : sProp 𝕄) := by
  induction l with
  | nil => exact Entails.of_eq cred_zero
  | cons e l ih =>
    show cred (owe l + tallyAt e.g e.i e.n) ⊢ (iprop(cred (tallyAt e.g e.i e.n) ∗ credL l) : sProp 𝕄)
    refine (cred_add _ _).1.trans ?_
    iintro ⟨H, H'⟩
    isplitl [H']; · iexact H'
    iapply ih $$ H

omit [FloatOps F] in
theorem cred_sum (S : Finset (SemLoc sig)) (f : SemLoc sig → CellTallies nD τ sig ℕ) :
    bigSep S (fun s => cred (f s)) ⊢ (cred (∑ s ∈ S, f s) : sProp 𝕄) := by
  induction S using Finset.induction_on with
  | empty => rw [Finset.sum_empty, bigSep_empty]; exact Entails.of_eq cred_zero.symm
  | insert a S ha ih =>
    rw [Finset.sum_insert ha, bigSep_insert ha]
    refine BIBase.Entails.trans ?_ (cred_add _ _).2
    show iprop(cred (f a) ∗ bigSep S (fun s => cred (f s))) ⊢ (iprop(cred (f a) ∗ cred (∑ s ∈ S, f s)) : sProp 𝕄)
    iintro ⟨H, H'⟩
    isplitl [H]; · iexact H
    iapply ih $$ H'

omit [FloatOps F] in
theorem cells_sum (c : Dev nD) :
    ∑ s : SemLoc sig, tallyOn ((c.tc : Thread nD τ), s) (launchCredit (Pipeline.owing fun c => od 0 c) 0 ((c.tc : Thread nD τ), s)) = owe (gets c) := by
  have hl (s : SemLoc sig) (i : ℕ) : launchCredit (Pipeline.owing fun c => od 0 c) 0 ((c.tc : Thread nD τ), s) i = owe (gets c) ((c : Thread nD τ), s) i := by
    rw [Pipeline.launchCredit_owing]
    show ∑ d : Dev nD, owe (pts.map (Pt.due d)) ((c : Thread nD τ), s) i = _
    rw [owe_sum]
    show ∑ c' : Dev nD, owe (gets c') ((c : Thread nD τ), s) i = _
    rw [Finset.sum_eq_single c (fun c' _ h => gets_at c c' s i h) (fun h => absurd (Finset.mem_univ c) h)]
  have hL (s : SemLoc sig) : launchCredit (Pipeline.owing fun c => od 0 c) 0 ((c.tc : Thread nD τ), s) = owe (gets c) ((c : Thread nD τ), s) :=
    Finsupp.ext (hl s)
  simp only [hL]
  funext g
  rw [Finset.sum_apply]
  by_cases hg : g.1 = (c : Thread nD τ)
  · obtain ⟨t, s⟩ := g
    subst hg
    rw [Finset.sum_eq_single s]
    · exact tallyOn_self _ _
    · intro s' _ h
      exact tallyOn_ne (fun h' => h (congrArg Prod.snd h').symm) _
    · exact fun h => absurd (Finset.mem_univ s) h
  · rw [Finset.sum_eq_zero (fun s _ => tallyOn_ne (fun h => hg (congrArg Prod.fst h)) _)]
    refine (Finsupp.ext fun i => ?_)
    symm
    by_contra h0
    obtain ⟨e, he, hg', -⟩ := owe_pos (Nat.pos_of_ne_zero h0)
    obtain ⟨p, -, rfl⟩ := List.mem_map.1 he
    exact hg (congrArg Prod.fst hg')

omit [FloatOps F] in
/-- A device's launch credit is the credits of what it is paid. -/
theorem creds_of (c : Dev nD) : Pipeline.launchCred (fun c => od 0 c) c ⊢ (credL (gets c) : sProp 𝕄) := by
  unfold Pipeline.launchCred
  refine (cred_sum Finset.univ _).trans ?_
  rw [cells_sum]
  exact credL_of _

/-! ## The tokens -/

/-- The duties of one device's cells. -/
abbrev TI : Type := (Bool × Bool × Fin 6) ⊕ ((Bool × Fin 4) ⊕ Bool)
def tCell : TI → SemLoc sig
  | .inl (true, d, k) => .dma (sSem d k)
  | .inl (false, d, k) => .dma (rSem d k)
  | .inr (.inl (d, _)) => .reg (cSem d)
  | .inr (.inr _) => .reg bSem
def tDuty : TI → Fin 4
  | .inl _ => 0
  | .inr (.inl (_, j)) => j
  | .inr (.inr d) => bi d
/-- The device on whose cell lies the duty a device pays. -/
def tTo : TI → (Dev nD ≃ Dev nD)
  | .inl (true, _, _) => Equiv.refl _
  | .inl (false, d, _) => ring d
  | .inr (.inl (d, _)) => (ring d).symm
  | .inr (.inr d) => (ring d).symm

omit [FloatOps F] in
theorem tok_inj : ∀ a b : TI, tCell a = tCell b → tDuty a = tDuty b → a = b := by decide +kernel

def tokEmb : Dev nD × TI ↪ GSem nD τ sig × ℕ × Fin 4 :=
  ⟨fun x => (((x.1 : Thread nD τ), tCell x.2), 0, tDuty x.2), fun x y h => by
    have h1 : (((x.1 : Thread nD τ), tCell x.2) : GSem nD τ sig) = ((y.1 : Thread nD τ), tCell y.2) := congrArg Prod.fst h
    have h2 : tDuty x.2 = tDuty y.2 := congrArg (fun z => z.2.2) h
    exact Prod.ext (tc_inj h1).1 (tok_inj _ _ (tc_inj h1).2 h2)⟩
def toks : Finset (GSem nD τ sig × ℕ × Fin 4) := Finset.univ.map tokEmb

omit [FloatOps F] in
theorem fam_comm {A B : Type} [Fintype A] [Fintype B] (Φ : A → B → sProp 𝕄) :
    (bigSep Finset.univ fun a => bigSep Finset.univ fun b => Φ a b) = bigSep Finset.univ fun b => bigSep Finset.univ fun a => Φ a b := by
  have h1 := bigSep_univ_prod (fun x : A × B => Φ x.1 x.2)
  have h2 := bigSep_univ_prod (fun x : B × A => Φ x.2 x.1)
  have h3 := bigSep_univ_equiv (Equiv.prodComm B A) (fun x : A × B => Φ x.1 x.2)
  exact (h1.symm.trans h3).trans h2

omit [FloatOps F] in
/-- A family over the devices and the duties, each duty's moved round the devices. -/
theorem shift {T : Type} [Fintype T] [DecidableEq T] (σ : T → (Dev nD ≃ Dev nD)) (Φ : Dev nD → T → sProp 𝕄) :
    (bigSep Finset.univ fun c => bigSep Finset.univ fun t => Φ c t) = bigSep Finset.univ fun c => bigSep Finset.univ fun t => Φ (σ t c) t := by
  rw [fam_comm Φ, fam_comm (fun c t => Φ (σ t c) t)]
  exact bigSep_congr fun t _ => bigSep_univ_equiv (σ t) (fun c => Φ c t)

/-- The writes a device makes into its neighbours' slots. -/
def wrEmb : Dev nD × (Bool × Fin 4) ↪ Key × ℕ :=
  ⟨fun x => (keyOf x.1 x.2.1 (slJ x.2.2), x.2.2.val / 2), fun x y h => by revert x y; decide +kernel⟩
omit [FloatOps F] in
theorem wr_map : (Finset.univ : Finset Key) ×ˢ Finset.range 2 = Finset.univ.map wrEmb := by decide +kernel

/-! ## What the launch yields -/

variable (I : Ins F) (K : GSem nD τ sig → ℕ) (ι : Key → ℕ)
variable (c : Dev nD)

/-- What every device knows from the launch on. -/
def recs : sProp 𝕄 :=
  iprop((bigSep cells fun g => cellInv (ER (F := F)) (rd I) (K g) g) ∗ (bigSep barCells fun g => reached (ER (F := F)) g 0)
    ∗ bigSep Finset.univ fun k : Key => Release.slotInv (ES (F := F)) (ι k) k (slotS k))
instance recs_persistent : BI.Persistent (recs I K ι) := by unfold recs; infer_instance

/-- A device's place at its barrier cell, and its rights to open its other cells. -/
def linA : sProp 𝕄 :=
  iprop(atPos (ER (F := F)) (barC c) 0 ∅ 0 ∗ bigSep Finset.univ fun x : CI => openTok (ER (F := F)) ((c : Thread nD τ), semOf x))
/-- The duties it is to pay. -/
def linT : sProp 𝕄 := bigSep Finset.univ fun t : TI => dutyTok (ER (F := F)) ((tTo t c : Thread nD τ), tCell t) 0 (tDuty t)
/-- Its slots' readers, and its rights to write into its neighbours'. -/
def linS : sProp 𝕄 :=
  iprop((bigSep Finset.univ fun x : Bool × Bool => Release.readerAt (ES (F := F)) (keyOf c x.1 x.2) 0)
    ∗ bigSep Finset.univ fun x : Bool × Fin 4 => Release.writeTok (ES (F := F)) (keyOf (nxt x.1 c) x.1 (slJ x.2)) (x.2.val / 2 + 1))
/-- A device's share of what the launch yields. -/
def lin : sProp 𝕄 := iprop(linA c ∗ linT c ∗ linS c)

omit [FloatOps F] in
theorem bc_disj : Disjoint barCells scCells := by
  unfold barCells scCells
  rw [Finset.disjoint_left]
  intro g h h'
  obtain ⟨a, -, rfl⟩ := Finset.mem_map.1 h
  obtain ⟨x, -, hx⟩ := Finset.mem_map.1 h'
  have := (tc_inj hx).2
  have hn : ∀ y : CI, semOf y ≠ .reg bSem := by decide +kernel
  exact hn _ this

section
omit [FloatOps F]

theorem bar_fam (Φ : GSem nD τ sig → sProp 𝕄) : bigSep barCells Φ = bigSep Finset.univ fun c : Dev nD => Φ (barC c) := bigSep_map barEmb
theorem sc_fam : bigSep scCells (fun g => openTok (ER (F := F)) g)
    = bigSep Finset.univ fun c : Dev nD => bigSep Finset.univ fun x : CI => openTok (ER (F := F)) ((c : Thread nD τ), semOf x) := by
  unfold scCells; rw [bigSep_map, bigSep_univ_prod]; rfl
theorem tok_fam : bigSep toks (fun x => dutyTok (ER (F := F)) x.1 x.2.1 x.2.2) = bigSep Finset.univ fun c : Dev nD => linT (F := F) c := by
  unfold toks linT; rw [bigSep_map, bigSep_univ_prod]
  exact shift tTo (fun c t => dutyTok (ER (F := F)) ((c : Thread nD τ), tCell t) 0 (tDuty t))
theorem rd_fam : bigSep (Finset.univ : Finset Key) (fun k => Release.readerAt (ES (F := F)) k 0)
    = bigSep Finset.univ fun c : Dev nD => bigSep Finset.univ fun x : Bool × Bool => Release.readerAt (ES (F := F)) (keyOf c x.1 x.2) 0 := by
  rw [bigSep_univ_prod]
theorem wrEmb_apply (c : Dev nD) (x : Bool × Fin 4) : wrEmb (c, x) = (keyOf c x.1 (slJ x.2), x.2.val / 2) := rfl
theorem ring_apply (d : Bool) (c : Dev nD) : ring d c = nxt d c := rfl
theorem wr_fam : bigSep ((Finset.univ : Finset Key) ×ˢ Finset.range 2) (fun x => Release.writeTok (ES (F := F)) x.1 (x.2 + 1))
    = bigSep Finset.univ fun c : Dev nD => bigSep Finset.univ fun x : Bool × Fin 4 =>
        Release.writeTok (ES (F := F)) (keyOf (nxt x.1 c) x.1 (slJ x.2)) (x.2.val / 2 + 1) := by
  have h := shift (F := F) (fun x : Bool × Fin 4 => ring x.1) (fun c x => Release.writeTok (ES (F := F)) (keyOf c x.1 (slJ x.2)) (x.2.val / 2 + 1))
  simp only [ring_apply] at h
  rw [wr_map, bigSep_map, bigSep_univ_prod, ← h]
  simp only [wrEmb_apply]

end

set_option maxHeartbeats 1000000 in
/-- The launch elements of the protocol and of the slots yield what every device knows and each device's share. -/
theorem fund_all :
    iprop((bigSep Finset.univ fun c : Dev nD => semVal (barC c) 0)
        ∗ BI.own (ER (F := F) (Rounds.launchOf barCells scCells toks)) ∗ BI.own (ES (F := F) (Release.initSlots (Finset.univ : Finset Key) 2)))
      ⊢ (|={Set.univ}=> ∃ K ι, recs I K ι ∗ bigSep Finset.univ lin : sProp 𝕄) := by
  iintro ⟨Hv, Hu, Hs⟩
  ihave Hv := (Entails.of_eq (bar_fam (fun g => semVal g 0)).symm) $$ Hv
  imod (Rounds.fund_launch (ER (F := F)) (rd I) bc_disj (fun g _ h => h) toks) $$ [Hv Hu] with ⟨%K, -, #Hinv, #Hr, Hat, Hopen, Htok⟩
  · isplitl [Hv] <;> iassumption
  imod (Release.slots_init (ES (F := F)) (Finset.univ : Finset Key) 2 (fun k => slotS (F := F) k)) $$ Hs with ⟨%ι, -, #Hsl, Hrd, Hwr⟩
  imodintro
  iexists K, ι
  isplitr
  · unfold recs
    isplitr; · iexact Hinv
    isplitr; · iexact Hr
    iexact Hsl
  ihave Hat := (Entails.of_eq (bar_fam (fun g => atPos (ER (F := F)) g 0 ∅ 0))) $$ Hat
  ihave Hopen := (Entails.of_eq sc_fam) $$ Hopen
  ihave Htok := (Entails.of_eq tok_fam) $$ Htok
  ihave Hrd := (Entails.of_eq rd_fam) $$ Hrd
  ihave Hwr := (Entails.of_eq wr_fam) $$ Hwr
  unfold lin linA linS
  simp only [bigSep_sep']
  isplitl [Hat Hopen]
  · isplitl [Hat] <;> iassumption
  isplitl [Htok]; · iexact Htok
  isplitl [Hrd] <;> iassumption

end Cert.Ring

end
-- ==== Proof.Open.lean ====
/- A device opens its cells before the body and closes them after it. -/
module

public import proofs.«01_k».proof.Proof.Fund

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

open Idealize.ShloMosaic.Rounds (atPos dutyTok reached cellInv openTok)

variable [FloatOps F]

local notation "𝕄" => MT nD τ sig ℕ (Elt F) ℕ UU ℕ

/-! ## Families by kind -/

section
omit [FloatOps F]

/-- A family over a device's own cells, by kind. -/
theorem ci_fam (Φ : CI → sProp 𝕄) : bigSep Finset.univ Φ
    = iprop((((bigSep Finset.univ fun k : Fin 6 => Φ (.inl (false, false, k))) ∗ (bigSep Finset.univ fun k : Fin 6 => Φ (.inl (false, true, k))))
        ∗ ((bigSep Finset.univ fun k : Fin 6 => Φ (.inl (true, false, k))) ∗ (bigSep Finset.univ fun k : Fin 6 => Φ (.inl (true, true, k)))))
      ∗ (Φ (.inr false) ∗ Φ (.inr true))) := by
  rw [bigSep_univ_sum, bigSep_univ_prod, b2, bigSep_univ_prod, bigSep_univ_prod, b2, b2, b2]; rfl

/-- A family over the duties, by kind. -/
theorem ti_fam (Φ : TI → sProp 𝕄) : bigSep Finset.univ Φ
    = iprop((((bigSep Finset.univ fun k : Fin 6 => Φ (.inl (false, false, k))) ∗ (bigSep Finset.univ fun k : Fin 6 => Φ (.inl (false, true, k))))
        ∗ ((bigSep Finset.univ fun k : Fin 6 => Φ (.inl (true, false, k))) ∗ (bigSep Finset.univ fun k : Fin 6 => Φ (.inl (true, true, k)))))
      ∗ (((bigSep Finset.univ fun j : Fin 4 => Φ (.inr (.inl (false, j)))) ∗ (bigSep Finset.univ fun j : Fin 4 => Φ (.inr (.inl (true, j)))))
        ∗ (Φ (.inr (.inr false)) ∗ Φ (.inr (.inr true))))) := by
  rw [bigSep_univ_sum, bigSep_univ_prod, b2, bigSep_univ_prod, bigSep_univ_prod, b2, b2, bigSep_univ_sum, bigSep_univ_prod, b2, b2]; rfl

/-- What a device is paid, one by one. -/
theorem credL_gets (c : Dev nD) : (credL (gets c) : sProp 𝕄) = iprop(cred (tallyAt (barC c) 1 1) ∗ cred (tallyAt (barC c) 1 1) ∗ cred (tallyAt (rcvC false 0 c) (lvR 0) NN) ∗ cred (tallyAt (rcvC true 0 c) (lvR 0) NN) ∗ cred (tallyAt (rcvC false 1 c) (lvR 1) NN) ∗ cred (tallyAt (rcvC true 1 c) (lvR 1) NN) ∗ cred (tallyAt (crdC false c) (lvC 0) 1) ∗ cred (tallyAt (crdC true c) (lvC 0) 1) ∗ cred (tallyAt (rcvC false 2 c) (lvR 2) NN) ∗ cred (tallyAt (rcvC true 2 c) (lvR 2) NN) ∗ cred (tallyAt (crdC false c) (lvC 1) 1) ∗ cred (tallyAt (crdC true c) (lvC 1) 1) ∗ cred (tallyAt (crdC false c) (lvC 2) 1) ∗ cred (tallyAt (crdC true c) (lvC 2) 1) ∗ cred (tallyAt (rcvC false 3 c) (lvR 3) NN) ∗ cred (tallyAt (rcvC true 3 c) (lvR 3) NN) ∗ cred (tallyAt (rcvC false 4 c) (lvR 4) NN) ∗ cred (tallyAt (rcvC true 4 c) (lvR 4) NN) ∗ cred (tallyAt (crdC false c) (lvC 3) 1) ∗ cred (tallyAt (crdC true c) (lvC 3) 1) ∗ cred (tallyAt (rcvC false 5 c) (lvR 5) NN) ∗ cred (tallyAt (rcvC true 5 c) (lvR 5) NN) ∗ emp) := rfl

/-- What a device is paid, by kind. -/
theorem creds_kind (c : Dev nD) : (credL (gets c) : sProp 𝕄) ⊢ iprop(cred (tallyAt (barC c) 1 2)
    ∗ (bigSep Finset.univ fun k : Fin 6 => cred (tallyAt (rcvC false k c) (lvR k) NN)) ∗ (bigSep Finset.univ fun k : Fin 6 => cred (tallyAt (rcvC true k c) (lvR k) NN))
    ∗ (bigSep Finset.univ fun m : Fin 4 => cred (tallyAt (crdC false c) (lvC m) 1)) ∗ (bigSep Finset.univ fun m : Fin 4 => cred (tallyAt (crdC true c) (lvC m) 1))) := by
  rw [credL_gets, b6, b6, b4, b4]
  iintro ⟨B0, B1, R00, R10, R01, R11, C00, C10, R02, R12, C01, C11, C02, C12, R03, R13, R04, R14, C03, C13, R05, R15, -⟩
  isplitl [B0 B1]
  · rw [show (2 : ℕ) = 1 + 1 from rfl, ← tallyAt_add]
    iapply (cred_add _ _).2
    isplitl [B0] <;> iassumption
  isplitl [R00 R01 R02 R03 R04 R05]
  · isplitl [R00]; · iexact R00
    isplitl [R01]; · iexact R01
    isplitl [R02]; · iexact R02
    isplitl [R03]; · iexact R03
    isplitl [R04]; · iexact R04
    iexact R05
  isplitl [R10 R11 R12 R13 R14 R15]
  · isplitl [R10]; · iexact R10
    isplitl [R11]; · iexact R11
    isplitl [R12]; · iexact R12
    isplitl [R13]; · iexact R13
    isplitl [R14]; · iexact R14
    iexact R15
  isplitl [C00 C01 C02 C03]
  · isplitl [C00]; · iexact C00
    isplitl [C01]; · iexact C01
    isplitl [C02]; · iexact C02
    iexact C03
  · isplitl [C10]; · iexact C10
    isplitl [C11]; · iexact C11
    isplitl [C12]; · iexact C12
    iexact C13

end

variable (I : Ins F) (K : GSem nD τ sig → ℕ) (ι : Key → ℕ)
variable (c : Dev nD)

theorem recs_inv {g : GSem nD τ sig} (h : g ∈ cells) : recs I K ι ⊢ (cellInv (ER (F := F)) (rd I) (K g) g : sProp 𝕄) := by
  unfold recs; iintro ⟨H, -⟩; iapply (bsE (fun g => cellInv (ER (F := F)) (rd I) (K g) g) h) $$ H
theorem recs_bar (a : Dev nD) : recs I K ι ⊢ (reached (ER (F := F)) (barC a) 0 : sProp 𝕄) := by
  unfold recs; iintro ⟨-, H, -⟩
  iapply (bsE (fun g => reached (ER (F := F)) g 0) (show barC a ∈ barCells from Finset.mem_map.2 ⟨a, Finset.mem_univ _, rfl⟩)) $$ H

theorem ci_mem (x : CI) : ((c : Thread nD τ), semOf x) ∈ cells :=
  Finset.mem_union_right _ (Finset.mem_map.2 ⟨(c, x), Finset.mem_univ _, rfl⟩)

/-- The pieces of one direction are what a device holds for it at the start. -/
theorem mk_dir (d : Bool) :
    iprop((bigSep Finset.univ fun k : Fin 6 => dutyTok (ER (F := F)) (sndC d k c) 0 0) ∗ (bigSep Finset.univ fun k : Fin 6 => dutyTok (ER (F := F)) (rcvC d k (nxt d c)) 0 0)
      ∗ (bigSep Finset.univ fun k : Fin 6 => atPos (ER (F := F)) (sndC d k c) 0 ∅ 0) ∗ (bigSep Finset.univ fun k : Fin 6 => atPos (ER (F := F)) (rcvC d k c) 0 ∅ 0)
      ∗ (bigSep Finset.univ fun k : Fin 6 => cred (tallyAt (rcvC d k c) (lvR k) NN)) ∗ atPos (ER (F := F)) (crdC d c) 0 ∅ 0
      ∗ (bigSep Finset.univ fun m : Fin 4 => cred (tallyAt (crdC d c) (lvC m) 1))
      ∗ (bigSep Finset.univ fun m : Fin 4 => Release.writeTok (ES (F := F)) (keyOf (nxt d c) d (slJ m)) (m.val / 2 + 1))
      ∗ (bigSep Finset.univ fun j : Fin 4 => dutyTok (ER (F := F)) (crdC d (prv d c)) 0 j)
      ∗ dutyTok (ER (F := F)) (barC (prv d c)) 0 (bi d)
      ∗ (Release.readerAt (ES (F := F)) (keyOf c d false) 0 ∗ Release.readerAt (ES (F := F)) (keyOf c d true) 0))
      ⊢ (dir c d : sProp 𝕄) := by
  unfold dir
  rw [show (fun k : Fin 6 => xf (F := F) c d k 0) = fun k => iprop(dutyTok (ER (F := F)) (sndC d k c) 0 0 ∗ dutyTok (ER (F := F)) (rcvC d k (nxt d c)) 0 0
      ∗ atPos (ER (F := F)) (sndC d k c) 0 ∅ 0 ∗ atPos (ER (F := F)) (rcvC d k c) 0 ∅ 0 ∗ cred (tallyAt (rcvC d k c) (lvR k) NN)) from rfl, crr0]
  unfold crt
  simp only [bigSep_sep']
  iintro ⟨Ts, Tr, Ps, Pr, Cr, Pc, Cc, Wt, Tc, Tb, Rd⟩
  isplitl [Tb]; · iexact Tb
  isplitl [Ts Tr Ps Pr Cr]
  · isplitl [Ts]; · iexact Ts
    isplitl [Tr]; · iexact Tr
    isplitl [Ps]; · iexact Ps
    isplitl [Pr]; · iexact Pr
    iexact Cr
  isplitl [Rd]; · iexact Rd
  isplitl [Pc]
  · iapply (crw_intro c d 0 (by decide))
    iexists (∅ : Finset (Fin 4))
    isplitl [Pc]; · iexact Pc
    rw [bigSep_empty]; iempintro
  isplitr [Tc]
  · isplitl [Cc]; · iexact Cc
    iexact Wt
  iexact Tc

set_option maxHeartbeats 1000000 in
/-- With its counters at zero and its credits, a device's share opens its cells. -/
theorem open_all :
    iprop(recs I K ι ∗ levAts L lv ∗ lin c ∗ credL (gets c) ∗ (bigSep Finset.univ fun x : CI => semVal ((c : Thread nD τ), semOf x) 0) ∗ locs c)
      ⊢ (|={Set.univ}=> ghostI I K ι c : sProp 𝕄) := by
  have hinv : iprop(recs I K ι ∗ bigSep Finset.univ fun x : CI => openTok (ER (F := F)) ((c : Thread nD τ), semOf x))
      ⊢ (bigSep Finset.univ fun x : CI => iprop(cellInv (ER (F := F)) (rd I) (K ((c : Thread nD τ), semOf x)) ((c : Thread nD τ), semOf x)
          ∗ openTok (ER (F := F)) ((c : Thread nD τ), semOf x)) : sProp 𝕄) :=
    bigSep_with_persistent fun x _ => sep_mono_left (recs_inv I K ι (ci_mem c x))
  unfold lin linA linT linS
  iintro ⟨#HR, #HL, ⟨⟨Hat, Hop⟩, HT, Hrd, Hwr⟩, HC, HV, Hl⟩
  ihave Hio := hinv $$ [Hop]
  · isplitr; · iexact HR
    iexact Hop
  imod (Rounds.cells_open (ER (F := F)) (rd I) (Finset.univ : Finset CI) (fun x => ((c : Thread nD τ), semOf x)) (fun x => K ((c : Thread nD τ), semOf x))
      (fun _ _ => Set.mem_univ _)) $$ [Hio HV] with Hpr
  · isplitl [Hio] <;> iassumption
  ihave Hpr := (Entails.of_eq (bigSep_sep' _ _ _)) $$ Hpr
  icases Hpr with ⟨Hp, #Hre⟩
  ihave Hp := (Entails.of_eq (ci_fam _)) $$ Hp
  icases Hp with ⟨⟨⟨PR0, PR1⟩, PS0, PS1⟩, PC0, PC1⟩
  ihave HT := (Entails.of_eq (ti_fam _)) $$ HT
  icases HT with ⟨⟨⟨TR0, TR1⟩, TS0, TS1⟩, ⟨TC0, TC1⟩, TB0, TB1⟩
  ihave Hrd := (Entails.of_eq ((bigSep_univ_prod _).trans ((b2 _).trans (by rw [b2, b2])))) $$ Hrd
  icases Hrd with ⟨RD0, RD1⟩
  ihave Hwr := (Entails.of_eq ((bigSep_univ_prod _).trans (b2 _))) $$ Hwr
  icases Hwr with ⟨W0, W1⟩
  ihave HC := (creds_kind c) $$ HC
  icases HC with ⟨CB, CR0, CR1, CC0, CC1⟩
  imodintro
  unfold ghostI
  isplitr
  · unfold env opens
    ihave #Hf := (Entails.of_eq (ci_fam (fun x => reached (ER (F := F)) ((c : Thread nD τ), semOf x) 0))) $$ Hre
    icases Hf with ⟨⟨⟨#FR0, #FR1⟩, #FS0, #FS1⟩, #FC0, #FC1⟩
    isplitr; · iexact HL
    isplitr
    · unfold recs; icases HR with ⟨H, -⟩; iexact H
    isplitr
    · unfold recs; icases HR with ⟨-, -, H⟩; iexact H
    isplitr
    · rw [bigSep_univ_prod, b2]
      isplitr; · iexact FS0
      iexact FS1
    isplitr
    · isplitr; · iexact FR0
      iexact FC1
    isplitr
    · isplitr; · iexact FR1
      iexact FC0
    rw [b2]
    isplitr
    · iapply (recs_bar I K ι (prv false c)) $$ HR
    · iapply (recs_bar I K ι (prv true c)) $$ HR
  isplitl [TS0 TR0 PS0 PR0 CR0 PC0 CC0 W0 TC0 TB0 RD0]
  · iapply (mk_dir c false)
    isplitl [TS0]; · iexact TS0
    isplitl [TR0]; · iexact TR0
    isplitl [PS0]; · iexact PS0
    isplitl [PR0]; · iexact PR0
    isplitl [CR0]; · iexact CR0
    isplitl [PC0]; · iexact PC0
    isplitl [CC0]; · iexact CC0
    isplitl [W0]; · iexact W0
    isplitl [TC0]; · iexact TC0
    isplitl [TB0]; · iexact TB0
    iexact RD0
  isplitl [TS1 TR1 PS1 PR1 CR1 PC1 CC1 W1 TC1 TB1 RD1]
  · iapply (mk_dir c true)
    isplitl [TS1]; · iexact TS1
    isplitl [TR1]; · iexact TR1
    isplitl [PS1]; · iexact PS1
    isplitl [PR1]; · iexact PR1
    isplitl [CR1]; · iexact CR1
    isplitl [PC1]; · iexact PC1
    isplitl [CC1]; · iexact CC1
    isplitl [W1]; · iexact W1
    isplitl [TC1]; · iexact TC1
    isplitl [TB1]; · iexact TB1
    iexact RD1
  isplitl [Hl]; · iexact Hl
  isplitl [CB]; · iexact CB
  iexact Hat

set_option maxHeartbeats 1000000 in
/-- After the body a device closes its cells: every counter is back at zero. -/
theorem close_all :
    iprop(env I K ι c ∗ ghostE c)
      ⊢ (|={Set.univ}=> iprop((bigSep Finset.univ fun x : CI => semVal ((c : Thread nD τ), semOf x) 0) ∗ locs c ∗ semVal (barC c) 0) : sProp 𝕄) := by
  have hinv : iprop(env I K ι c ∗ bigSep Finset.univ fun x : CI => atPos (ER (F := F)) ((c : Thread nD τ), semOf x) (0 + 1) ∅ 0)
      ⊢ (bigSep Finset.univ fun x : CI => iprop(cellInv (ER (F := F)) (rd I) (K ((c : Thread nD τ), semOf x)) ((c : Thread nD τ), semOf x)
          ∗ atPos (ER (F := F)) ((c : Thread nD τ), semOf x) (0 + 1) ∅ 0) : sProp 𝕄) :=
    bigSep_with_persistent fun x _ => sep_mono_left (env_inv I K ι c (ci_mem c x))
  unfold ghostE dirE
  have hx (d : Bool) : (bigSep Finset.univ fun k : Fin 6 => xf c d k 3) ⊢ (iprop((bigSep Finset.univ fun k : Fin 6 => atPos (ER (F := F)) (sndC d k c) (0 + 1) ∅ 0)
      ∗ bigSep Finset.univ fun k : Fin 6 => atPos (ER (F := F)) (rcvC d k c) (0 + 1) ∅ 0) : sProp 𝕄) := by
    rw [← bigSep_sep']; exact Entails.refl _
  iintro ⟨#HE, ⟨X0, W0⟩, ⟨X1, W1⟩, Hl, HB⟩
  ihave X0 := (hx false) $$ X0
  icases X0 with ⟨S0, R0⟩
  ihave X1 := (hx true) $$ X1
  icases X1 with ⟨S1, R1⟩
  ihave W0 := (crw_end c false) $$ W0
  ihave W1 := (crw_end c true) $$ W1
  ihave Hio := hinv $$ [S0 R0 S1 R1 W0 W1]
  · isplitr; · iexact HE
    iapply (Entails.of_eq (ci_fam (fun x => atPos (ER (F := F)) ((c : Thread nD τ), semOf x) (0 + 1) ∅ 0)).symm)
    isplitr [W0 W1]
    · isplitl [R0 R1]
      · isplitl [R0]; · iexact R0
        iexact R1
      · isplitl [S0]; · iexact S0
        iexact S1
    · isplitl [W0]; · iexact W0
      iexact W1
  imod (Rounds.cells_close (ER (F := F)) (rd I) (Finset.univ : Finset CI) (fun x => ((c : Thread nD τ), semOf x)) (fun x => K ((c : Thread nD τ), semOf x))
      (fun _ _ => Set.mem_univ _) (fun _ _ h => h) (fun _ => 0 + 1) (fun x _ r hr => duties_later I _ r hr)) $$ Hio with HV
  imod (Rounds.cell_close (ER (F := F)) (rd I) (Es := Set.univ) (κ := K (barC c)) (g := barC c) (Set.mem_univ _) (fun h => h) (R := 0 + 1) (fun r hr => duties_later I _ r hr)) $$ [HB] with Hb
  · isplitr; · iapply (env_inv I K ι c (bar_mem c)) $$ HE
    iexact HB
  imodintro
  isplitl [HV]; · iexact HV
  isplitl [Hl]; · iexact Hl
  iexact Hb

end Cert.Ring

end
-- ==== Proof.Region.lean ====
/- The kernel as one region: the contents of the buffers around it and its invariant. -/
module

public import proofs.«01_k».proof.Proof.Open
public import proofs.«01_k».proof.Proof.Gen.KernelIdeal.Frame
public import Idealize.ShloMosaic.Lib.Pipeline.RegionTalk

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

open Idealize.ShloMosaic.Rounds (atPos dutyTok reached cellInv openTok)
open Idealize.ShloMosaic.Pipeline (Dat BodyObligation)

variable [FloatOps F]

local notation "𝕄" => MT nD τ sig ℕ (Elt F) ℕ UU ℕ

variable (m : (ℓ : Loc nD τ sig) → Buf (Elt F) ℓ)

/-! ## The buffers' contents along the program -/

/-- A device's buffers at the launch. -/
abbrev V₀ (c : Dev nD) : Valuation τ sig (Elt F) := fun b => m (c, b)
/-- Its buffers when the kernel begins. -/
abbrev V₁ (c : Dev nD) : Valuation τ sig (Elt F) := StableHlo.after hostOps0 (V₀ m c)

/-- What a window hands the kernel. -/
def win (c : Dev nD) (w : Fin cfg0.W) (t : Fin cfg0.N) : ((cfg0.win w).xblock (cfg0.grid.coords t)).Idx → Elt F (cfg0.win w).elt :=
  ((cfg0.win w).blk t).view.read (Elt F) (V₁ m c (Proc.devRef .tc (Pipeline.arrRef spec0 w)))

/-- The kernel's inputs, device by device. -/
def ins : Ins F where
  x c := V₁ m c (Proc.devRef .tc main_arg0)
  w c := V₁ m c (Proc.devRef .tc main_arg1)
  s1 c := win m c 0 t0_0
  s2 c := win m c 1 t0_0

/-- Its buffers when the kernel has ended. -/
def V₂ (c : Dev nD) : Valuation τ sig (Elt F) := Function.update (V₁ m c) (Proc.devRef .tc main_v3) (outV (ins m))

theorem V₂_out (c : Dev nD) : V₂ m c (Proc.devRef .tc main_v3) = outV (ins m) := by
  unfold V₂; exact Function.update_self ..
theorem V₂_ne (c : Dev nD) {b : DevRef τ sig} (h : b ≠ Proc.devRef .tc main_v3) : V₂ m c b = V₁ m c b := by
  unfold V₂; exact Function.update_of_ne h ..

/-- The buffers the kernel addresses itself. -/
def Hs : Finset (DevRef τ sig) :=
  {Proc.devRef .tc main_arg0, Proc.devRef .tc main_arg1, Proc.devRef .tc main_arg2, Proc.devRef .tc main_arg3, Proc.devRef .tc main_v3}

/-- A buffer of a device held whole. -/
abbrev pt (c : Dev nD) (b : Ref sig .tc) (f : Buf (Elt F) ((c : Thread nD τ).loc b)) : sProp 𝕄 := ((c : Thread nD τ).loc b) ↦{fullShare} f

omit [FloatOps F] in
theorem held_Hs (c : Dev nD) (W : Valuation τ sig (Elt F)) : (StableHlo.held (c.tc : Thread nD τ) Hs W : sProp 𝕄)
    = iprop(pt c main_arg0 (W (Proc.devRef .tc main_arg0)) ∗ pt c main_arg1 (W (Proc.devRef .tc main_arg1)) ∗ pt c main_arg2 (W (Proc.devRef .tc main_arg2))
      ∗ pt c main_arg3 (W (Proc.devRef .tc main_arg3)) ∗ pt c main_v3 (W (Proc.devRef .tc main_v3))) := by
  unfold StableHlo.held
  rw [bigSep_eq_bigSepL_of_eq [Proc.devRef .tc main_arg0, Proc.devRef .tc main_arg1, Proc.devRef .tc main_arg2, Proc.devRef .tc main_arg3, Proc.devRef .tc main_v3] (by decide) (by decide)]
  rfl

omit [FloatOps F] in
/-- A whole buffer read through its own view. -/
theorem hv_whole (c : Dev nD) (b : Ref sig .tc) (f : Buf (Elt F) ((c : Thread nD τ).loc b)) :
    (hv c (Memref.whole b) fullShare f : sProp 𝕄) = pt c b f := owns_whole (c : Thread nD τ) b fullShare f

/-! ## The kernel's own semaphores -/

/-- The semaphores of the kernel's scope: those of its cells and the three of its local copies. -/
def osem : CI ⊕ Fin 3 → SemLoc sig
  | .inl x => semOf x
  | .inr 0 => .dma lSem
  | .inr 1 => .dma (oSem false)
  | .inr 2 => .dma (oSem true)

theorem osem_facts : Pipeline.OwnSemFacts spec0 osem := by decide +kernel

omit [FloatOps F] in
theorem ownSems_eq (c : Dev nD) : (Pipeline.ownSems0 osem c : sProp 𝕄) = iprop((bigSep Finset.univ fun x : CI => semVal ((c : Thread nD τ), semOf x) 0) ∗ locs c) := by
  unfold Pipeline.ownSems0 locs
  rw [bigSep_univ_sum]
  have h3 : (bigSep Finset.univ fun k : Fin 3 => (semVal ((c : Thread nD τ), osem (.inr k)) 0 : sProp 𝕄))
      = iprop(semVal ((c : Thread nD τ), .dma lSem) 0 ∗ semVal ((c : Thread nD τ), .dma (oSem false)) 0 ∗ semVal ((c : Thread nD τ), .dma (oSem true)) 0) :=
    bigSep_univ_eq_bigSepL [(0 : Fin 3), 1, 2] (by decide) (by decide) _
  rw [h3]; rfl

/-! ## The proof data -/

/-- A device's rest at the launch: its share of the protocol and its credits. -/
def Tk (c : Dev nD) : sProp 𝕄 := iprop((∃ K ι, recs (ins m) K ι ∗ lin c) ∗ credL (gets c))
/-- What it has once its cells are open. -/
def Xk (c : Dev nD) : sProp 𝕄 := iprop(∃ K ι, ghostI (ins m) K ι c)
/-- What it keeps once they are closed. -/
def Yk (c : Dev nD) : sProp 𝕄 := semVal (barC c) 0

/-- The kernel's invariant: before its one point everything as it begins, after it everything as it ends. -/
def dat (c : Dev nD) : Dat τ (Elt F) ℕ ℕ UU ℕ cfg0 c where
  A w := V₁ m c (Proc.devRef .tc (Pipeline.arrRef spec0 w))
  after := fun
    | 0 => win m c 0
    | 1 => win m c 1
    | ⟨_ + 2, h⟩ => absurd h (Nat.not_lt.2 (Nat.le_add_left _ _))
  Φ t := if t.val = 0 then iprop(Xk m c ∗ StableHlo.held (c.tc : Thread nD τ) Hs (V₁ m c) ∗ scr c ∗ ∃ r, prngReg c r)
    else iprop(Yk c ∗ Pipeline.ownSems0 osem c ∗ StableHlo.held (c.tc : Thread nD τ) Hs (V₂ m c) ∗ scr c ∗ ∃ r, prngReg c r)
  q _ := fullShare
  owed t := if t.val = 0 then od 0 c else 0

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c
  | 0 => dat m

theorem scr_rest (c : Dev nD) : (Pipeline.scopedRest (Ix := ℕ) (Name := ℕ) (U := UU) (Lvl := ℕ) (Val := Elt F) spec0 c : sProp 𝕄) ⊢ scr c := by
  rw [scopedRest0_eq]
  unfold scr
  have h (b : Ref sig .tc) : iprop(∃ f : Buf (Elt F) ((c : Thread nD τ).loc b), ((c : Thread nD τ).loc b) ↦{fullShare} f) ⊢ (ha c (Memref.whole b) : sProp 𝕄) := by
    iintro ⟨%f, H⟩
    unfold ha; iexists f
    iapply (Entails.of_eq (hv_whole c b f).symm); iexact H
  exact BIClass.sep_mono (h _) (BIClass.sep_mono (h _) (BIClass.sep_mono (h _) (BIClass.sep_mono (h _) (BIClass.sep_mono (h _) (BIClass.sep_mono (h _) (h _))))))

theorem rest_scr (c : Dev nD) : scr c ⊢ (Pipeline.scopedRest (Ix := ℕ) (Name := ℕ) (U := UU) (Lvl := ℕ) (Val := Elt F) spec0 c : sProp 𝕄) := by
  rw [scopedRest0_eq]
  unfold scr
  have h (b : Ref sig .tc) : (ha c (Memref.whole b) : sProp 𝕄) ⊢ iprop(∃ f : Buf (Elt F) ((c : Thread nD τ).loc b), ((c : Thread nD τ).loc b) ↦{fullShare} f) := by
    unfold ha
    iintro ⟨%f, H⟩
    iexists f
    iapply (Entails.of_eq (hv_whole c b f)); iexact H
  exact BIClass.sep_mono (h _) (BIClass.sep_mono (h _) (BIClass.sep_mono (h _) (BIClass.sep_mono (h _) (BIClass.sep_mono (h _) (BIClass.sep_mono (h _) (h _))))))

theorem owed_first (c : Dev nD) : (dat (F := F) m c).owed t0_0.castSucc = od 0 c := by
  show (if (t0_0.castSucc : Fin (cfg0.N + 1)).val = 0 then od 0 c else 0) = od 0 c; exact if_pos rfl
theorem owed_last (c : Dev nD) : (dat (F := F) m c).owed t0_0.succ = 0 := by
  show (if (t0_0.succ : Fin (cfg0.N + 1)).val = 0 then od 0 c else 0) = 0; exact if_neg (Nat.succ_ne_zero _)

theorem owes_in (c : Dev nD) (t : Fin (cfg0.N + 1)) (O : CellTallies nD τ sig ℕ) (h : (dat (F := F) m c).owed t = O) :
    iprop(∃ W, owes (c : Thread nD τ) O W) ⊢ ((dat m c).owesAt 0 t : sProp 𝕄) := by
  unfold Dat.owesAt Pipeline.owesWithin Dat.bound; rw [h, show (dat (F := F) m c).recorded t = Set.univ from rfl]
  iintro ⟨%W, H⟩; iexists W; isplitr; · ipureintro; exact fun _ _ => Or.inl trivial
  iexact H
theorem owes_out (c : Dev nD) (t : Fin (cfg0.N + 1)) (O : CellTallies nD τ sig ℕ) (h : (dat (F := F) m c).owed t = O) :
    ((dat m c).owesAt 0 t : sProp 𝕄) ⊢ iprop(∃ W, owes (c : Thread nD τ) O W) := by
  unfold Dat.owesAt Pipeline.owesWithin; rw [h]
  iintro ⟨%W, -, H⟩; iexists W; iexact H

theorem before0 (c : Dev nD) (t : Fin cfg0.N) (d) : (dat m c).before 0 t d = win m c 0 t :=
  ((dat m c).before_in_eq_fetched 0 rfl (fun _ => rfl) (fun _ _ _ => rfl) (fun t => by
    rw [show (dat m c).after 0 t = win m c 0 t from rfl]; unfold Dat.blockOf win; rfl) t d).trans (by unfold Dat.fetched Dat.blockOf win; rfl)
theorem before1 (c : Dev nD) (t : Fin cfg0.N) (d) : (dat m c).before 1 t d = win m c 1 t :=
  ((dat m c).before_in_eq_fetched 1 rfl (fun _ => rfl) (fun _ _ _ => rfl) (fun t => by
    rw [show (dat m c).after 1 t = win m c 1 t from rfl]; unfold Dat.blockOf win; rfl) t d).trans (by unfold Dat.fetched Dat.blockOf win; rfl)

end Cert.Ring

end
-- ==== Proof.Reg.lean ====
/- The region: the body meets the pipeline, and the cells open before it and close after it. -/
module

public import proofs.«01_k».proof.Proof.Region

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

open Idealize.ShloMosaic.Rounds (atPos dutyTok reached cellInv openTok)
open Idealize.ShloMosaic.Pipeline (Dat BodyObligation)

variable [FloatOps F]

local notation "𝕄" => MT nD τ sig ℕ (Elt F) ℕ UU ℕ

variable (m : (ℓ : Loc nD τ sig) → Buf (Elt F) ℓ)

/-- The kernel's body from what the pipeline hands it, its cells closed at the end. -/
theorem body_closed (c : Dev nD) (arg2 : Memref sig .tc .smem S1x1 .f32) (harg2 : arg2.IsWhole) (arg3 : Memref sig .tc .smem S1x1 .f32) (harg3 : arg3.IsWhole)
    (Q : PUnit → sProp 𝕄) :
    Xk m c ⊢ iprop((∃ W, owes (c : Thread nD τ) (od 0 c) W) -∗ StableHlo.held (c.tc : Thread nD τ) Hs (V₁ m c)
      -∗ hv c arg2 fullShare ((ins m).s1 c) -∗ hv c arg3 fullShare ((ins m).s2 c) -∗ scr c
      -∗ (iprop((∃ W, owes (c : Thread nD τ) (0 : CellTallies nD τ sig ℕ) W) ∗ StableHlo.held (c.tc : Thread nD τ) Hs (V₂ m c)
          ∗ hv c arg2 fullShare ((ins m).s1 c) ∗ hv c arg3 fullShare ((ins m).s2 c) ∗ scr c ∗ Pipeline.ownSems0 osem c ∗ Yk c) -∗ Q ⟨⟩)
      -∗ Run c (cc0_body (F := F) (Memref.whole main_arg0) (Memref.isWhole_whole _) (Memref.whole main_arg1) (Memref.isWhole_whole _) arg2 harg2 arg3 harg3 (Memref.whole main_v3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18) Q) := by
  rw [held_Hs, held_Hs, ownSems_eq, V₂_out, V₂_ne m c (b := Proc.devRef .tc main_arg0) (by decide), V₂_ne m c (b := Proc.devRef .tc main_arg1) (by decide),
    V₂_ne m c (b := Proc.devRef .tc main_arg2) (by decide), V₂_ne m c (b := Proc.devRef .tc main_arg3) (by decide)]
  have e0 : (hv c (Memref.whole main_arg0) fullShare ((ins m).x c) : sProp 𝕄) = pt c main_arg0 (V₁ m c (Proc.devRef .tc main_arg0)) := hv_whole c main_arg0 _
  have e1 : (hv c (Memref.whole main_arg1) fullShare ((ins m).w c) : sProp 𝕄) = pt c main_arg1 (V₁ m c (Proc.devRef .tc main_arg1)) := hv_whole c main_arg1 _
  rw [← e0, ← e1]
  unfold Xk Yk
  iintro ⟨%K, %ι, HG⟩ HO ⟨A0, A1, A2, A3, Hout⟩ S1 S2 Hs Hk
  ihave #HE := (show ghostI (ins m) K ι c ⊢ (env (ins m) K ι c : sProp 𝕄) from by unfold ghostI; iintro ⟨#H, -⟩; iexact H) $$ HG
  iapply (wp_fupd _ _)
  iapply (body_whole (ins m) K ι c arg2 harg2 arg3 harg3 (V₁ m c (Proc.devRef .tc main_v3)) (fun a => iprop(|={Set.univ}=> Q a))) $$ HG [HO] A0 A1 S1 S2 Hout Hs
  · unfold ow; iexact HO
  iintro ⟨HO, A0, A1, S1, S2, Hout, Hs, HG⟩
  imod (close_all (ins m) K ι c) $$ [HG] with ⟨Hse, Hlo, Hbar⟩
  · isplitr; · iexact HE
    iexact HG
  imodintro
  iapply Hk
  isplitl [HO]; · unfold ow; iexact HO
  isplitl [A0 A1 A2 A3 Hout]
  · isplitl [A0]; · iexact A0
    isplitl [A1]; · iexact A1
    isplitl [A2]; · iexact A2
    isplitl [A3]; · iexact A3
    iexact Hout
  isplitl [S1]; · iexact S1
  isplitl [S2]; · iexact S2
  isplitl [Hs]; · iexact Hs
  isplitl [Hse Hlo]
  · isplitl [Hse]; · iexact Hse
    iexact Hlo
  iexact Hbar

theorem stg0 (c : Dev nD) : (owns (c : Thread nD τ) ((cfg0.win 0).stage (cfg0.slots t0_0 0)) fullShare (win m c 0 t0_0) : sProp 𝕄)
    = hv c (stage0_0 0) fullShare ((ins m).s1 c) := rfl
theorem stg1 (c : Dev nD) : (owns (c : Thread nD τ) ((cfg0.win 1).stage (cfg0.slots t0_0 1)) fullShare (win m c 1 t0_0) : sProp 𝕄)
    = hv c (stage0_1 0) fullShare ((ins m).s2 c) := rfl

/-- The pipeline's demand of the body. -/
theorem body0 (c : Dev nD) : BodyObligation (dat (F := F) m c) defs₀ 𝒱₀ 0 Set.univ := fun t => by
  obtain rfl := fin_N0 t
  rw [bigSep_W0, bigSep_W0]
  rw [show (dat m c).Φ t0_0.castSucc = iprop(Xk m c ∗ StableHlo.held (c.tc : Thread nD τ) Hs (V₁ m c) ∗ scr c ∗ ∃ r, prngReg c r) from rfl,
    show (dat m c).Φ t0_0.succ = iprop(Yk c ∗ Pipeline.ownSems0 osem c ∗ StableHlo.held (c.tc : Thread nD τ) Hs (V₂ m c) ∗ scr c ∗ ∃ r, prngReg c r) from rfl]
  iintro ⟨⟨HX, Hh, Hs, Hreg⟩, HO, ⟨%d0, S1⟩, ⟨%d1, S2⟩⟩
  rw [before0, before1]
  ihave HO := (owes_out m c _ (od 0 c) (owed_first m c)) $$ HO
  iapply (body_closed m c _ (hstage0_0 0) _ (hstage0_1 0) _) $$ HX HO Hh [S1] [S2] Hs
  · iapply (Entails.of_eq (stg0 m c)); iexact S1
  · iapply (Entails.of_eq (stg1 m c)); iexact S2
  iintro ⟨HO, Hh, S1, S2, Hs, Hse, HY⟩
  isplitl [HY Hse Hh Hs Hreg]
  · isplitl [HY]; · iexact HY
    isplitl [Hse]; · iexact Hse
    isplitl [Hh]; · iexact Hh
    isplitl [Hs] <;> iassumption
  isplitl [HO]
  · iapply (owes_in m c _ 0 (owed_last m c)); iexact HO
  isplitl [S1]; · iapply (Entails.of_eq (stg0 m c).symm); iexact S1
  iapply (Entails.of_eq (stg1 m c).symm); iexact S2

/-! ## The region -/

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

omit [FloatOps F] in
theorem L_at (c : Dev nD) (s : SemLoc sig) : L ((c : Thread nD τ), s) = Finset.range 12 := if_pos rfl

omit [FloatOps F] in
theorem due_lv : ∀ i ∈ lvls, 0 < i ∧ i < 12 := by decide
theorem od_cell (c : Dev nD) (g : GSem nD τ sig) (i : ℕ) (h : 0 < od 0 c g i) : i ∈ L g ∧ 0 < i := by
  obtain ⟨e, he, rfl, rfl⟩ := owe_pos h
  have hl := due_lv e.i (by rw [← dues_lvls c]; exact List.mem_map_of_mem (List.mem_of_mem_drop he))
  exact ⟨by rw [show L e.g = Finset.range 12 from if_pos rfl]; exact Finset.mem_range.2 hl.2, hl.1⟩

theorem cut (c : Dev nD) (t : Fin ((Pipeline.pin (pcfgs (F := F)) adm 0).N + 1)) (g : GSem nD τ sig) (i : ℕ) (h : 0 < (pdats (F := F) m 0 c).owed t g i) :
    i ∈ L g ∧ 0 < lv g i := by
  have e : (pdats (F := F) m 0 c).owed t = if t.val = 0 then od 0 c else 0 := rfl
  rw [e] at h
  split at h
  · exact od_cell c g i h
  · exact absurd h (Nat.lt_irrefl 0)

/-- Opening a device's cells as the kernel begins. -/
theorem open0 (c : Dev nD) : iprop(Tk m c ∗ Pipeline.ownSems0 osem c ∗ levAts L lv) ⊢ (|={Set.univ}=> Xk m c : sProp 𝕄) := by
  rw [ownSems_eq]
  unfold Tk Xk
  iintro ⟨⟨⟨%K, %ι, #HR, Hl⟩, Hc⟩, ⟨Hs, Ho⟩, #Hlev⟩
  imod (open_all (ins m) K ι c) $$ [Hl Hc Hs Ho] with HG
  · isplitr; · iexact HR
    isplitr; · iexact Hlev
    isplitl [Hl]; · iexact Hl
    isplitl [Hc]; · iexact Hc
    isplitl [Hs] <;> iassumption
  imodintro
  iexists K; iexists ι; iexact HG

theorem in0 (c : Dev nD) : iprop(Pipeline.scopedRest (Pipeline.pin (pcfgs (F := F)) adm 0).spec c ∗ (∃ r, prngReg c r) ∗ StableHlo.held (c.tc : Thread nD τ) Hs (V₁ m c) ∗ Xk m c)
    ⊢ (pdats m 0 c).Φ 0 := by
  rw [show (pdats m 0 c).Φ 0 = iprop(Xk m c ∗ StableHlo.held (c.tc : Thread nD τ) Hs (V₁ m c) ∗ scr c ∗ ∃ r, prngReg c r) from rfl]
  iintro ⟨Hr, Hp, Hh, HX⟩
  isplitl [HX]; · iexact HX
  isplitl [Hh]; · iexact Hh
  isplitl [Hr]; · iapply (scr_rest c); iexact Hr
  iexact Hp

theorem out0 (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) Hs (V₂ m c) ∗ Pipeline.ownSems0 osem c ∗ Yk c) := by
  rw [show (pdats m 0 c).Φ (Fin.last _) = iprop(Yk c ∗ Pipeline.ownSems0 osem c ∗ StableHlo.held (c.tc : Thread nD τ) Hs (V₂ m c) ∗ scr c ∗ ∃ r, prngReg c r) from rfl]
  iintro ⟨HY, Hse, Hh, Hr, Hp⟩
  isplitl [Hr]; · iapply (rest_scr c); iexact Hr
  isplitl [Hp]; · iexact Hp
  isplitl [Hh]; · iexact Hh
  isplitl [Hse] <;> iassumption

theorem owed_zero (c : Dev nD) : (pdats (F := F) m 0 c).owed 0 = od 0 c := by
  show (if ((0 : Fin (cfg0.N + 1)).val = 0) then od 0 c else 0) = od 0 c; exact if_pos rfl
theorem owed_end (c : Dev nD) : (pdats (F := F) m 0 c).owed (Fin.last _) = 0 := by
  show (if (Fin.last cfg0.N).val = 0 then od 0 c else 0) = 0
  rw [Fin.val_last, if_neg (by rw [show cfg0.N = 1 from N_0]; decide)]

theorem share0 (c : Dev nD) (w : Fin cfg0.W) : (dat (F := F) m c).share w = fullShare := by
  fin_cases w <;> rfl

theorem arr_in (c : Dev nD) (w : Fin cfg0.W) (n : ℕ) : (dat (F := F) m c).arrAt w n = V₁ m c (Proc.devRef .tc (Pipeline.arrRef spec0 w)) :=
  (dat m c).arrAt_in w (by fin_cases w <;> rfl) n

theorem arr_ne : ∀ w : Fin 2, (Proc.devRef .tc (Pipeline.arrRef spec0 w) : DevRef τ sig) ≠ Proc.devRef .tc main_v3 := by decide

set_option backward.isDefEq.respectTransparency.types false in
/-- The kernel as a region of the program. -/
def reg0 : Pipeline.RegionSeg (pcfgs (F := F)) adm (pdats m) 0 defs₀ 𝒱₀ L lv 0 :=
  Pipeline.RegionSeg.ofTalk (pcfgs (F := F)) adm (pdats m) 0 defs₀ 𝒱₀ L lv 0 osem osem_facts
    Hs Hs (Finset.Subset.refl _) kit0 rfl (fun c => (body0 m c).loose)
    (fun _ => 0) (fun c => od 0 c) (fun c => (owed_zero m c).trans (zero_add _).symm) (owed_end m) (fun _ => rfl) (fun c w => share0 m c w)
    (V₁ m) (V₂ m) (fun _ b hb => absurd hb (by rw [Finset.sdiff_self]; exact Finset.notMem_empty b))
    (Tk m) Yk (Xk m) Yk (open0 m) (in0 m) (out0 m)
    (fun c => by iintro H; imodintro; iexact H)
    (fun _ => 0)
    ⟨fun c w s => by rw [L_at]; decide, fun c w s => le_refl _, fun c t g i h => cut m c t g i h⟩
    (fun _ => iprop(emp))
    (fun c w => rfl) (fun c w => (arr_in m c w _).trans (V₂_ne m c (arr_ne w)).symm)

end Cert.Ring

end
-- ==== Proof.Launch.lean ====
/- The launch of the four devices and the run of the whole program. -/
module

public import proofs.«01_k».proof.Proof.Reg

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

open Idealize.ShloMosaic.Rounds (atPos dutyTok reached cellInv openTok initOf launchOf)
open Idealize.ShloMosaic.Pipeline (Dat BodyObligation)

variable [FloatOps F]

local notation "𝕄" => MT nD τ sig ℕ (Elt F) ℕ UU ℕ

variable (m : (ℓ : Loc nD τ sig) → Buf (Elt F) ℓ) (ρ : Dev nD → PrngReg)

/-! ## The program's buffers -/

/-- The buffers that outlive the kernel. -/
def bufs : Finset (DevRef τ sig) := (StableHlo.tcRefs τ sig).filter fun b => ¬ b.isScoped

omit [FloatOps F] in
theorem bufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem Hs_sub : Hs ⊆ bufs := by decide
theorem bufs_rest : bufs \ Hs = Pipeline.arrRefs (τ := τ) spec0 := by decide

omit [FloatOps F] in
/-- They are the windows' arrays and those the kernel addresses itself. -/
theorem held_bufs (c : Dev nD) (W : Valuation τ sig (Elt F)) : (StableHlo.held (c.tc : Thread nD τ) bufs W : sProp 𝕄)
    = iprop(StableHlo.held (c.tc : Thread nD τ) Hs W ∗ StableHlo.held (c.tc : Thread nD τ) (Pipeline.arrRefs (τ := τ) spec0) W) := by
  rw [StableHlo.held_sub_split (c.tc : Thread nD τ) Hs_sub W, bufs_rest]

theorem unscoped_bar : ∀ sm : SemLoc sig, sm.isScoped .tc = false → sm = .reg bSem := by decide

omit [FloatOps F] in
theorem sems_eq (c : Dev nD) : (unscopedSems0 c : sProp 𝕄) = semVal (barC c) 0 := by
  unfold unscopedSems0
  rw [show (Finset.univ.filter fun sm : SemLoc sig => ¬ sm.isScoped .tc) = {SemLoc.reg bSem} from by decide, BI.bigSep_singleton]

/-! ## The segments -/

/-- What rides beside the buffers up to the kernel. -/
def R (c : Dev nD) : sProp 𝕄 := iprop(Tk m c ∗ (∃ r, prngReg c r) ∗ ∃ W, owes (c : Thread nD τ) (od 0 c) W)

theorem host_sub : ∀ op ∈ (hostOps0 : List (HloOp τ sig (Elt F))), op.bufs ⊆ bufs := fun op h => by
  simp only [hostOps0, List.mem_cons, List.not_mem_nil, or_false] at h
  rcases h with rfl | rfl
  · show ({Proc.devRef .tc main_arg2, Proc.devRef .tc main_v1} : Finset (DevRef τ sig)) ⊆ bufs; decide
  · show ({Proc.devRef .tc main_arg3, Proc.devRef .tc main_v2} : Finset (DevRef τ sig)) ⊆ bufs; decide

/-- The two reshapes before the kernel. -/
def seg0 : Pipeline.HostSeg (Name := ℕ) (U := UU) (pcfgs (F := F)) defs₀ 𝒱₀ L lv :=
  Pipeline.HostSeg.ofOps _ _ _ _ _ bufs hostOps0 host_sub (List.forall_iff_forall_mem.mp hostOps0_fresh) (V₀ m) (R m)

theorem reg0_pre (c : Dev nD) : iprop(StableHlo.held (c.tc : Thread nD τ) bufs (V₁ m c) ∗ R m c) ⊢ (reg0 m).pre c := by
  show _ ⊢ iprop(StableHlo.held (c.tc : Thread nD τ) (Pipeline.arrRefs (τ := τ) spec0) (V₁ m c) ∗ (∃ r, prngReg c r)
    ∗ (StableHlo.held (c.tc : Thread nD τ) Hs (V₁ m c) ∗ emp) ∗ Tk m c ∗ ∃ Wd, owes (c : Thread nD τ) (0 + od 0 c) Wd)
  rw [held_bufs, zero_add]
  unfold R
  iintro ⟨⟨Hh, Ha⟩, HT, Hp, HO⟩
  isplitl [Ha]; · iexact Ha
  isplitl [Hp]; · iexact Hp
  isplitl [Hh]
  · isplitl [Hh]; · iexact Hh
    iempintro
  isplitl [HT] <;> iassumption

theorem reg0_post (c : Dev nD) : (reg0 m).post c
    ⊢ iprop((StableHlo.held (c.tc : Thread nD τ) bufs (V₂ m c) ∗ semVal (barC c) 0) ∗ ∃ W, owes (c : Thread nD τ) (0 : CellTallies nD τ sig ℕ) W) := by
  show iprop(StableHlo.held (c.tc : Thread nD τ) (Pipeline.arrRefs (τ := τ) spec0) (V₂ m c) ∗ (∃ r, prngReg c r)
    ∗ (StableHlo.held (c.tc : Thread nD τ) Hs (V₂ m c) ∗ emp) ∗ Yk c ∗ ∃ Wd, owes (c : Thread nD τ) (0 : CellTallies nD τ sig ℕ) Wd) ⊢ _
  rw [held_bufs]
  unfold Yk
  iintro ⟨Ha, -, ⟨Hh, -⟩, Hb, HO⟩
  isplitr [HO]
  · isplitr [Hb]
    · isplitl [Hh] <;> iassumption
    iexact Hb
  iexact HO

/-- The program's segments. -/
def segs : List (Pipeline.Seg (pcfgs (F := F)) adm (pdats m) 0 defs₀ 𝒱₀ L lv) := [.host (seg0 m), .region (reg0 m)]

theorem segs_run (c : Dev nD) : main (F := F) c = Pipeline.Seg.run (segs m) :=
  main_segs adm (pdats m) 0 𝒱₀ L lv (seg0 m) (reg0 m) rfl c

/-! ## The launch -/

/-- Everything of `X` held by device 0. -/
def at0 (X : sProp 𝕄) (c : Dev nD) : sProp 𝕄 := if c = 0 then X else iprop(emp)
omit [FloatOps F] in
theorem at0_all (X : sProp 𝕄) : bigSep Finset.univ (at0 X) = X := by
  rw [bigSep_univ_at _ (0 : Dev nD), bigSep_congr (s := Finset.univ.erase (0 : Dev nD)) (Ψ := fun _ => (BI.emp : sProp 𝕄))
      fun c hc => by unfold at0; rw [if_neg (Finset.ne_of_mem_erase hc)]; rfl, BI.bigSep_emp_const]
  unfold at0; rw [if_pos rfl]
  exact BI.equiv_iff.mp sep_emp

/-- The protocol's elements at the launch: the rounds' and the slots'. -/
def X₀ : sProp 𝕄 := iprop(BI.own (ER (F := F) (launchOf barCells scCells toks)) ∗ BI.own (ES (F := F) (Release.initSlots (Finset.univ : Finset Key) 2)))

/-- The element the launch is given. -/
def u₀ : UU :=
  (initOf (Pipeline.cells (Pipeline.pin (pcfgs (F := F)) adm) cellOf_inj) (Pipeline.launchToks (Pipeline.pin (pcfgs (F := F)) adm) cellOf_inj),
    (launchOf barCells scCells toks, (Release.initSlots (Finset.univ : Finset Key) 2, 1)))

theorem u₀_split : (ownU (u₀ (F := F)) : sProp 𝕄) ⊢ iprop(BI.own (EP (F := F) (initOf (Pipeline.cells (Pipeline.pin (pcfgs (F := F)) adm) cellOf_inj) (Pipeline.launchToks (Pipeline.pin (pcfgs (F := F)) adm) cellOf_inj))) ∗ X₀) := by
  unfold u₀ X₀
  iintro Hu
  ihave H := (ownU_pair _ _) $$ Hu
  icases H with ⟨HP, HX⟩
  isplitl [HP]; · iexact HP
  ihave H := (own_pair_emb (embR : Emb (Rounds.URounds (GSem nD τ sig) (Fin 4) × (Release.USlots Key × Counters)) 𝕄) _ _) $$ HX
  icases H with ⟨HR, HX⟩
  isplitl [HR]; · iexact HR
  ihave H := (own_pair_emb ((Emb.inr : Emb (Release.USlots Key × Counters) (Rounds.URounds (GSem nD τ sig) (Fin 4) × (Release.USlots Key × Counters))).trans
    (embR : Emb (Rounds.URounds (GSem nD τ sig) (Fin 4) × (Release.USlots Key × Counters)) 𝕄)) _ _) $$ HX
  icases H with ⟨HS, -⟩
  iexact HS

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (barC c) 0)

/-- What a device holds at the launch besides its share of the protocol. -/
def bundle (c : Dev nD) : sProp 𝕄 :=
  iprop(StableHlo.held (c : Thread nD τ) bufs (V₀ m c) ∗ credL (gets c) ∗ owes (c : Thread nD τ) (od 0 c) ∅ ∗ ∃ r, prngReg c r)

theorem T₀_of (K : GSem nD τ sig → ℕ) (ι : Key → ℕ) (c : Dev nD) : iprop(recs (ins m) K ι ∗ (lin c ∗ bundle m c)) ⊢ T₀ m c := by
  unfold bundle T₀ R Tk
  iintro ⟨#HR, Hl, Hh, Hc, HO, Hp⟩
  isplitl [Hh]; · iexact Hh
  isplitl [Hl Hc]
  · isplitl [Hl]
    · iexists K; iexists ι
      isplitr; · iexact HR
      iexact Hl
    iexact Hc
  isplitl [Hp]; · iexact Hp
  iexists ∅; iexact HO

/-- A device's launch state, sorted. -/
theorem core0 (c : Dev nD) : iprop(unscopedBufs c (fun b => m ((c : Thread nD τ).loc b)) ∗ unscopedSems0 c
      ∗ owes (c : Thread nD τ) (od 0 c) ∅ ∗ Pipeline.launchCred (fun c => od 0 c) c ∗ prngReg c (ρ c) ∗ at0 X₀ c)
    ⊢ (iprop(bundle m c ∗ (semVal (barC c) 0 ∗ at0 X₀ c)) : sProp 𝕄) := by
  rw [show unscopedBufs c (fun b => m ((c : Thread nD τ).loc b)) = StableHlo.held (c : Thread nD τ) bufs (V₀ m c) from bufs_held c (V₀ m c), sems_eq]
  unfold bundle
  iintro ⟨Hh, Hus, HO, Hcr, Hp, HG⟩
  ihave Hc := (creds_of (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

/-- The whole launch: the cells funded, each device given its share. -/
theorem init :
    iprop((bigSep Finset.univ fun c : Dev nD => iprop(unscopedBufs c (fun b => m ((c : Thread nD τ).loc b)) ∗ unscopedSems0 c
          ∗ owes (c : Thread nD τ) (od 0 c) ∅ ∗ Pipeline.launchCred (fun c => od 0 c) c ∗ prngReg c (ρ c) ∗ at0 X₀ c)) ∗ levAts L lv)
      ⊢ (|={Set.univ}=> bigSep Finset.univ (T₀ m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (od 0 c) ∅ ∗ Pipeline.launchCred (fun c => od 0 c) c ∗ prngReg c (ρ c) ∗ at0 X₀ c))
      ⊢ (bigSep Finset.univ fun c : Dev nD => iprop(bundle m c ∗ (semVal (barC c) 0 ∗ at0 X₀ c)) : sProp 𝕄) from bigSep_mono fun c _ => core0 m ρ c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (at0 (F := F) X₀) ⊢ X₀ from Entails.of_eq (at0_all (F := F) X₀)) $$ HG
  unfold X₀
  icases Hu with ⟨Hr, Hs⟩
  imod (fund_all (ins m)) $$ [Hv Hr Hs] with ⟨%K, %ι, #Hrec, Hlin⟩
  · isplitl [Hv]; · iexact Hv
    isplitl [Hr] <;> iassumption
  imodintro
  iapply (bigSep_with_persistent (R := recs (ins m) K ι) (Φ := fun c => iprop(lin c ∗ bundle m c)) fun c _ => T₀_of m K ι c)
  isplitr; · iexact Hrec
  iapply (Entails.of_eq (bigSep_sep' _ _ _).symm)
  isplitl [Hlin]; · iexact Hlin
  iexact HB

/-! ## The run -/

set_option backward.isDefEq.respectTransparency.types false in
/-- From any memory with every counter at zero, every fair execution of the program on the four devices ends; the arguments are as they
    were, the result is the tiles' sums, and every counter of the machine is at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_v3) = outV (ins m)) ∧ r.2.sem = fun _ => 0) :=
  Pipeline.θ_run_regions_kit_sems (pcfgs (F := F)) adm (pdats m) 0 cellOf_inj EP defs₀ 𝒱₀ L lv m ρ main (segs m)
    (fun c Q => by rw [segs_run m c])
    (by simp only [segs, Pipeline.Seg.pipes_host, Pipeline.Seg.pipes_region, Pipeline.Seg.pipes_nil]; decide)
    (O₀ := fun c => od 0 c) (hL := L_of_ne) (G := at0 X₀) (u₀ := u₀)
    (hu₀ := by
      iintro Hu
      ihave H := (u₀_split (F := F)) $$ Hu
      icases H with ⟨HP, HX⟩
      imodintro
      isplitl [HP]; · iexact HP
      rw [at0_all]; iexact HX)
    (T₀ := T₀ m) (Tₙ := Tₙ m)
    (hch := ⟨fun c => .rfl, fun c => reg0_pre m c, fun c => reg0_post m c⟩)
    (hinit := init m ρ)
    (QY := fun c s => (s.mem ((c : Thread nD τ).loc main_arg0) = V₂ m c (Proc.devRef .tc main_arg0)
        ∧ s.mem ((c : Thread nD τ).loc main_arg1) = V₂ m c (Proc.devRef .tc main_arg1)
        ∧ s.mem ((c : Thread nD τ).loc main_arg2) = V₂ m c (Proc.devRef .tc main_arg2)
        ∧ s.mem ((c : Thread nD τ).loc main_arg3) = V₂ m c (Proc.devRef .tc main_arg3)
        ∧ s.mem ((c : Thread nD τ).loc main_v3) = V₂ m c (Proc.devRef .tc main_v3))
      ∧ s.sem (barC c) = 0)
    (hfin := fun c s' => by
      dsimp only [Tₙ]; rw [held_bufs, held_Hs]
      iintro ⟨⟨⟨⟨H0, H1, H2, H3, H4⟩, -⟩, Hb0⟩, HSI⟩
      icombine HSI H0 gives %h0
      icombine HSI H1 gives %h1
      icombine HSI H2 gives %h2
      icombine HSI H3 gives %h3
      icombine HSI H4 gives %h4
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4⟩, by simpa using hb⟩
      iexact HSI)
    (hQ := fun s h hs => ⟨fun c => by
        obtain ⟨⟨h0, h1, h2, h3, h4⟩, -⟩ := h c
        rw [V₂_ne m c (by decide)] at h0 h1 h2 h3
        rw [V₂_out] at h4
        exact ⟨h0.trans (V_main_arg0 m c), h1.trans (V_main_arg1 m c), h2.trans (V_main_arg2 m c), h3.trans (V_main_arg3 m c), h4⟩,
      sem_eq_zero hs fun c sm hsm => by
        obtain rfl := unscoped_bar sm hsm
        exact (h c).2⟩)

end Cert.Ring

end
-- ==== Proof.Same.lean ====
/- The idealized program is the kernel's own program under another name: the two body tables and the two mains agree. -/
module

public import proofs.«01_k».proof.Proof.Gen.Kernel
public import proofs.«01_k».proof.Proof.Gen.KernelIdeal

@[expose] public section

noncomputable section

namespace Cert.Same

open Idealize.ShloMosaic

variable {F : FTy → Type} [FloatOps F]

/-- The two bodies agree. -/
theorem body : Cert.Kernel.cc0_body (F := F) = Cert.KernelIdeal.cc0_body (F := F) := rfl

/-- The two tables of bodies agree. -/
theorem bodies : Cert.Kernel.defs₀ (F := F) = Cert.KernelIdeal.defs₀ (F := F) := by
  funext p ℓ a
  match p, ℓ, a with
  | .tc, (0 : Fin 1), (t, s) =>
    show Cert.Kernel.cc0_body (F := F) _ _ _ _ _ _ _ _ _ _ _ _ _ _ _ _ _ _ _ _ _ _ _ _ _ _ _ _ _ _ _ _ _ _ _ _ = Cert.KernelIdeal.cc0_body (F := F) _ _ _ _ _ _ _ _ _ _ _ _ _ _ _ _ _ _ _ _ _ _ _ _ _ _ _ _ _ _ _ _ _ _ _ _
    rfl
  | .tc, ⟨_ + 1, h⟩, _ => exact absurd h (Nat.not_lt.2 (Nat.le_add_left _ _))
  | .scScalar _, _, _ => rfl
  | .scVector _ _, _, _ => rfl

/-- The two full tables, the pipeline's labels among them, agree. -/
theorem tables : Cert.Kernel.defs (F := F) = Cert.KernelIdeal.defs (F := F) :=
  congrArg (Pipeline.defs (Cert.KernelIdeal.pcfgs (F := F))) bodies

/-- The two mains agree. -/
theorem main : Cert.Kernel.main (F := F) = Cert.KernelIdeal.main (F := F) := rfl

end Cert.Same

end
-- ==== Proof.Value.lean ====
/- What the kernel computes, over the extended reals: every device's result is the reference's whole result. -/
module

public import proofs.«01_k».proof.Proof.Launch
public import proofs.«01_k».proof.Proof.Gen.ReferenceIdeal
public import Idealize.ShloMosaic.Lib.Layout
public import Idealize.ShloMosaic.Lib.MatmulPlain
public import Idealize.ShloMosaic.Lib.StackMember

@[expose] public section

set_option maxRecDepth 16384

noncomputable section

namespace Cert.Value

open Idealize.ShloMosaic Idealize.ShloMosaic.TcCoe
open Cert.KernelIdeal Cert.Ring
open scoped BigOperators

/-! ## The four devices' shares of one entry -/

/-- The whole arrays: the left matrix, the right one and the two scales. -/
structure Args where
  A : (⟨2, ![4096, 4096]⟩ : Shape).Idx → EReal
  B : (⟨2, ![4096, 2048]⟩ : Shape).Idx → EReal
  sx : S1.Idx → EReal
  sw : S1.Idx → EReal

variable (W : Args)

/-- Position `j` of device `c`'s stretch of the contracted axis. -/
def at4 (c : Fin 4) (j : Fin 1024) : Fin 4096 := ⟨c.val * 1024 + j.val, by have := c.isLt; have := j.isLt; omega⟩
/-- Row `r` of row block `b`. -/
abbrev row (b : Fin 4) (r : Fin 1024) : Fin 4096 := at4 b r
/-- Column `k` of the half that a direction carries. -/
def col (d : Bool) (k : Fin 1024) : Fin 2048 := ⟨(bif d then 1024 else 0) + k.val, by cases d <;> simp only [cond_true, cond_false] <;> omega⟩

/-- Device `c`'s share of the product at one entry. -/
def share (R : Fin 4096) (K : Fin 2048) (c : Fin 4) : EReal := ∑ j : Fin 1024, W.A (ix2 R (at4 c j)) * W.B (ix2 (at4 c j) K)

/-- The four shares make the whole sum of products. -/
theorem sum_share (R : Fin 4096) (K : Fin 2048) : ∑ c : Fin 4, share W R K c = ∑ k : Fin 4096, W.A (ix2 R k) * W.B (ix2 k K) := by
  unfold share
  rw [← Fintype.sum_prod_type' (fun (c : Fin 4) (j : Fin 1024) => W.A (ix2 R (at4 c j)) * W.B (ix2 (at4 c j) K))]
  refine Fintype.sum_equiv (finProdFinEquiv (m := 4) (n := 1024)) _ (fun k : Fin 4096 => W.A (ix2 R k) * W.B (ix2 k K)) fun p => ?_
  have e : at4 p.1 p.2 = finProdFinEquiv p := Fin.ext (by
    show p.1.val * 1024 + p.2.val = p.2.val + 1024 * p.1.val
    omega)
  rw [e]

/-- Once round the ring, in either direction and from any device, meets every device. -/
theorem round (f : Fin 4 → EReal) (d : Bool) (b : Dev nD) :
    f (prv d (prv d (prv d (prv d b)))) + f (prv d (prv d (prv d b))) + f (prv d (prv d b)) + f (prv d b) = ∑ c : Fin 4, f c := by
  rw [Fin.sum_univ_four]
  have h : ∀ (d : Bool) (b : Fin 4), (prv d (prv d (prv d (prv d b))), prv d (prv d (prv d b)), prv d (prv d b), prv d b)
      ∈ [((0 : Fin 4), (1 : Fin 4), (2 : Fin 4), (3 : Fin 4)), (1, 2, 3, 0), (2, 3, 0, 1), (3, 0, 1, 2), (0, 3, 2, 1), (3, 2, 1, 0), (2, 1, 0, 3), (1, 0, 3, 2)] := by
    decide
  have h := h d b
  simp only [List.mem_cons, List.not_mem_nil, or_false, Prod.mk.injEq] at h
  rcases h with ⟨h0, h1, h2, h3⟩ | ⟨h0, h1, h2, h3⟩ | ⟨h0, h1, h2, h3⟩ | ⟨h0, h1, h2, h3⟩ | ⟨h0, h1, h2, h3⟩ | ⟨h0, h1, h2, h3⟩ | ⟨h0, h1, h2, h3⟩ | ⟨h0, h1, h2, h3⟩ <;>
    rw [h0, h1, h2, h3] <;> ac_rfl

/-! ## One tile -/

variable {W} {I : Ins Ideal}

/-- The devices hold their parts of the whole arrays. -/
structure Parts (W : Args) (I : Ins Ideal) : Prop where
  x : ∀ c, I.x c = Layout.block ⟨2, ![4096, 1024]⟩ ⟨2, ![4096, 4096]⟩ 1 4 c W.A
  w : ∀ c, I.w c = Layout.block ⟨2, ![1024, 2048]⟩ ⟨2, ![4096, 2048]⟩ 0 4 c W.B
  s1 : ∀ c, I.s1 c (ix2 0 0) = W.sx (ix1 0)
  s2 : ∀ c, I.s2 c (ix2 0 0) = W.sw (ix1 0)

/-- An entry of row block `b` of device `c`'s left argument. -/
theorem xb_apply (h : Parts W I) (c b : Dev nD) (r j : Fin 1024) : I.xb c b (ix2 r j) = W.A (ix2 (row b r) (at4 c j)) := by
  unfold Ins.xb
  rw [h.x c, Layout.block_apply]
  refine congrArg W.A (Shape.idx_ext₂ ?_ ?_)
  · show 1024 * b.val + 1 * r.val = b.val * 1024 + r.val
    omega
  · show c.val * 1024 + (0 + 1 * j.val) = c.val * 1024 + j.val
    omega

/-- An entry of device `c`'s right argument. -/
theorem w_apply (h : Parts W I) (c : Dev nD) (j : Fin 1024) (k : Fin 2048) : I.w c (ix2 j k) = W.B (ix2 (at4 c j) k) := by
  rw [h.w c, Layout.block_apply]
  exact congrArg W.B (Shape.idx_ext₂ rfl rfl)

/-- An entry of a device's product is its share of the whole product's entry. -/
theorem prod_apply (h : Parts W I) (c b : Dev nD) (r : Fin 1024) (k : Fin 2048) :
    I.prod c b (ix2 r k) = share W (row b r) k c := by
  unfold Ins.prod share
  refine (Ideal.matmul_plain_apply (M := 1024) (K := 1024) (N := 2048) none _ _ _ r k).trans ?_
  have hz : ∀ i, (constant S1024x2048 .f32 0x00000000#32 : FVec Ideal S1024x2048 .f32) i = 0 := fun _ => Ideal.ofBits_zero_f32
  rw [hz, zero_add]
  refine Finset.sum_congr rfl fun j _ => ?_
  refine congrArg₂ (· * ·) ?_ ?_
  · exact xb_apply h c b r j
  · exact w_apply h c j k

/-- The same of the half that a direction carries; rounding is the identity here. -/
theorem half_prod (h : Parts W I) (d : Bool) (c b : Dev nD) (r k : Fin 1024) :
    half d (I.prod c b) (ix2 r k) = share W (row b r) (col d k) c := by
  unfold half
  rw [← prod_apply h c b r (col d k)]
  refine congrArg (I.prod c b) (Shape.idx_ext₂ ?_ ?_)
  · show 0 + 1 * r.val = r.val
    omega
  · show (bif d then 1024 else 0) + 1 * k.val = (bif d then 1024 else 0) + k.val
    omega

/-- The product's entry, scaled, and zero where that is negative. -/
def entry (W : Args) (R : Fin 4096) (K : Fin 2048) : EReal :=
  max ((∑ k : Fin 4096, W.A (ix2 R k) * W.B (ix2 k K)) * (W.sx (ix1 0) * W.sw (ix1 0))) 0

/-- An entry of a tile. -/
theorem tile_apply (h : Parts W I) (d : Bool) (b : Dev nD) (r k : Fin 1024) :
    I.tile d b (ix2 r k) = entry W (row b r) (col d k) := by
  have hb : nxt d (prv d b) = b := nxt_prv d b
  have h2 : prv d (prv d b) + 2 = b := by revert d b; decide
  have h3 : prv d (prv d (prv d (prv d b))) = b := by revert d b; decide
  have hA : I.tile d b (ix2 r k)
      = max ((half d (I.prod (prv d (prv d (prv d (prv d b)))) (prv d (prv d (prv d (prv d b))))) (ix2 r k)
          + half d (I.prod (prv d (prv d (prv d b))) (prv d (prv d (prv d (prv d b))))) (ix2 r k)
          + half d (I.prod (prv d (prv d b)) (prv d (prv d b) + 2)) (ix2 r k)
          + half d (I.prod (prv d b) (nxt d (prv d b))) (ix2 r k)) * (I.s1 (prv d b) (ix2 0 0) * I.s2 (prv d b) (ix2 0 0)))
        (Ideal.ofBits .f32 0x00000000#32) := rfl
  rw [hA, hb, h2, half_prod h, half_prod h, half_prod h, half_prod h, h.s1, h.s2, Ideal.ofBits_zero_f32]
  unfold entry
  rw [← sum_share, ← round (share W (row b r) (col d k)) d b, h3]

/-- The kernel's whole output. -/
theorem out_apply (h : Parts W I) (R : Fin 4096) (K : Fin 2048) : outV I (ix2 R K) = entry W R K := by
  refine (tile_apply h _ _ _ _).trans ?_
  refine congrArg₂ (entry W) (Fin.ext ?_) (Fin.ext ?_)
  · show R.val / 1024 * 1024 + R.val % 1024 = R.val
    omega
  · show (bif decide (1024 ≤ K.val) then 1024 else 0) + K.val % 1024 = K.val
    have := K.isLt
    by_cases hK : 1024 ≤ K.val
    · rw [decide_eq_true hK]; simp only [cond_true]; omega
    · rw [decide_eq_false hK]; simp only [cond_false]; omega

/-! ## The launch's arrays -/

/-- A vector of one entry has one index. -/
theorem one_idx (i : S1.Idx) : i = ix1 0 := by
  funext a
  have : Subsingleton (S1.Coord a) := by
    have ha : a = 0 := Subsingleton.elim _ _
    subst ha
    exact inferInstanceAs (Subsingleton (Fin 1))
  exact Subsingleton.elim _ _

section Launch

variable (m : (ℓ : Loc nD τ sig) → Buf (Elt Ideal) ℓ)

/-- The first scale as the kernel finds it. -/
theorem s1_eq (c : Dev nD) : (ins m).s1 c (ix2 0 0) = m ((c : Thread nD τ).loc main_arg2) (ix1 0) := by
  have h : V₁ m c (Proc.devRef .tc main_v1) = shapeCast S1x1 (m ((c : Thread nD τ).loc main_arg2)) Gen.shapeCasts_S1_S1x1 := by
    unfold V₁ V₀
    after_results
    rfl
  show V₁ m c (Proc.devRef .tc main_v1) _ = _
  rw [h]
  exact congrArg (m ((c : Thread nD τ).loc main_arg2)) (one_idx _)

/-- The second scale as the kernel finds it. -/
theorem s2_eq (c : Dev nD) : (ins m).s2 c (ix2 0 0) = m ((c : Thread nD τ).loc main_arg3) (ix1 0) := by
  have h : V₁ m c (Proc.devRef .tc main_v2) = shapeCast S1x1 (m ((c : Thread nD τ).loc main_arg3)) Gen.shapeCasts_S1_S1x1 := by
    unfold V₁ V₀
    after_results
    rfl
  show V₁ m c (Proc.devRef .tc main_v2) _ = _
  rw [h]
  exact congrArg (m ((c : Thread nD τ).loc main_arg3)) (one_idx _)

/-- Devices whose arguments are their parts of the whole arrays begin the kernel with those parts. -/
theorem parts_ins (W : Args)
    (h : ∀ c : Dev nD, m ((c : Thread nD τ).loc main_arg0) = Layout.block ⟨2, ![4096, 1024]⟩ ⟨2, ![4096, 4096]⟩ 1 4 c W.A
      ∧ m ((c : Thread nD τ).loc main_arg1) = Layout.block ⟨2, ![1024, 2048]⟩ ⟨2, ![4096, 2048]⟩ 0 4 c W.B
      ∧ m ((c : Thread nD τ).loc main_arg2) = W.sx ∧ m ((c : Thread nD τ).loc main_arg3) = W.sw) : Parts W (ins m) where
  x c := (Gen.V_main_arg0 m c).trans (h c).1
  w c := (Gen.V_main_arg1 m c).trans (h c).2.1
  s1 c := (s1_eq m c).trans (congrFun (h c).2.2.1 _)
  s2 c := (s2_eq m c).trans (congrFun (h c).2.2.2 _)

end Launch

/-! ## The reference -/

/-- The reference's result as a term of its arguments. -/
def ref (W : Args) : FVec Ideal Cert.ReferenceIdeal.S4096x2048 .f32 :=
  maximumf (mulf (Host.dotGeneral (φ₁ := .f32) (φ₂ := .f32) Cert.ReferenceIdeal.dot_S4096x4096_S4096x2048_S4096x2048_1_0_0_1_n_n none W.A W.B)
    (broadcastInDim Cert.ReferenceIdeal.S4096x2048 ![0, 1] Cert.ReferenceIdeal.Gen.facts.bcast_S1x1_S4096x2048_0_1
      (broadcastInDim Cert.ReferenceIdeal.S1x1 ![1] Cert.ReferenceIdeal.Gen.facts.bcast_S1_S1x1_1 (mulf (φ := .f32) W.sx W.sw))))
    (broadcastInDim Cert.ReferenceIdeal.S4096x2048 ![] Cert.ReferenceIdeal.Gen.facts.bcast_S_S4096x2048 (constant Cert.ReferenceIdeal.S_ .f32 0x00000000#32))

/-- An entry of it. -/
theorem ref_apply (W : Args) (R : Fin 4096) (K : Fin 2048) : ref W (ix2 R K) = entry W R K := by
  unfold ref entry
  refine congrArg₂ max (congrArg₂ (· * ·) ?_ ?_) ?_
  · exact StackMember.dotGeneral_plain_apply (m := 4096) (k := 4096) (n := 2048) none W.A W.B R K
  · show W.sx _ * W.sw _ = _
    exact congrArg₂ (· * ·) (congrArg W.sx (one_idx _)) (congrArg W.sw (one_idx _))
  · exact Ideal.ofBits_zero_f32

/-- The kernel's output is the reference's. -/
theorem out_eq_ref (h : Parts W I) : outV I = ref W := by
  funext i
  rw [eq_ix2 i]
  exact (out_apply h (i 0) (i 1)).trans (ref_apply W (i 0) (i 1)).symm

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem Cert.Kernel

set_option maxHeartbeats 4000000 in
/-- The kernel at the bit-exact floats: it ends, its arguments unchanged, every counter at zero. -/
theorem frame_kernel : Cert.quiescent_Kernel := by
  intro m ρ _
  have e : θ_run (Cert.Kernel.defs (F := Bits)) (onTc (τ := Cert.Kernel.τ) (Cert.Kernel.main (F := Bits))) ⟨m, fun _ => 0, ρ⟩
      = θ_run (Cert.KernelIdeal.defs (F := Bits)) (onTc (τ := Cert.KernelIdeal.τ) (Cert.KernelIdeal.main (F := Bits))) ⟨m, fun _ => 0, ρ⟩ :=
    congrArg (fun D => θ_run D (onTc (τ := Cert.KernelIdeal.τ) (Cert.KernelIdeal.main (F := Bits))) ⟨m, fun _ => 0, ρ⟩) Cert.Same.tables
  rw [e]
  exact (θ_run Cert.KernelIdeal.defs _ _).mono
    (fun _ h => ⟨fun c => ⟨(h.1 c).1, (h.1 c).2.1, (h.1 c).2.2.1, (h.1 c).2.2.2.1⟩, h.2⟩)
    (Cert.Ring.run_main (F := Bits) m ρ)

/-- The same at exact arithmetic. -/
theorem frame_ideal : Cert.quiescent_KernelIdeal := fun m ρ _ =>
  (θ_run Cert.KernelIdeal.defs _ _).mono
    (fun _ h => ⟨fun c => ⟨(h.1 c).1, (h.1 c).2.1, (h.1 c).2.2.1, (h.1 c).2.2.2.1⟩, h.2⟩)
    (Cert.Ring.run_main (F := Ideal) m ρ)

/-- The reference ends with its arguments unchanged; it has no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Over the extended reals every device's result is the reference's whole result. -/
theorem algebraic : Cert.algebraic_KernelIdeal_ReferenceIdeal := by
  intro m ρ m' ρ' _ h
  let W : Cert.Value.Args :=
    { A := m' (((0 : Dev Cert.ReferenceIdeal.nD).tc : Thread Cert.ReferenceIdeal.nD Cert.ReferenceIdeal.τ).loc Cert.ReferenceIdeal.main_arg0)
      B := m' (((0 : Dev Cert.ReferenceIdeal.nD).tc : Thread Cert.ReferenceIdeal.nD Cert.ReferenceIdeal.τ).loc Cert.ReferenceIdeal.main_arg1)
      sx := m' (((0 : Dev Cert.ReferenceIdeal.nD).tc : Thread Cert.ReferenceIdeal.nD Cert.ReferenceIdeal.τ).loc Cert.ReferenceIdeal.main_arg2)
      sw := m' (((0 : Dev Cert.ReferenceIdeal.nD).tc : Thread Cert.ReferenceIdeal.nD Cert.ReferenceIdeal.τ).loc Cert.ReferenceIdeal.main_arg3) }
  refine ⟨Cert.Value.ref W, ?_, ?_⟩
  · exact (θ_run Cert.KernelIdeal.defs _ _).mono
      (fun _ k c => ⟨(k.1 c).2.2.2.2.trans (Cert.Value.out_eq_ref (Cert.Value.parts_ins m W h)),
        (k.1 c).1, (k.1 c).2.1, (k.1 c).2.2.1, (k.1 c).2.2.2.1⟩)
      (Cert.Ring.run_main (F := Ideal) m ρ)
  · exact (θ_run Cert.ReferenceIdeal.defs _ _).mono (fun _ k => k 0) (Cert.ReferenceIdeal.Value.run (F := Ideal) m' ρ')

theorem claim : Cert.Claim :=
  ⟨Cert.Kernel.Gen.facts, Cert.KernelIdeal.Gen.facts, Cert.ReferenceIdeal.Gen.facts,
    frame_kernel, frame_ideal, frame_reference, trivial, algebraic⟩

end Cert.Proof

end
